-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_retention_finite [hPre_retention_finite : Cert.Pre_retention_finite.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_retention_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1)) (m ((c.tc : Thread Cert.RetKernelIdeal.nD Cert.RetKernelIdeal.τ).loc Cert.RetKernelIdeal.main_arg2)) (m ((c.tc : Thread Cert.RetKernelIdeal.nD Cert.RetKernelIdeal.τ).loc Cert.RetKernelIdeal.main_arg3))) = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_retention_finite [hPre_retention_finite : Cert.Pre_retention_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_retention_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1)) (m ((c.tc : Thread Cert.RetReferenceIdeal.nD Cert.RetReferenceIdeal.τ).loc Cert.RetReferenceIdeal.main_arg2)) (m ((c.tc : Thread Cert.RetReferenceIdeal.nD Cert.RetReferenceIdeal.τ).loc Cert.RetReferenceIdeal.main_arg3))) = (fun _ => 1#1)

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttKernelIdeal_attention_finite [hPre_attention_finite : Cert.Pre_attention_finite.Facts] (m : (ℓ : Loc Cert.AttKernelIdeal.nD Cert.AttKernelIdeal.τ Cert.AttKernelIdeal.sig) → Buf (Elt Ideal) ℓ) : Prop :=
  ∀ c : Dev Cert.AttKernelIdeal.nD,
    (Cert.Pre_attention_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4)) (m ((c.tc : Thread Cert.AttKernelIdeal.nD Cert.AttKernelIdeal.τ).loc Cert.AttKernelIdeal.main_arg5)) (m ((c.tc : Thread Cert.AttKernelIdeal.nD Cert.AttKernelIdeal.τ).loc Cert.AttKernelIdeal.main_arg6)) (m ((c.tc : Thread Cert.AttKernelIdeal.nD Cert.AttKernelIdeal.τ).loc Cert.AttKernelIdeal.main_arg7))) = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_attention_finite [hPre_attention_finite : Cert.Pre_attention_finite.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_attention_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3)) (m ((c.tc : Thread Cert.AttReferenceIdeal.nD Cert.AttReferenceIdeal.τ).loc Cert.AttReferenceIdeal.main_arg4)) (m ((c.tc : Thread Cert.AttReferenceIdeal.nD Cert.AttReferenceIdeal.τ).loc Cert.AttReferenceIdeal.main_arg5)) (m ((c.tc : Thread Cert.AttReferenceIdeal.nD Cert.AttReferenceIdeal.τ).loc Cert.AttReferenceIdeal.main_arg6)) (m ((c.tc : Thread Cert.AttReferenceIdeal.nD Cert.AttReferenceIdeal.τ).loc Cert.AttReferenceIdeal.main_arg7))) = (fun _ => 1#1)

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1)
      ∧ r.2.mem ((c.tc : Thread Cert.RetKernel.nD Cert.RetKernel.τ).loc Cert.RetKernel.main_arg2) = m ((c.tc : Thread Cert.RetKernel.nD Cert.RetKernel.τ).loc Cert.RetKernel.main_arg2)
      ∧ r.2.mem ((c.tc : Thread Cert.RetKernel.nD Cert.RetKernel.τ).loc Cert.RetKernel.main_arg3) = m ((c.tc : Thread Cert.RetKernel.nD Cert.RetKernel.τ).loc Cert.RetKernel.main_arg3))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
      ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
      ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3))
      ∧ r.2.sem = fun _ => 0)

def quiescent_RetKernelIdeal_pre_retention_finite [hRetKernelIdeal : Cert.RetKernelIdeal.Facts] [hPre_retention_finite : Cert.Pre_retention_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_retention_finite m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
      ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
      ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3))
      ∧ r.2.sem = fun _ => 0)

def quiescent_RetReferenceIdeal_pre_retention_finite [hRetReferenceIdeal : Cert.RetReferenceIdeal.Facts] [hPre_retention_finite : Cert.Pre_retention_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_retention_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1)
      ∧ r.2.mem ((c.tc : Thread Cert.AttKernel.nD Cert.AttKernel.τ).loc Cert.AttKernel.main_arg2) = m ((c.tc : Thread Cert.AttKernel.nD Cert.AttKernel.τ).loc Cert.AttKernel.main_arg2)
      ∧ r.2.mem ((c.tc : Thread Cert.AttKernel.nD Cert.AttKernel.τ).loc Cert.AttKernel.main_arg3) = m ((c.tc : Thread Cert.AttKernel.nD Cert.AttKernel.τ).loc Cert.AttKernel.main_arg3)
      ∧ r.2.mem ((c.tc : Thread Cert.AttKernel.nD Cert.AttKernel.τ).loc Cert.AttKernel.main_arg4) = m ((c.tc : Thread Cert.AttKernel.nD Cert.AttKernel.τ).loc Cert.AttKernel.main_arg4)
      ∧ r.2.mem ((c.tc : Thread Cert.AttKernel.nD Cert.AttKernel.τ).loc Cert.AttKernel.main_arg5) = m ((c.tc : Thread Cert.AttKernel.nD Cert.AttKernel.τ).loc Cert.AttKernel.main_arg5)
      ∧ r.2.mem ((c.tc : Thread Cert.AttKernel.nD Cert.AttKernel.τ).loc Cert.AttKernel.main_arg6) = m ((c.tc : Thread Cert.AttKernel.nD Cert.AttKernel.τ).loc Cert.AttKernel.main_arg6)
      ∧ r.2.mem ((c.tc : Thread Cert.AttKernel.nD Cert.AttKernel.τ).loc Cert.AttKernel.main_arg7) = m ((c.tc : Thread Cert.AttKernel.nD Cert.AttKernel.τ).loc Cert.AttKernel.main_arg7))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
      ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4)
      ∧ r.2.mem ((c.tc : Thread Cert.AttKernelIdeal.nD Cert.AttKernelIdeal.τ).loc Cert.AttKernelIdeal.main_arg5) = m ((c.tc : Thread Cert.AttKernelIdeal.nD Cert.AttKernelIdeal.τ).loc Cert.AttKernelIdeal.main_arg5)
      ∧ r.2.mem ((c.tc : Thread Cert.AttKernelIdeal.nD Cert.AttKernelIdeal.τ).loc Cert.AttKernelIdeal.main_arg6) = m ((c.tc : Thread Cert.AttKernelIdeal.nD Cert.AttKernelIdeal.τ).loc Cert.AttKernelIdeal.main_arg6)
      ∧ r.2.mem ((c.tc : Thread Cert.AttKernelIdeal.nD Cert.AttKernelIdeal.τ).loc Cert.AttKernelIdeal.main_arg7) = m ((c.tc : Thread Cert.AttKernelIdeal.nD Cert.AttKernelIdeal.τ).loc Cert.AttKernelIdeal.main_arg7))
      ∧ r.2.sem = fun _ => 0)

def quiescent_AttKernelIdeal_pre_attention_finite [hAttKernelIdeal : Cert.AttKernelIdeal.Facts] [hPre_attention_finite : Cert.Pre_attention_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal_attention_finite m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
      ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4)
      ∧ r.2.mem ((c.tc : Thread Cert.AttKernelIdeal.nD Cert.AttKernelIdeal.τ).loc Cert.AttKernelIdeal.main_arg5) = m ((c.tc : Thread Cert.AttKernelIdeal.nD Cert.AttKernelIdeal.τ).loc Cert.AttKernelIdeal.main_arg5)
      ∧ r.2.mem ((c.tc : Thread Cert.AttKernelIdeal.nD Cert.AttKernelIdeal.τ).loc Cert.AttKernelIdeal.main_arg6) = m ((c.tc : Thread Cert.AttKernelIdeal.nD Cert.AttKernelIdeal.τ).loc Cert.AttKernelIdeal.main_arg6)
      ∧ r.2.mem ((c.tc : Thread Cert.AttKernelIdeal.nD Cert.AttKernelIdeal.τ).loc Cert.AttKernelIdeal.main_arg7) = m ((c.tc : Thread Cert.AttKernelIdeal.nD Cert.AttKernelIdeal.τ).loc Cert.AttKernelIdeal.main_arg7))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3)
      ∧ r.2.mem ((c.tc : Thread Cert.AttReferenceIdeal.nD Cert.AttReferenceIdeal.τ).loc Cert.AttReferenceIdeal.main_arg4) = m ((c.tc : Thread Cert.AttReferenceIdeal.nD Cert.AttReferenceIdeal.τ).loc Cert.AttReferenceIdeal.main_arg4)
      ∧ r.2.mem ((c.tc : Thread Cert.AttReferenceIdeal.nD Cert.AttReferenceIdeal.τ).loc Cert.AttReferenceIdeal.main_arg5) = m ((c.tc : Thread Cert.AttReferenceIdeal.nD Cert.AttReferenceIdeal.τ).loc Cert.AttReferenceIdeal.main_arg5)
      ∧ r.2.mem ((c.tc : Thread Cert.AttReferenceIdeal.nD Cert.AttReferenceIdeal.τ).loc Cert.AttReferenceIdeal.main_arg6) = m ((c.tc : Thread Cert.AttReferenceIdeal.nD Cert.AttReferenceIdeal.τ).loc Cert.AttReferenceIdeal.main_arg6)
      ∧ r.2.mem ((c.tc : Thread Cert.AttReferenceIdeal.nD Cert.AttReferenceIdeal.τ).loc Cert.AttReferenceIdeal.main_arg7) = m ((c.tc : Thread Cert.AttReferenceIdeal.nD Cert.AttReferenceIdeal.τ).loc Cert.AttReferenceIdeal.main_arg7))
      ∧ r.2.sem = fun _ => 0)

def quiescent_AttReferenceIdeal_pre_attention_finite [hAttReferenceIdeal : Cert.AttReferenceIdeal.Facts] [hPre_attention_finite : Cert.Pre_attention_finite.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_attention_finite m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3)
      ∧ r.2.mem ((c.tc : Thread Cert.AttReferenceIdeal.nD Cert.AttReferenceIdeal.τ).loc Cert.AttReferenceIdeal.main_arg4) = m ((c.tc : Thread Cert.AttReferenceIdeal.nD Cert.AttReferenceIdeal.τ).loc Cert.AttReferenceIdeal.main_arg4)
      ∧ r.2.mem ((c.tc : Thread Cert.AttReferenceIdeal.nD Cert.AttReferenceIdeal.τ).loc Cert.AttReferenceIdeal.main_arg5) = m ((c.tc : Thread Cert.AttReferenceIdeal.nD Cert.AttReferenceIdeal.τ).loc Cert.AttReferenceIdeal.main_arg5)
      ∧ r.2.mem ((c.tc : Thread Cert.AttReferenceIdeal.nD Cert.AttReferenceIdeal.τ).loc Cert.AttReferenceIdeal.main_arg6) = m ((c.tc : Thread Cert.AttReferenceIdeal.nD Cert.AttReferenceIdeal.τ).loc Cert.AttReferenceIdeal.main_arg6)
      ∧ r.2.mem ((c.tc : Thread Cert.AttReferenceIdeal.nD Cert.AttReferenceIdeal.τ).loc Cert.AttReferenceIdeal.main_arg7) = m ((c.tc : Thread Cert.AttReferenceIdeal.nD Cert.AttReferenceIdeal.τ).loc Cert.AttReferenceIdeal.main_arg7))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2)
      ∧ r.2.mem ((c.tc : Thread Cert.KvKernel.nD Cert.KvKernel.τ).loc Cert.KvKernel.main_arg3) = m ((c.tc : Thread Cert.KvKernel.nD Cert.KvKernel.τ).loc Cert.KvKernel.main_arg3))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_RetKernel_RetKernelIdeal : Prop :=
  IdealRules.named_const.Statement Cert.RetKernelIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.RetKernelIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.RetKernelIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.RetKernelIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_RetKernelIdeal_RetReferenceIdeal_pre_retention_finite [hRetKernelIdeal : Cert.RetKernelIdeal.Facts] [hRetReferenceIdeal : Cert.RetReferenceIdeal.Facts] [hPre_retention_finite : Cert.Pre_retention_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_retention_finite m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)
      ∧ m' ((c.tc : Thread Cert.RetReferenceIdeal.nD Cert.RetReferenceIdeal.τ).loc Cert.RetReferenceIdeal.main_arg2) = m ((c.tc : Thread Cert.RetKernelIdeal.nD Cert.RetKernelIdeal.τ).loc Cert.RetKernelIdeal.main_arg2)
      ∧ m' ((c.tc : Thread Cert.RetReferenceIdeal.nD Cert.RetReferenceIdeal.τ).loc Cert.RetReferenceIdeal.main_arg3) = m ((c.tc : Thread Cert.RetKernelIdeal.nD Cert.RetKernelIdeal.τ).loc Cert.RetKernelIdeal.main_arg3)) →
    ∃ (v0 : (c : Dev Cert.RetKernelIdeal.nD) → Buf (Elt Ideal) ((c.tc : Thread Cert.RetKernelIdeal.nD Cert.RetKernelIdeal.τ).loc Cert.RetKernelIdeal.main_v76)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v76) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
          ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
          ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v137) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1)
          ∧ r.2.mem ((c.tc : Thread Cert.RetReferenceIdeal.nD Cert.RetReferenceIdeal.τ).loc Cert.RetReferenceIdeal.main_arg2) = m' ((c.tc : Thread Cert.RetReferenceIdeal.nD Cert.RetReferenceIdeal.τ).loc Cert.RetReferenceIdeal.main_arg2)
          ∧ r.2.mem ((c.tc : Thread Cert.RetReferenceIdeal.nD Cert.RetReferenceIdeal.τ).loc Cert.RetReferenceIdeal.main_arg3) = m' ((c.tc : Thread Cert.RetReferenceIdeal.nD Cert.RetReferenceIdeal.τ).loc Cert.RetReferenceIdeal.main_arg3))

def preserves_AttKernel_AttKernelIdeal : Prop :=
  IdealRules.named_const.Statement Cert.AttKernelIdeal.κ "mask" .f32 0xF149F2CA#32 ⊥

def algebraic_AttKernelIdeal_AttReferenceIdeal_pre_attention_finite [hAttKernelIdeal : Cert.AttKernelIdeal.Facts] [hAttReferenceIdeal : Cert.AttReferenceIdeal.Facts] [hPre_attention_finite : Cert.Pre_attention_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal_attention_finite m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)
      ∧ m' ((c.tc : Thread Cert.AttReferenceIdeal.nD Cert.AttReferenceIdeal.τ).loc Cert.AttReferenceIdeal.main_arg2) = m ((c.tc : Thread Cert.AttKernelIdeal.nD Cert.AttKernelIdeal.τ).loc Cert.AttKernelIdeal.main_arg2)
      ∧ m' ((c.tc : Thread Cert.AttReferenceIdeal.nD Cert.AttReferenceIdeal.τ).loc Cert.AttReferenceIdeal.main_arg3) = m ((c.tc : Thread Cert.AttKernelIdeal.nD Cert.AttKernelIdeal.τ).loc Cert.AttKernelIdeal.main_arg3)
      ∧ m' ((c.tc : Thread Cert.AttReferenceIdeal.nD Cert.AttReferenceIdeal.τ).loc Cert.AttReferenceIdeal.main_arg4) = m ((c.tc : Thread Cert.AttKernelIdeal.nD Cert.AttKernelIdeal.τ).loc Cert.AttKernelIdeal.main_arg4)
      ∧ m' ((c.tc : Thread Cert.AttReferenceIdeal.nD Cert.AttReferenceIdeal.τ).loc Cert.AttReferenceIdeal.main_arg5) = m ((c.tc : Thread Cert.AttKernelIdeal.nD Cert.AttKernelIdeal.τ).loc Cert.AttKernelIdeal.main_arg5)
      ∧ m' ((c.tc : Thread Cert.AttReferenceIdeal.nD Cert.AttReferenceIdeal.τ).loc Cert.AttReferenceIdeal.main_arg6) = m ((c.tc : Thread Cert.AttKernelIdeal.nD Cert.AttKernelIdeal.τ).loc Cert.AttKernelIdeal.main_arg6)
      ∧ m' ((c.tc : Thread Cert.AttReferenceIdeal.nD Cert.AttReferenceIdeal.τ).loc Cert.AttReferenceIdeal.main_arg7) = m ((c.tc : Thread Cert.AttKernelIdeal.nD Cert.AttKernelIdeal.τ).loc Cert.AttKernelIdeal.main_arg7)) →
    ∃ (v0 : (c : Dev Cert.AttKernelIdeal.nD) → Buf (Elt Ideal) ((c.tc : Thread Cert.AttKernelIdeal.nD Cert.AttKernelIdeal.τ).loc Cert.AttKernelIdeal.main_v100)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v100) = v0 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
          ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
          ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
          ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4)
          ∧ r.2.mem ((c.tc : Thread Cert.AttKernelIdeal.nD Cert.AttKernelIdeal.τ).loc Cert.AttKernelIdeal.main_arg5) = m ((c.tc : Thread Cert.AttKernelIdeal.nD Cert.AttKernelIdeal.τ).loc Cert.AttKernelIdeal.main_arg5)
          ∧ r.2.mem ((c.tc : Thread Cert.AttKernelIdeal.nD Cert.AttKernelIdeal.τ).loc Cert.AttKernelIdeal.main_arg6) = m ((c.tc : Thread Cert.AttKernelIdeal.nD Cert.AttKernelIdeal.τ).loc Cert.AttKernelIdeal.main_arg6)
          ∧ r.2.mem ((c.tc : Thread Cert.AttKernelIdeal.nD Cert.AttKernelIdeal.τ).loc Cert.AttKernelIdeal.main_arg7) = m ((c.tc : Thread Cert.AttKernelIdeal.nD Cert.AttKernelIdeal.τ).loc Cert.AttKernelIdeal.main_arg7))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v134) = v0 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1)
          ∧ r.2.mem ((c.tc : Thread Cert.AttReferenceIdeal.nD Cert.AttReferenceIdeal.τ).loc Cert.AttReferenceIdeal.main_arg2) = m' ((c.tc : Thread Cert.AttReferenceIdeal.nD Cert.AttReferenceIdeal.τ).loc Cert.AttReferenceIdeal.main_arg2)
          ∧ r.2.mem ((c.tc : Thread Cert.AttReferenceIdeal.nD Cert.AttReferenceIdeal.τ).loc Cert.AttReferenceIdeal.main_arg3) = m' ((c.tc : Thread Cert.AttReferenceIdeal.nD Cert.AttReferenceIdeal.τ).loc Cert.AttReferenceIdeal.main_arg3)
          ∧ r.2.mem ((c.tc : Thread Cert.AttReferenceIdeal.nD Cert.AttReferenceIdeal.τ).loc Cert.AttReferenceIdeal.main_arg4) = m' ((c.tc : Thread Cert.AttReferenceIdeal.nD Cert.AttReferenceIdeal.τ).loc Cert.AttReferenceIdeal.main_arg4)
          ∧ r.2.mem ((c.tc : Thread Cert.AttReferenceIdeal.nD Cert.AttReferenceIdeal.τ).loc Cert.AttReferenceIdeal.main_arg5) = m' ((c.tc : Thread Cert.AttReferenceIdeal.nD Cert.AttReferenceIdeal.τ).loc Cert.AttReferenceIdeal.main_arg5)
          ∧ r.2.mem ((c.tc : Thread Cert.AttReferenceIdeal.nD Cert.AttReferenceIdeal.τ).loc Cert.AttReferenceIdeal.main_arg6) = m' ((c.tc : Thread Cert.AttReferenceIdeal.nD Cert.AttReferenceIdeal.τ).loc Cert.AttReferenceIdeal.main_arg6)
          ∧ r.2.mem ((c.tc : Thread Cert.AttReferenceIdeal.nD Cert.AttReferenceIdeal.τ).loc Cert.AttReferenceIdeal.main_arg7) = m' ((c.tc : Thread Cert.AttReferenceIdeal.nD Cert.AttReferenceIdeal.τ).loc Cert.AttReferenceIdeal.main_arg7))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)
      ∧ m' ((c.tc : Thread Cert.KvReferenceIdeal.nD Cert.KvReferenceIdeal.τ).loc Cert.KvReferenceIdeal.main_arg3) = m ((c.tc : Thread Cert.KvKernelIdeal.nD Cert.KvKernelIdeal.τ).loc Cert.KvKernelIdeal.main_arg3)) →
    ∃ (v0 : (c : Dev Cert.KvKernelIdeal.nD) → Buf (Elt Ideal) ((c.tc : Thread Cert.KvKernelIdeal.nD Cert.KvKernelIdeal.τ).loc Cert.KvKernelIdeal.main_v60_0)) (v1 : (c : Dev Cert.KvKernelIdeal.nD) → Buf (Elt Ideal) ((c.tc : Thread Cert.KvKernelIdeal.nD Cert.KvKernelIdeal.τ).loc Cert.KvKernelIdeal.main_v60_1)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v60_0) = v0 c
          ∧ r.2.mem ((c.tc : Thread Cert.KvKernelIdeal.nD Cert.KvKernelIdeal.τ).loc Cert.KvKernelIdeal.main_v60_1) = v1 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
          ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v70) = v0 c
          ∧ r.2.mem ((c.tc : Thread Cert.KvReferenceIdeal.nD Cert.KvReferenceIdeal.τ).loc Cert.KvReferenceIdeal.main_v72) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def Claim : Prop :=
  ∃ (hKernel : Cert.Kernel.Facts) (hKernelIdeal : Cert.KernelIdeal.Facts) (hReferenceIdeal : Cert.ReferenceIdeal.Facts) (hRetKernel : Cert.RetKernel.Facts) (hRetKernelIdeal : Cert.RetKernelIdeal.Facts) (hRetReferenceIdeal : Cert.RetReferenceIdeal.Facts) (hAttKernel : Cert.AttKernel.Facts) (hAttKernelIdeal : Cert.AttKernelIdeal.Facts) (hAttReferenceIdeal : Cert.AttReferenceIdeal.Facts) (hKvKernel : Cert.KvKernel.Facts) (hKvKernelIdeal : Cert.KvKernelIdeal.Facts) (hKvReferenceIdeal : Cert.KvReferenceIdeal.Facts) (hPre_retention_finite : Cert.Pre_retention_finite.Facts) (hPre_attention_finite : Cert.Pre_attention_finite.Facts),
    quiescent_Kernel (hKernel := hKernel)
    ∧ quiescent_KernelIdeal (hKernelIdeal := hKernelIdeal)
    ∧ quiescent_ReferenceIdeal (hReferenceIdeal := hReferenceIdeal)
    ∧ quiescent_RetKernel (hRetKernel := hRetKernel)
    ∧ quiescent_RetKernelIdeal (hRetKernelIdeal := hRetKernelIdeal)
    ∧ quiescent_RetKernelIdeal_pre_retention_finite (hRetKernelIdeal := hRetKernelIdeal) (hPre_retention_finite := hPre_retention_finite)
    ∧ quiescent_RetReferenceIdeal (hRetReferenceIdeal := hRetReferenceIdeal)
    ∧ quiescent_RetReferenceIdeal_pre_retention_finite (hRetReferenceIdeal := hRetReferenceIdeal) (hPre_retention_finite := hPre_retention_finite)
    ∧ quiescent_AttKernel (hAttKernel := hAttKernel)
    ∧ quiescent_AttKernelIdeal (hAttKernelIdeal := hAttKernelIdeal)
    ∧ quiescent_AttKernelIdeal_pre_attention_finite (hAttKernelIdeal := hAttKernelIdeal) (hPre_attention_finite := hPre_attention_finite)
    ∧ quiescent_AttReferenceIdeal (hAttReferenceIdeal := hAttReferenceIdeal)
    ∧ quiescent_AttReferenceIdeal_pre_attention_finite (hAttReferenceIdeal := hAttReferenceIdeal) (hPre_attention_finite := hPre_attention_finite)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ preserves_Kernel_KernelIdeal
    ∧ algebraic_KernelIdeal_ReferenceIdeal (hKernelIdeal := hKernelIdeal) (hReferenceIdeal := hReferenceIdeal)
    ∧ preserves_RetKernel_RetKernelIdeal
    ∧ algebraic_RetKernelIdeal_RetReferenceIdeal_pre_retention_finite (hRetKernelIdeal := hRetKernelIdeal) (hRetReferenceIdeal := hRetReferenceIdeal) (hPre_retention_finite := hPre_retention_finite)
    ∧ preserves_AttKernel_AttKernelIdeal
    ∧ algebraic_AttKernelIdeal_AttReferenceIdeal_pre_attention_finite (hAttKernelIdeal := hAttKernelIdeal) (hAttReferenceIdeal := hAttReferenceIdeal) (hPre_attention_finite := hPre_attention_finite)
    ∧ preserves_KvKernel_KvKernelIdeal
    ∧ algebraic_KvKernelIdeal_KvReferenceIdeal (hKvKernelIdeal := hKvKernelIdeal) (hKvReferenceIdeal := hKvReferenceIdeal)
-- ==== Pre_attention_finite.lean ====
abbrev S32x2048x1024 : Shape := ⟨3, ![32, 2048, 1024]⟩
abbrev S1024 : Shape := ⟨1, ![1024]⟩
abbrev S32x2048x2x64 : Shape := ⟨4, ![32, 2048, 2, 64]⟩
abbrev S1024x1024 : Shape := ⟨2, ![1024, 1024]⟩
abbrev S64 : Shape := ⟨1, ![64]⟩
abbrev S16 : Shape := ⟨1, ![16]⟩
abbrev S_ : Shape := ⟨0, ![]⟩

class Facts : Prop where
  bcast_S_S32x2048x2x64 : S_.BroadcastsInDim S32x2048x2x64 (![] : Fin 0 → Fin S32x2048x2x64.rank)
  reducesTo_S32x2048x2x64_S_d0_1_2_3 : S32x2048x2x64.ReducesTo [0, 1, 2, 3] S_
  h_S_ : 0 < S_.numel
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32x2048x1024 .f32) (main_arg1 : FVec F S1024 .f32) (main_arg2 : FVec F S32x2048x2x64 .f32) (main_arg3 : FVec F S32x2048x2x64 .f32) (main_arg4 : FVec F S1024x1024 .f32) (main_arg5 : FVec F S64 .f32) (main_arg6 : FVec F S16 .f32) (main_arg7 : FVec F S1024x1024 .f32) : IVec S_ 1 :=
  let main_v0 : FVec F S32x2048x2x64 .f32 := Host.absf main_arg2
  let main_cst : FVec F S_ .f32 := constant S_ .f32 0x7F800000#32
  let main_v1 : FVec F S32x2048x2x64 .f32 := broadcastInDim S32x2048x2x64 ![] bcast_S_S32x2048x2x64 main_cst
  let main_v2 : IVec S32x2048x2x64 1 := cmpf .olt main_v0 main_v1
  let main_c : IVec S_ 1 := constantI S_ 1 1#1
  let main_v3 : IVec S_ 1 := (fun x v => Host.reduce IntOp.andi x v reducesTo_S32x2048x2x64_S_d0_1_2_3 h_S_) main_v2 main_c
  let main_v4 : FVec F S64 .f32 := Host.absf main_arg5
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S16 .f32 := Host.absf main_arg6
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_retention_finite.lean ====
abbrev S32x2048x1024 : Shape := ⟨3, ![32, 2048, 1024]⟩
abbrev S1024 : Shape := ⟨1, ![1024]⟩
abbrev S1024x6144 : Shape := ⟨2, ![1024, 6144]⟩
abbrev S2048x1024 : Shape := ⟨2, ![2048, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S32x2048x1024 .f32) (main_arg1 : FVec F S1024 .f32) (main_arg2 : FVec F S1024x6144 .f32) (main_arg3 : FVec F S2048x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x6144 .f32 := Host.absf main_arg2
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  main_v8
-- ==== Kernel.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1024x2816 : Shape := ⟨2, ![1024, 2816]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 12
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x2048x1024 : Shape := ⟨3, ![32, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x5632, .f32⟩
  | .hbm, ⟨21, _⟩ => ⟨S32x2048x2816, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S_, .f32⟩
  | .hbm, ⟨26, _⟩ => ⟨S32x2048x2816, .f32⟩
  | .hbm, ⟨27, _⟩ => ⟨S32x2048x2816, .f32⟩
  | .hbm, ⟨28, _⟩ => ⟨S_, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x1024, .f32⟩
  | .hbm, ⟨34, _⟩ => ⟨S_, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== RetKernel.lean ====
abbrev S32x2048x1024 : Shape := ⟨3, ![32, 2048, 1024]⟩
abbrev S1024 : Shape := ⟨1, ![1024]⟩
abbrev S1024x6144 : Shape := ⟨2, ![1024, 6144]⟩
abbrev S2048x1024 : Shape := ⟨2, ![2048, 1024]⟩
abbrev S1024x1024 : Shape := ⟨2, ![1024, 1024]⟩
abbrev S1024x4x128x2 : Shape := ⟨4, ![1024, 4, 128, 2]⟩
abbrev S1024x4x2x128 : Shape := ⟨4, ![1024, 4, 2, 128]⟩
abbrev S1024x4096 : Shape := ⟨2, ![1024, 4096]⟩
abbrev S_ : Shape := ⟨0, ![]⟩
abbrev S127 : Shape := ⟨1, ![127]⟩
abbrev S1 : Shape := ⟨1, ![1]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S1x1024 : Shape := ⟨2, ![1, 1024]⟩
abbrev S1x256x1024 : Shape := ⟨3, ![1, 256, 1024]⟩
abbrev S256x128 : Shape := ⟨2, ![256, 128]⟩
abbrev S256x1024 : Shape := ⟨2, ![256, 1024]⟩
abbrev S256x2048 : Shape := ⟨2, ![256, 2048]⟩
abbrev S4x256x512 : Shape := ⟨3, ![4, 256, 512]⟩
abbrev S1024x256 : Shape := ⟨2, ![1024, 256]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 118
  | .vmem => 21
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x6144, .f32⟩
  | .hbm, ⟨3, _⟩ => ⟨S2048x1024, .f32⟩
  | .hbm, ⟨4, _⟩ => ⟨S1024x1024, .f32⟩
  | .hbm, ⟨5, _⟩ => ⟨S1024x4x128x2, .f32⟩
  | .hbm, ⟨6, _⟩ => ⟨S1024x4x2x128, .f32⟩
  | .hbm, ⟨7, _⟩ => ⟨S1024x1024, .f32⟩
  | .hbm, ⟨8, _⟩ => ⟨S1024x1024, .f32⟩
  | .hbm, ⟨9, _⟩ => ⟨S1024x4x128x2, .f32⟩
  | .hbm, ⟨10, _⟩ => ⟨S1024x4x2x128, .f32⟩
  | .hbm, ⟨11, _⟩ => ⟨S1024x1024, .f32⟩
  | .hbm, ⟨12, _⟩ => ⟨S1024x4096, .f32⟩
  | .hbm, ⟨13, _⟩ => ⟨S1024x6144, .f32⟩
  | .hbm, ⟨14, _⟩ => ⟨S1024x6144, .bf16⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S127, .f32⟩
  | .hbm, ⟨23, _⟩ => ⟨S_, .f32⟩
  | .hbm, ⟨24, _⟩ => ⟨S127, .f32⟩
  | .hbm, ⟨25, _⟩ => ⟨S127, .f32⟩
  | .hbm, ⟨26, _⟩ => ⟨S1, .f32⟩
  | .hbm, ⟨27, _⟩ => ⟨S_, .f32⟩
  | .hbm, ⟨28, _⟩ => ⟨S127, .f32⟩
  | .hbm, ⟨29, _⟩ => ⟨S127, .f32⟩
  | .hbm, ⟨30, _⟩ => ⟨S127, .f32⟩
  | .hbm, ⟨31, _⟩ => ⟨S127, .f32⟩
  | .hbm, ⟨32, _⟩ => ⟨S1, .f32⟩
  | .hbm, ⟨33, _⟩ => ⟨S127, .f32⟩
  | .hbm, ⟨34, _⟩ => ⟨S127, .f32⟩
  | .hbm, ⟨35, _⟩ => ⟨S127, .f32⟩
  | .hbm, ⟨36, _⟩ => ⟨S1, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S2048, .f32⟩
  | .hbm, ⟨45, _⟩ => ⟨S2048x1, .f32⟩
  | .hbm, ⟨46, _⟩ => ⟨S1x128, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S256, .f32⟩
  | .hbm, ⟨64, _⟩ => ⟨S256x1, .f32⟩
  | .hbm, ⟨65, _⟩ => ⟨S1x256, .f32⟩
  | .hbm, ⟨66, _⟩ => ⟨S256x256, .f32⟩
  | .hbm, ⟨67, _⟩ => ⟨S256x256, .f32⟩
  | .hbm, ⟨68, _⟩ => ⟨S256x256, .f32⟩
  | .hbm, ⟨69, _⟩ => ⟨S1x256x256, .f32⟩
  | .hbm, ⟨70, _⟩ => ⟨S_, .f32⟩
  | .hbm, ⟨71, _⟩ => ⟨S1x256x256, .f32⟩
  | .hbm, ⟨72, _⟩ => ⟨S1x256x256, .i1⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S1x256x256, .f32⟩
  | .hbm, ⟨77, _⟩ => ⟨S4x1x1, .f32⟩
  | .hbm, ⟨78, _⟩ => ⟨S4x256x256, .f32⟩
  | .hbm, ⟨79, _⟩ => ⟨S4x256x256, .f32⟩
  | .hbm, ⟨80, _⟩ => ⟨S4x256x256, .f32⟩
  | .hbm, ⟨81, _⟩ => ⟨S4x256x256, .f32⟩
  | .hbm, ⟨82, _⟩ => ⟨S_, .f32⟩
  | .hbm, ⟨83, _⟩ => ⟨S_, .f32⟩
  | .hbm, ⟨84, _⟩ => ⟨S4x256x256, .i1⟩
  | .hbm, ⟨85, _⟩ => ⟨S4x256x256, .f32⟩
  | .hbm, ⟨86, _⟩ => ⟨S4x256x256, .f32⟩
  | .hbm, ⟨87, _⟩ => ⟨S1x256, .f32⟩
  | .hbm, ⟨88, _⟩ => ⟨S_, .f32⟩
  | .hbm, ⟨89, _⟩ => ⟨S1x256, .f32⟩
  | .hbm, ⟨90, _⟩ => ⟨S1x256, .f32⟩
  | .hbm, ⟨91, _⟩ => ⟨S4x1, .f32⟩
  | .hbm, ⟨92, _⟩ => ⟨S4x256, .f32⟩
  | .hbm, ⟨93, _⟩ => ⟨S4x256, .f32⟩
  | .hbm, ⟨94, _⟩ => ⟨S4x256, .f32⟩
  | .hbm, ⟨95, _⟩ => ⟨S4x256, .f32⟩
  | .hbm, ⟨96, _⟩ => ⟨S1x256, .f32⟩
  | .hbm, ⟨97, _⟩ => ⟨S_, .f32⟩
  | .hbm, ⟨98, _⟩ => ⟨S1x256, .f32⟩
  | .hbm, ⟨99, _⟩ => ⟨S1x256, .f32⟩
  | .hbm, ⟨100, _⟩ => ⟨S4x1, .f32⟩
  | .hbm, ⟨101, _⟩ => ⟨S4x256, .f32⟩
  | .hbm, ⟨102, _⟩ => ⟨S4x256, .f32⟩
  | .hbm, ⟨103, _⟩ => ⟨S4x256, .f32⟩
  | .hbm, ⟨104, _⟩ => ⟨S4x256, .f32⟩
  | .hbm, ⟨105, _⟩ => ⟨S_, .f32⟩
  | .hbm, ⟨106, _⟩ => ⟨S2048x128, .f32⟩
  | .hbm, ⟨107, _⟩ => ⟨S2048x128, .f32⟩
  | .hbm, ⟨108, _⟩ => ⟨S_, .f32⟩
  | .hbm, ⟨109, _⟩ => ⟨S2048x128, .f32⟩
  | .hbm, ⟨110, _⟩ => ⟨S2048x128, .f32⟩
  | .hbm, ⟨111, _⟩ => ⟨S4x256x1, .f32⟩
  | .hbm, ⟨112, _⟩ => ⟨S4x256x256, .f32⟩
  | .hbm, ⟨113, _⟩ => ⟨S4x256x1, .f32⟩
  | .hbm, ⟨114, _⟩ => ⟨S4x256x256, .f32⟩
  | .hbm, ⟨115, _⟩ => ⟨S1x1024, .f32⟩
  | .hbm, ⟨116, _⟩ => ⟨S2048x1024, .bf16⟩
  | .hbm, ⟨117, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S4x256x256, .f32⟩
  | .local _ .vmem, ⟨12, _⟩ => ⟨S4x256x256, .f32⟩
  | .local _ .vmem, ⟨13, _⟩ => ⟨S4x256x256, .f32⟩
  | .local _ .vmem, ⟨14, _⟩ => ⟨S1024x6144, .bf16⟩
  | .local _ .vmem, ⟨15, _⟩ => ⟨S2048x1024, .bf16⟩
  | .local _ .vmem, ⟨16, _⟩ => ⟨S1x256x1024, .f32⟩
  | .local _ .vmem, ⟨17, _⟩ => ⟨S1x256x1024, .f32⟩
  | .local _ .vmem, ⟨18, _⟩ => ⟨S256x1024, .bf16⟩
  | .local _ .vmem, ⟨19, _⟩ => ⟨S256x2048, .bf16⟩
  | .local _ .vmem, ⟨20, _⟩ => ⟨S4x256x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_6 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_8 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v49 : Ref sig .tc := ⟨.hbm, 86, rfl⟩
abbrev main_v50 : Ref sig .tc := ⟨.hbm, 87, rfl⟩
abbrev main_cst_9 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_10 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_11 : Ref sig .tc := ⟨.hbm, 105, rfl⟩
abbrev main_v66 : Ref sig .tc := ⟨.hbm, 106, rfl⟩
abbrev main_v67 : Ref sig .tc := ⟨.hbm, 107, rfl⟩
abbrev main_cst_12 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x6144 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetKernelIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== RetReferenceIdeal.lean ====
abbrev S32x2048x1024 : Shape := ⟨3, ![32, 2048, 1024]⟩
abbrev S1024 : Shape := ⟨1, ![1024]⟩
abbrev S1024x6144 : Shape := ⟨2, ![1024, 6144]⟩
abbrev S2048x1024 : Shape := ⟨2, ![2048, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x6144 : Shape := ⟨3, ![32, 2048, 6144]⟩
abbrev S32x2048x2048 : Shape := ⟨3, ![32, 2048, 2048]⟩
abbrev S32x2048x4x256 : Shape := ⟨4, ![32, 2048, 4, 256]⟩
abbrev S127 : Shape := ⟨1, ![127]⟩
abbrev S1 : Shape := ⟨1, ![1]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S32x2048x4x128x2 : Shape := ⟨5, ![32, 2048, 4, 128, 2]⟩
abbrev S32x2048x4x128x1 : Shape := ⟨5, ![32, 2048, 4, 128, 1]⟩
abbrev S32x2048x4x128 : Shape := ⟨4, ![32, 2048, 4, 128]⟩
abbrev S32x2048x4x512 : Shape := ⟨4, ![32, 2048, 4, 512]⟩
abbrev S4 : Shape := ⟨1, ![4]⟩
abbrev S1x2048 : Shape := ⟨2, ![1, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S32x4x2048x2048 : Shape := ⟨4, ![32, 4, 2048, 2048]⟩
abbrev S1x4x2048x2048 : Shape := ⟨4, ![1, 4, 2048, 2048]⟩
abbrev S32x4x512x2048 : Shape := ⟨4, ![32, 4, 512, 2048]⟩
abbrev S32x2048x4 : Shape := ⟨3, ![32, 2048, 4]⟩
abbrev S32x2048x4x1 : Shape := ⟨4, ![32, 2048, 4, 1]⟩

abbrev nBuf : Space → Nat
  | .hbm => 214
  | .vmem => 0
  | .smem => 0
  | _ => 0

abbrev hbmTy0_0 (i : Nat) : BufTy := match i % 128 with
  | 0 => ⟨S32x2048x1024, .f32⟩
  | 1 => ⟨S1024, .f32⟩
  | 2 => ⟨S1024x6144, .f32⟩
  | 3 => ⟨S2048x1024, .f32⟩
  | 4 => ⟨S32x2048x1024, .f32⟩
  | 5 => ⟨S_, .f32⟩
  | 6 => ⟨S32x2048, .f32⟩
  | 7 => ⟨S32x2048x1, .f32⟩
  | 8 => ⟨S_, .f32⟩
  | 9 => ⟨S32x2048x1, .f32⟩
  | 10 => ⟨S32x2048x1, .f32⟩
  | 11 => ⟨S_, .f32⟩
  | 12 => ⟨S32x2048x1, .f32⟩
  | 13 => ⟨S32x2048x1, .f32⟩
  | 14 => ⟨S32x2048x1, .f32⟩
  | 15 => ⟨S32x2048x1024, .f32⟩
  | 16 => ⟨S32x2048x1024, .f32⟩
  | 17 => ⟨S1x1x1024, .f32⟩
  | 18 => ⟨S32x2048x1024, .f32⟩
  | 19 => ⟨S32x2048x1024, .f32⟩
  | 20 => ⟨S32x2048x6144, .f32⟩
  | 21 => ⟨S32x2048x1024, .f32⟩
  | 22 => ⟨S32x2048x1024, .f32⟩
  | 23 => ⟨S32x2048x2048, .f32⟩
  | 24 => ⟨S32x2048x2048, .f32⟩
  | 25 => ⟨S32x2048x4x256, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S127, .f32⟩
  | 34 => ⟨S_, .f32⟩
  | 35 => ⟨S127, .f32⟩
  | 36 => ⟨S127, .f32⟩
  | 37 => ⟨S1, .f32⟩
  | 38 => ⟨S_, .f32⟩
  | 39 => ⟨S127, .f32⟩
  | 40 => ⟨S127, .f32⟩
  | 41 => ⟨S127, .f32⟩
  | 42 => ⟨S127, .f32⟩
  | 43 => ⟨S1, .f32⟩
  | 44 => ⟨S127, .f32⟩
  | 45 => ⟨S127, .f32⟩
  | 46 => ⟨S127, .f32⟩
  | 47 => ⟨S1, .f32⟩
  | 48 => ⟨S128, .f32⟩
  | 49 => ⟨S_, .f32⟩
  | 50 => ⟨S128, .f32⟩
  | 51 => ⟨S128, .f32⟩
  | 52 => ⟨S_, .f32⟩
  | 53 => ⟨S128, .f32⟩
  | 54 => ⟨S128, .f32⟩
  | 55 => ⟨S2048, .f32⟩
  | 56 => ⟨S2048x1, .f32⟩
  | 57 => ⟨S1x128, .f32⟩
  | 58 => ⟨S2048x128, .f32⟩
  | 59 => ⟨S2048x128, .f32⟩
  | 60 => ⟨S2048x128, .f32⟩
  | 61 => ⟨S2048x128, .f32⟩
  | 62 => ⟨S1x2048x1x128, .f32⟩
  | 63 => ⟨S2048x128, .f32⟩
  | 64 => ⟨S1x2048x1x128, .f32⟩
  | 65 => ⟨S32x2048x4x128x2, .f32⟩
  | 66 => ⟨S32x2048x4x128x1, .f32⟩
  | 67 => ⟨S32x2048x4x128, .f32⟩
  | 68 => ⟨S32x2048x4x128x1, .f32⟩
  | 69 => ⟨S32x2048x4x128, .f32⟩
  | 70 => ⟨S32x2048x4x128, .f32⟩
  | 71 => ⟨S32x2048x4x128, .f32⟩
  | 72 => ⟨S32x2048x4x128, .f32⟩
  | 73 => ⟨S32x2048x4x128, .f32⟩
  | 74 => ⟨S32x2048x4x128, .f32⟩
  | 75 => ⟨S32x2048x4x128, .f32⟩
  | 76 => ⟨S32x2048x4x128, .f32⟩
  | 77 => ⟨S32x2048x4x128, .f32⟩
  | 78 => ⟨S32x2048x4x128, .f32⟩
  | 79 => ⟨S32x2048x4x128, .f32⟩
  | 80 => ⟨S32x2048x4x128x1, .f32⟩
  | 81 => ⟨S32x2048x4x128x1, .f32⟩
  | 82 => ⟨S32x2048x4x128x2, .f32⟩
  | 83 => ⟨S32x2048x4x256, .f32⟩
  | 84 => ⟨S32x2048x4x256, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S127, .f32⟩
  | 93 => ⟨S_, .f32⟩
  | 94 => ⟨S127, .f32⟩
  | 95 => ⟨S127, .f32⟩
  | 96 => ⟨S1, .f32⟩
  | 97 => ⟨S_, .f32⟩
  | 98 => ⟨S127, .f32⟩
  | 99 => ⟨S127, .f32⟩
  | 100 => ⟨S127, .f32⟩
  | 101 => ⟨S127, .f32⟩
  | 102 => ⟨S1, .f32⟩
  | 103 => ⟨S127, .f32⟩
  | 104 => ⟨S127, .f32⟩
  | 105 => ⟨S127, .f32⟩
  | 106 => ⟨S1, .f32⟩
  | 107 => ⟨S128, .f32⟩
  | 108 => ⟨S_, .f32⟩
  | 109 => ⟨S128, .f32⟩
  | 110 => ⟨S128, .f32⟩
  | 111 => ⟨S_, .f32⟩
  | 112 => ⟨S128, .f32⟩
  | 113 => ⟨S128, .f32⟩
  | 114 => ⟨S2048, .f32⟩
  | 115 => ⟨S2048x1, .f32⟩
  | 116 => ⟨S1x128, .f32⟩
  | 117 => ⟨S2048x128, .f32⟩
  | 118 => ⟨S2048x128, .f32⟩
  | 119 => ⟨S2048x128, .f32⟩
  | 120 => ⟨S2048x128, .f32⟩
  | 121 => ⟨S1x2048x1x128, .f32⟩
  | 122 => ⟨S2048x128, .f32⟩
  | 123 => ⟨S1x2048x1x128, .f32⟩
  | 124 => ⟨S32x2048x4x128x2, .f32⟩
  | 125 => ⟨S32x2048x4x128x1, .f32⟩
  | 126 => ⟨S32x2048x4x128, .f32⟩
  | 127 => ⟨S32x2048x4x128x1, .f32⟩
  | _ => ⟨S32x2048x1024, .f32⟩

abbrev hbmTy0_1 (i : Nat) : BufTy := match i % 128 with
  | 0 => ⟨S32x2048x4x128, .f32⟩
  | 1 => ⟨S32x2048x4x128, .f32⟩
  | 2 => ⟨S32x2048x4x128, .f32⟩
  | 3 => ⟨S32x2048x4x128, .f32⟩
  | 4 => ⟨S32x2048x4x128, .f32⟩
  | 5 => ⟨S32x2048x4x128, .f32⟩
  | 6 => ⟨S32x2048x4x128, .f32⟩
  | 7 => ⟨S32x2048x4x128, .f32⟩
  | 8 => ⟨S32x2048x4x128, .f32⟩
  | 9 => ⟨S32x2048x4x128, .f32⟩
  | 10 => ⟨S32x2048x4x128, .f32⟩
  | 11 => ⟨S32x2048x4x128x1, .f32⟩
  | 12 => ⟨S32x2048x4x128x1, .f32⟩
  | 13 => ⟨S32x2048x4x128x2, .f32⟩
  | 14 => ⟨S32x2048x4x256, .f32⟩
  | 15 => ⟨S_, .f32⟩
  | 16 => ⟨S32x2048x4x256, .f32⟩
  | 17 => ⟨S32x2048x4x256, .f32⟩
  | 18 => ⟨S32x2048x4x512, .f32⟩
  | 19 => ⟨S4, .f32⟩
  | 20 => ⟨S_, .f32⟩
  | 21 => ⟨S4, .f32⟩
  | 22 => ⟨S4, .f32⟩
  | 23 => ⟨S_, .f32⟩
  | 24 => ⟨S4, .f32⟩
  | 25 => ⟨S4, .f32⟩
  | 26 => ⟨S_, .f32⟩
  | 27 => ⟨S4, .f32⟩
  | 28 => ⟨S4, .f32⟩
  | 29 => ⟨S4, .f32⟩
  | 30 => ⟨S2048, .f32⟩
  | 31 => ⟨S2048x1, .f32⟩
  | 32 => ⟨S1x2048, .f32⟩
  | 33 => ⟨S2048x2048, .f32⟩
  | 34 => ⟨S2048x2048, .f32⟩
  | 35 => ⟨S2048x2048, .f32⟩
  | 36 => ⟨S1x2048x2048, .f32⟩
  | 37 => ⟨S_, .f32⟩
  | 38 => ⟨S1x2048x2048, .f32⟩
  | 39 => ⟨S1x2048x2048, .i1⟩
  | 40 => ⟨S_, .f32⟩
  | 41 => ⟨S2048x2048, .f32⟩
  | 42 => ⟨S2048x2048, .f32⟩
  | 43 => ⟨S1x2048x2048, .f32⟩
  | 44 => ⟨S4x1x1, .f32⟩
  | 45 => ⟨S4x2048x2048, .f32⟩
  | 46 => ⟨S4x2048x2048, .f32⟩
  | 47 => ⟨S4x2048x2048, .f32⟩
  | 48 => ⟨S4x2048x2048, .f32⟩
  | 49 => ⟨S_, .f32⟩
  | 50 => ⟨S_, .f32⟩
  | 51 => ⟨S4x2048x2048, .i1⟩
  | 52 => ⟨S4x2048x2048, .f32⟩
  | 53 => ⟨S4x2048x2048, .f32⟩
  | 54 => ⟨S32x4x2048x2048, .f32⟩
  | 55 => ⟨S1x4x2048x2048, .f32⟩
  | 56 => ⟨S32x4x2048x2048, .f32⟩
  | 57 => ⟨S32x4x2048x2048, .f32⟩
  | 58 => ⟨S32x4x512x2048, .f32⟩
  | 59 => ⟨S32x2048x4x512, .f32⟩
  | 60 => ⟨S32x2048x4x512, .f32⟩
  | 61 => ⟨S_, .f32⟩
  | 62 => ⟨S32x2048x4, .f32⟩
  | 63 => ⟨S32x2048x4x1, .f32⟩
  | 64 => ⟨S_, .f32⟩
  | 65 => ⟨S32x2048x4x1, .f32⟩
  | 66 => ⟨S32x2048x4x1, .f32⟩
  | 67 => ⟨S_, .f32⟩
  | 68 => ⟨S32x2048x4x1, .f32⟩
  | 69 => ⟨S32x2048x4x1, .f32⟩
  | 70 => ⟨S32x2048x4x1, .f32⟩
  | 71 => ⟨S32x2048x4x512, .f32⟩
  | 72 => ⟨S32x2048x4x512, .f32⟩
  | 73 => ⟨S32x2048x2048, .f32⟩
  | 74 => ⟨S32x2048x2048, .f32⟩
  | 75 => ⟨S32x2048x2048, .f32⟩
  | 76 => ⟨S_, .f32⟩
  | 77 => ⟨S32x2048x2048, .f32⟩
  | 78 => ⟨S32x2048x2048, .f32⟩
  | 79 => ⟨S_, .f32⟩
  | 80 => ⟨S32x2048x2048, .f32⟩
  | 81 => ⟨S32x2048x2048, .f32⟩
  | 82 => ⟨S32x2048x2048, .f32⟩
  | 83 => ⟨S32x2048x2048, .f32⟩
  | 84 => ⟨S32x2048x1024, .f32⟩
  | 85 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_cst : Ref sig .tc := ⟨.hbm, 31, rfl⟩
abbrev main_call0_v3 : Ref sig .tc := ⟨.hbm, 32, rfl⟩
abbrev main_call0_v4 : Ref sig .tc := ⟨.hbm, 33, rfl⟩
abbrev main_call0_cst_0 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_v15 : Ref sig .tc := ⟨.hbm, 46, rfl⟩
abbrev main_call0_v16 : Ref sig .tc := ⟨.hbm, 47, rfl⟩
abbrev main_v19 : Ref sig .tc := ⟨.hbm, 48, rfl⟩
abbrev main_cst_4 : Ref sig .tc := ⟨.hbm, 49, rfl⟩
abbrev main_v20 : Ref sig .tc := ⟨.hbm, 50, rfl⟩
abbrev main_v21 : Ref sig .tc := ⟨.hbm, 51, rfl⟩
abbrev main_cst_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_cst_7 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_cst : Ref sig .tc := ⟨.hbm, 90, rfl⟩
abbrev main_call1_v3 : Ref sig .tc := ⟨.hbm, 91, rfl⟩
abbrev main_call1_v4 : Ref sig .tc := ⟨.hbm, 92, rfl⟩
abbrev main_call1_cst_0 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_v12 : Ref sig .tc := ⟨.hbm, 102, rfl⟩
abbrev main_call1_v13 : Ref sig .tc := ⟨.hbm, 103, rfl⟩
abbrev main_call1_v14 : Ref sig .tc := ⟨.hbm, 104, rfl⟩
abbrev main_call1_v15 : Ref sig .tc := ⟨.hbm, 105, rfl⟩
abbrev main_call1_v16 : Ref sig .tc := ⟨.hbm, 106, rfl⟩
abbrev main_v54 : Ref sig .tc := ⟨.hbm, 107, rfl⟩
abbrev main_cst_8 : Ref sig .tc := ⟨.hbm, 108, rfl⟩
abbrev main_v55 : Ref sig .tc := ⟨.hbm, 109, rfl⟩
abbrev main_v56 : Ref sig .tc := ⟨.hbm, 110, rfl⟩
abbrev main_cst_9 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_10 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_11 : Ref sig .tc := ⟨.hbm, 148, rfl⟩
abbrev main_v92 : Ref sig .tc := ⟨.hbm, 149, rfl⟩
abbrev main_v93 : Ref sig .tc := ⟨.hbm, 150, rfl⟩
abbrev main_cst_12 : Ref sig .tc := ⟨.hbm, 151, rfl⟩
abbrev main_v94 : Ref sig .tc := ⟨.hbm, 152, rfl⟩
abbrev main_v95 : Ref sig .tc := ⟨.hbm, 153, rfl⟩
abbrev main_cst_13 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_14 : Ref sig .tc := ⟨.hbm, 165, rfl⟩
abbrev main_v106 : Ref sig .tc := ⟨.hbm, 166, rfl⟩
abbrev main_v107 : Ref sig .tc := ⟨.hbm, 167, rfl⟩
abbrev main_cst_15 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_cst_16 : Ref sig .tc := ⟨.hbm, 177, rfl⟩
abbrev main_call2_v0 : Ref sig .tc := ⟨.hbm, 178, rfl⟩
abbrev main_call2_v1 : Ref sig .tc := ⟨.hbm, 179, rfl⟩
abbrev main_call2_v2 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_17 : Ref sig .tc := ⟨.hbm, 189, rfl⟩
abbrev main_v124 : Ref sig .tc := ⟨.hbm, 190, rfl⟩
abbrev main_v125 : Ref sig .tc := ⟨.hbm, 191, rfl⟩
abbrev main_cst_18 : Ref sig .tc := ⟨.hbm, 192, rfl⟩
abbrev main_v126 : Ref sig .tc := ⟨.hbm, 193, rfl⟩
abbrev main_v127 : Ref sig .tc := ⟨.hbm, 194, rfl⟩
abbrev main_cst_19 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_call3_v0 : Ref sig .tc := ⟨.hbm, 202, rfl⟩
abbrev main_call3_v1 : Ref sig .tc := ⟨.hbm, 203, rfl⟩
abbrev main_call3_cst : Ref sig .tc := ⟨.hbm, 204, rfl⟩
abbrev main_call3_v2 : Ref sig .tc := ⟨.hbm, 205, rfl⟩
abbrev main_call3_v3 : Ref sig .tc := ⟨.hbm, 206, rfl⟩
abbrev main_call3_cst_0 : Ref sig .tc := ⟨.hbm, 207, rfl⟩
abbrev main_call3_v4 : Ref sig .tc := ⟨.hbm, 208, rfl⟩
abbrev main_call3_v5 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩

abbrev nD : Nat := 1
abbrev τ : Topo := Topo.v7x

variable {F : FTy → Type} [FloatOps F]
-- ==== AttKernel.lean ====
abbrev S32x2048x1024 : Shape := ⟨3, ![32, 2048, 1024]⟩
abbrev S1024 : Shape := ⟨1, ![1024]⟩
abbrev S32x2048x2x64 : Shape := ⟨4, ![32, 2048, 2, 64]⟩
abbrev S1024x1024 : Shape := ⟨2, ![1024, 1024]⟩
abbrev S64 : Shape := ⟨1, ![64]⟩
abbrev S16 : Shape := ⟨1, ![16]⟩
abbrev S32x2048x2x32 : Shape := ⟨4, ![32, 2048, 2, 32]⟩
abbrev S1x32x1x2048x1x2x1x32 : Shape := ⟨8, ![1, 32, 1, 2048, 1, 2, 1, 32]⟩
abbrev S1x32x1x2048x1x2x4x32 : Shape := ⟨8, ![1, 32, 1, 2048, 1, 2, 4, 32]⟩
abbrev S32x2048x2x128 : Shape := ⟨4, ![32, 2048, 2, 128]⟩
abbrev S32x2048x2x256 : Shape := ⟨4, ![32, 2048, 2, 256]⟩
abbrev S32x2048x512 : Shape := ⟨3, ![32, 2048, 512]⟩
abbrev S1x32x1x2048x1x2x1x64 : Shape := ⟨8, ![1, 32, 1, 2048, 1, 2, 1, 64]⟩
abbrev S1x32x1x2048x1x2x4x64 : Shape := ⟨8, ![1, 32, 1, 2048, 1, 2, 4, 64]⟩
abbrev S1024x4x4x2x32 : Shape := ⟨5, ![1024, 4, 4, 2, 32]⟩
abbrev S1024x4x2x4x32 : Shape := ⟨5, ![1024, 4, 2, 4, 32]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128 : Shape := ⟨1, ![128]⟩
abbrev S1x128 : Shape := ⟨2, ![1, 128]⟩
abbrev S4x128 : Shape := ⟨2, ![4, 128]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S2x512x256 : Shape := ⟨3, ![2, 512, 256]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S1x1024 : Shape := ⟨2, ![1, 1024]⟩
abbrev S4x32 : Shape := ⟨2, ![4, 32]⟩
abbrev S1x256x1024 : Shape := ⟨3, ![1, 256, 1024]⟩
abbrev S256x128 : Shape := ⟨2, ![256, 128]⟩
abbrev S1x128x512 : Shape := ⟨3, ![1, 128, 512]⟩
abbrev S1x256x512 : Shape := ⟨3, ![1, 256, 512]⟩
abbrev S256x1024 : Shape := ⟨2, ![256, 1024]⟩
abbrev S128x256 : Shape := ⟨2, ![128, 256]⟩
abbrev S1024x256 : Shape := ⟨2, ![1024, 256]⟩
abbrev S1x128x256 : Shape := ⟨3, ![1, 128, 256]⟩
abbrev S1x512x1 : Shape := ⟨3, ![1, 512, 1]⟩
abbrev S1x256x256 : Shape := ⟨3, ![1, 256, 256]⟩

abbrev nBuf : Space → Nat
  | .hbm => 164
  | .vmem => 25
  | .smem => 0
  | _ => 0

abbrev hbmTy0_0 (i : Nat) : BufTy := match i % 128 with
  | 0 => ⟨S32x2048x1024, .f32⟩
  | 1 => ⟨S1024, .f32⟩
  | 2 => ⟨S32x2048x2x64, .f32⟩
  | 3 => ⟨S32x2048x2x64, .f32⟩
  | 4 => ⟨S1024x1024, .f32⟩
  | 5 => ⟨S64, .f32⟩
  | 6 => ⟨S16, .f32⟩
  | 7 => ⟨S1024x1024, .f32⟩
  | 8 => ⟨S32x2048x2x32, .f32⟩
  | 9 => ⟨S1x32x1x2048x1x2x1x32, .f32⟩
  | 10 => ⟨S1x32x1x2048x1x2x4x32, .f32⟩
  | 11 => ⟨S32x2048x2x128, .f32⟩
  | 12 => ⟨S32x2048x2x32, .f32⟩
  | 13 => ⟨S1x32x1x2048x1x2x1x32, .f32⟩
  | 14 => ⟨S1x32x1x2048x1x2x4x32, .f32⟩
  | 15 => ⟨S32x2048x2x128, .f32⟩
  | 16 => ⟨S32x2048x2x256, .f32⟩
  | 17 => ⟨S32x2048x512, .f32⟩
  | 18 => ⟨S32x2048x512, .bf16⟩
  | 19 => ⟨S1x32x1x2048x1x2x1x64, .f32⟩
  | 20 => ⟨S1x32x1x2048x1x2x4x64, .f32⟩
  | 21 => ⟨S32x2048x2x256, .f32⟩
  | 22 => ⟨S32x2048x512, .f32⟩
  | 23 => ⟨S32x2048x512, .bf16⟩
  | 24 => ⟨S1024x4x4x2x32, .f32⟩
  | 25 => ⟨S1024x4x2x4x32, .f32⟩
  | 26 => ⟨S1024x1024, .f32⟩
  | 27 => ⟨S1024x1024, .bf16⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S2048, .f32⟩
  | 45 => ⟨S2048x1, .f32⟩
  | 46 => ⟨S1x32, .f32⟩
  | 47 => ⟨S2048x32, .f32⟩
  | 48 => ⟨S2048x32, .f32⟩
  | 49 => ⟨S2048x32, .f32⟩
  | 50 => ⟨S2048x32, .f32⟩
  | 51 => ⟨S1x2048x1x32, .f32⟩
  | 52 => ⟨S1x2048x4x32, .f32⟩
  | 53 => ⟨S2048x128, .f32⟩
  | 54 => ⟨S_, .f32⟩
  | 55 => ⟨S2048x128, .f32⟩
  | 56 => ⟨S2048x128, .f32⟩
  | 57 => ⟨S2048x32, .f32⟩
  | 58 => ⟨S1x2048x1x32, .f32⟩
  | 59 => ⟨S1x2048x4x32, .f32⟩
  | 60 => ⟨S2048x128, .f32⟩
  | 61 => ⟨S_, .f32⟩
  | 62 => ⟨S2048x128, .f32⟩
  | 63 => ⟨S2048x128, .f32⟩
  | 64 => ⟨S256, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S256, .i32⟩
  | 72 => ⟨S256, .i32⟩
  | 73 => ⟨S_, .i32⟩
  | 74 => ⟨S256, .i32⟩
  | 75 => ⟨S256, .i1⟩
  | 76 => ⟨S_, .i32⟩
  | 77 => ⟨S256, .i32⟩
  | 78 => ⟨S256, .i1⟩
  | 79 => ⟨S_, .i32⟩
  | 80 => ⟨S_, .i1⟩
  | 81 => ⟨S256, .i1⟩
  | 82 => ⟨S256, .i1⟩
  | 83 => ⟨S256, .i1⟩
  | 84 => ⟨S256, .i32⟩
  | 85 => ⟨S256, .i32⟩
  | 86 => ⟨S256, .i32⟩
  | 87 => ⟨S_, .i32⟩
  | 88 => ⟨S_, .i32⟩
  | 89 => ⟨S256, .i32⟩
  | 90 => ⟨S256, .i32⟩
  | 91 => ⟨S256, .i32⟩
  | 92 => ⟨S_, .i32⟩
  | 93 => ⟨S256, .i32⟩
  | 94 => ⟨S256, .i1⟩
  | 95 => ⟨S256, .i32⟩
  | 96 => ⟨S256, .i32⟩
  | 97 => ⟨S_, .i32⟩
  | 98 => ⟨S256, .i32⟩
  | 99 => ⟨S256, .i1⟩
  | 100 => ⟨S256, .i1⟩
  | 101 => ⟨S_, .i32⟩
  | 102 => ⟨S256, .i32⟩
  | 103 => ⟨S256, .i32⟩
  | 104 => ⟨S256, .i32⟩
  | 105 => ⟨S256x1, .i32⟩
  | 106 => ⟨S1x256, .i32⟩
  | 107 => ⟨S256x256, .i32⟩
  | 108 => ⟨S256x256, .i32⟩
  | 109 => ⟨S256x256, .i1⟩
  | 110 => ⟨S256x256, .bf16⟩
  | 111 => ⟨S128, .i32⟩
  | 112 => ⟨S1x128, .i32⟩
  | 113 => ⟨S4x128, .i32⟩
  | 114 => ⟨S512, .i32⟩
  | 115 => ⟨S512x1, .i32⟩
  | 116 => ⟨S256, .i32⟩
  | 117 => ⟨S1x256, .i32⟩
  | 118 => ⟨S512x256, .i32⟩
  | 119 => ⟨S512x256, .i32⟩
  | 120 => ⟨S512x256, .i1⟩
  | 121 => ⟨S_, .i32⟩
  | 122 => ⟨S512x1, .i32⟩
  | 123 => ⟨S512x1, .i32⟩
  | 124 => ⟨S512x256, .i32⟩
  | 125 => ⟨S512x256, .i32⟩
  | 126 => ⟨S512x256, .i1⟩
  | 127 => ⟨S512x256, .i1⟩
  | _ => ⟨S32x2048x1024, .f32⟩

abbrev hbmTy0_1 (i : Nat) : BufTy := match i % 128 with
  | 0 => ⟨S_, .f32⟩
  | 1 => ⟨S_, .f32⟩
  | 2 => ⟨S512x256, .f32⟩
  | 3 => ⟨S512x256, .f32⟩
  | 4 => ⟨S512x256, .f32⟩
  | 5 => ⟨S_, .i32⟩
  | 6 => ⟨S1x256, .i32⟩
  | 7 => ⟨S1x256, .i1⟩
  | 8 => ⟨S512x256, .i1⟩
  | 9 => ⟨S512x256, .i1⟩
  | 10 => ⟨S_, .f32⟩
  | 11 => ⟨S_, .f32⟩
  | 12 => ⟨S512x256, .f32⟩
  | 13 => ⟨S512x256, .f32⟩
  | 14 => ⟨S512x256, .f32⟩
  | 15 => ⟨S1x512x256, .f32⟩
  | 16 => ⟨S1x512x256, .f32⟩
  | 17 => ⟨S2x512x256, .f32⟩
  | 18 => ⟨S2x512x256, .f32⟩
  | 19 => ⟨S4x4, .f32⟩
  | 20 => ⟨S4x4x128, .f32⟩
  | 21 => ⟨S4x512, .f32⟩
  | 22 => ⟨S4x512x1, .f32⟩
  | 23 => ⟨S1x1024, .f32⟩
  | 24 => ⟨S32, .f32⟩
  | 25 => ⟨S1x32, .f32⟩
  | 26 => ⟨S4x32, .f32⟩
  | 27 => ⟨S128, .f32⟩
  | 28 => ⟨S32, .f32⟩
  | 29 => ⟨S1x32, .f32⟩
  | 30 => ⟨S4x32, .f32⟩
  | 31 => ⟨S128, .f32⟩
  | 32 => ⟨S256, .f32⟩
  | 33 => ⟨S1x256, .f32⟩
  | 34 => ⟨S1024x1024, .bf16⟩
  | 35 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x256, .bf16⟩
  | .local _ .vmem, ⟨9, _⟩ => ⟨S2x512x256, .f32⟩
  | .local _ .vmem, ⟨10, _⟩ => ⟨S4x512x1, .f32⟩
  | .local _ .vmem, ⟨11, _⟩ => ⟨S1x128x512, .bf16⟩
  | .local _ .vmem, ⟨12, _⟩ => ⟨S1x128x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x128x512, .bf16⟩
  | .local _ .vmem, ⟨16, _⟩ => ⟨S1x128x512, .bf16⟩
  | .local _ .vmem, ⟨17, _⟩ => ⟨S1x256x512, .bf16⟩
  | .local _ .vmem, ⟨18, _⟩ => ⟨S1x256x512, .bf16⟩
  | .local _ .vmem, ⟨19, _⟩ => ⟨S1024x1024, .bf16⟩
  | .local _ .vmem, ⟨20, _⟩ => ⟨S1024x1024, .bf16⟩
  | .local _ .vmem, ⟨21, _⟩ => ⟨S1x256x1024, .f32⟩
  | .local _ .vmem, ⟨22, _⟩ => ⟨S1x256x1024, .f32⟩
  | .local _ .vmem, ⟨23, _⟩ => ⟨S256x1024, .bf16⟩
  | .local _ .vmem, ⟨24, _⟩ => ⟨S256x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_1 : Ref sig .tc := ⟨.hbm, 73, rfl⟩
abbrev main_call0_v5 : Ref sig .tc := ⟨.hbm, 74, rfl⟩
abbrev main_call0_v6 : Ref sig .tc := ⟨.hbm, 75, rfl⟩
abbrev main_call0_c_2 : Ref sig .tc := ⟨.hbm, 76, rfl⟩
abbrev main_call0_v7 : Ref sig .tc := ⟨.hbm, 77, rfl⟩
abbrev main_call0_v8 : Ref sig .tc := ⟨.hbm, 78, rfl⟩
abbrev main_call0_c_3 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_v50 : Ref sig .tc := ⟨.hbm, 86, rfl⟩
abbrev main_c_6 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_c : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_0 : Ref sig .tc := ⟨.hbm, 101, rfl⟩
abbrev main_call1_v12 : Ref sig .tc := ⟨.hbm, 102, rfl⟩
abbrev main_call1_v13 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_c_7 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_8 : Ref sig .tc := ⟨.hbm, 128, rfl⟩
abbrev main_cst_9 : Ref sig .tc := ⟨.hbm, 129, rfl⟩
abbrev main_call2_v0 : Ref sig .tc := ⟨.hbm, 130, rfl⟩
abbrev main_call2_v1 : Ref sig .tc := ⟨.hbm, 131, rfl⟩
abbrev main_v74 : Ref sig .tc := ⟨.hbm, 132, rfl⟩
abbrev main_c_10 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_11 : Ref sig .tc := ⟨.hbm, 138, rfl⟩
abbrev main_cst_12 : Ref sig .tc := ⟨.hbm, 139, rfl⟩
abbrev main_call3_v0 : Ref sig .tc := ⟨.hbm, 140, rfl⟩
abbrev main_call3_v1 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let c0_i32_81 : BitVec 32 := 0#32
  let v267 : BitVec 1 := Scalar.cmpi .eq arg1 c0_i32_81
  let c1_i32_82 : BitVec 32 := 1#32
  let c0_i32_83 : BitVec 32 := 0#32
  let v268 : BitVec 32 := Scalar.select v267 c1_i32_82 c0_i32_83
  let v322 : Index := Scalar.indexCast v268
  let c0_116 : Index := 0#32
  let c0_117 : Index := 0#32
  ![v322.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AttKernelIdeal.lean ====
variable {F : FTy → Type} [FloatOps F] [Named F]
def κ : String → Option EReal := fun
  | "mask" => some ⊥
  | _ => none
-- ==== AttReferenceIdeal.lean ====
abbrev S32x2048x1024 : Shape := ⟨3, ![32, 2048, 1024]⟩
abbrev S1024 : Shape := ⟨1, ![1024]⟩
abbrev S32x2048x2x64 : Shape := ⟨4, ![32, 2048, 2, 64]⟩
abbrev S1024x1024 : Shape := ⟨2, ![1024, 1024]⟩
abbrev S64 : Shape := ⟨1, ![64]⟩
abbrev S16 : Shape := ⟨1, ![16]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x16x64 : Shape := ⟨4, ![32, 2048, 16, 64]⟩
abbrev S32x2048x16 : Shape := ⟨3, ![32, 2048, 16]⟩
abbrev S32x2048x16x1 : Shape := ⟨4, ![32, 2048, 16, 1]⟩
abbrev S1x1x1x64 : Shape := ⟨4, ![1, 1, 1, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048x16x32 : Shape := ⟨4, ![32, 2048, 16, 32]⟩
abbrev S32x16x128x2x8x64 : Shape := ⟨6, ![32, 16, 128, 2, 8, 64]⟩
abbrev S16x32x128x2x8x64 : Shape := ⟨6, ![16, 32, 128, 2, 8, 64]⟩
abbrev S32x2176x2x64 : Shape := ⟨4, ![32, 2176, 2, 64]⟩
abbrev S32x16x128x2x64 : Shape := ⟨5, ![32, 16, 128, 2, 64]⟩
abbrev S32x16x256x2x64 : Shape := ⟨5, ![32, 16, 256, 2, 64]⟩
abbrev S16x32x256x2x64 : Shape := ⟨5, ![16, 32, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x8 : Shape := ⟨2, ![2, 8]⟩
abbrev S1x2x8x1x1 : Shape := ⟨5, ![1, 2, 8, 1, 1]⟩
abbrev S32x2x8x128x1 : Shape := ⟨5, ![32, 2, 8, 128, 1]⟩
abbrev S16x32x2x256x128x8 : Shape := ⟨6, ![16, 32, 2, 256, 128, 8]⟩
abbrev S16x32x2x8x128x256 : Shape := ⟨6, ![16, 32, 2, 8, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S16x1x1x1x128x256 : Shape := ⟨6, ![16, 1, 1, 1, 128, 256]⟩
abbrev S32x2x8x128x256 : Shape := ⟨5, ![32, 2, 8, 128, 256]⟩
abbrev S16x32x2x8x128x1 : Shape := ⟨6, ![16, 32, 2, 8, 128, 1]⟩
abbrev S16x32x2x8x128x257 : Shape := ⟨6, ![16, 32, 2, 8, 128, 257]⟩
abbrev S16x32x2x8x128 : Shape := ⟨5, ![16, 32, 2, 8, 128]⟩
abbrev S16x32x2x64x8x128 : Shape := ⟨6, ![16, 32, 2, 64, 8, 128]⟩

abbrev nBuf : Space → Nat
  | .hbm => 173
  | .vmem => 0
  | .smem => 0
  | _ => 0

abbrev hbmTy0_0 (i : Nat) : BufTy := match i % 128 with
  | 0 => ⟨S32x2048x1024, .f32⟩
  | 1 => ⟨S1024, .f32⟩
  | 2 => ⟨S32x2048x2x64, .f32⟩
  | 3 => ⟨S32x2048x2x64, .f32⟩
  | 4 => ⟨S1024x1024, .f32⟩
  | 5 => ⟨S64, .f32⟩
  | 6 => ⟨S16, .f32⟩
  | 7 => ⟨S1024x1024, .f32⟩
  | 8 => ⟨S32x2048x1024, .f32⟩
  | 9 => ⟨S_, .f32⟩
  | 10 => ⟨S32x2048, .f32⟩
  | 11 => ⟨S32x2048x1, .f32⟩
  | 12 => ⟨S_, .f32⟩
  | 13 => ⟨S32x2048x1, .f32⟩
  | 14 => ⟨S32x2048x1, .f32⟩
  | 15 => ⟨S_, .f32⟩
  | 16 => ⟨S32x2048x1, .f32⟩
  | 17 => ⟨S32x2048x1, .f32⟩
  | 18 => ⟨S32x2048x1, .f32⟩
  | 19 => ⟨S32x2048x1024, .f32⟩
  | 20 => ⟨S32x2048x1024, .f32⟩
  | 21 => ⟨S1x1x1024, .f32⟩
  | 22 => ⟨S32x2048x1024, .f32⟩
  | 23 => ⟨S32x2048x1024, .f32⟩
  | 24 => ⟨S32x2048x1024, .f32⟩
  | 25 => ⟨S32x2048x16x64, .f32⟩
  | 26 => ⟨S32x2048x16x64, .f32⟩
  | 27 => ⟨S_, .f32⟩
  | 28 => ⟨S32x2048x16, .f32⟩
  | 29 => ⟨S32x2048x16x1, .f32⟩
  | 30 => ⟨S_, .f32⟩
  | 31 => ⟨S32x2048x16x1, .f32⟩
  | 32 => ⟨S32x2048x16x1, .f32⟩
  | 33 => ⟨S_, .f32⟩
  | 34 => ⟨S32x2048x16x1, .f32⟩
  | 35 => ⟨S32x2048x16x1, .f32⟩
  | 36 => ⟨S32x2048x16x1, .f32⟩
  | 37 => ⟨S32x2048x16x64, .f32⟩
  | 38 => ⟨S32x2048x16x64, .f32⟩
  | 39 => ⟨S1x1x1x64, .f32⟩
  | 40 => ⟨S32x2048x16x64, .f32⟩
  | 41 => ⟨S32x2048x16x64, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S2048, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x32, .f32⟩
  | 65 => ⟨S1x2048x1x32, .f32⟩
  | 66 => ⟨S2048x32, .f32⟩
  | 67 => ⟨S1x2048x1x32, .f32⟩
  | 68 => ⟨S32x2048x16x32, .f32⟩
  | 69 => ⟨S32x2048x16x32, .f32⟩
  | 70 => ⟨S32x2048x16x32, .f32⟩
  | 71 => ⟨S32x2048x16x32, .f32⟩
  | 72 => ⟨S32x2048x16x32, .f32⟩
  | 73 => ⟨S32x2048x16x32, .f32⟩
  | 74 => ⟨S32x2048x16x32, .f32⟩
  | 75 => ⟨S32x2048x16x32, .f32⟩
  | 76 => ⟨S32x2048x16x32, .f32⟩
  | 77 => ⟨S32x2048x16x32, .f32⟩
  | 78 => ⟨S32x2048x16x32, .f32⟩
  | 79 => ⟨S32x2048x16x32, .f32⟩
  | 80 => ⟨S32x2048x16x64, .f32⟩
  | 81 => ⟨S32x16x128x2x8x64, .f32⟩
  | 82 => ⟨S16x32x128x2x8x64, .f32⟩
  | 83 => ⟨S_, .i32⟩
  | 84 => ⟨S_, .f32⟩
  | 85 => ⟨S32x2176x2x64, .f32⟩
  | 86 => ⟨S32x2048x2x64, .f32⟩
  | 87 => ⟨S32x16x128x2x64, .f32⟩
  | 88 => ⟨S32x16x128x2x64, .f32⟩
  | 89 => ⟨S32x16x256x2x64, .f32⟩
  | 90 => ⟨S16x32x256x2x64, .f32⟩
  | 91 => ⟨S_, .i32⟩
  | 92 => ⟨S_, .f32⟩
  | 93 => ⟨S32x2176x2x64, .f32⟩
  | 94 => ⟨S32x2048x2x64, .f32⟩
  | 95 => ⟨S32x16x128x2x64, .f32⟩
  | 96 => ⟨S32x16x128x2x64, .f32⟩
  | 97 => ⟨S32x16x256x2x64, .f32⟩
  | 98 => ⟨S16x32x256x2x64, .f32⟩
  | 99 => ⟨S128, .i32⟩
  | 100 => ⟨S128x1, .i32⟩
  | 101 => ⟨S256, .i32⟩
  | 102 => ⟨S1x256, .i32⟩
  | 103 => ⟨S_, .i32⟩
  | 104 => ⟨S128x1, .i32⟩
  | 105 => ⟨S128x1, .i32⟩
  | 106 => ⟨S128x256, .i32⟩
  | 107 => ⟨S128x256, .i32⟩
  | 108 => ⟨S128x256, .i32⟩
  | 109 => ⟨S2x8, .f32⟩
  | 110 => ⟨S1x2x8x1x1, .f32⟩
  | 111 => ⟨S32x2x8x128x1, .f32⟩
  | 112 => ⟨S16, .i32⟩
  | 113 => ⟨S16x32x2x256x128x8, .f32⟩
  | 114 => ⟨S16x32x2x8x128x256, .f32⟩
  | 115 => ⟨S_, .f32⟩
  | 116 => ⟨S16x32x2x8x128x256, .f32⟩
  | 117 => ⟨S16x32x2x8x128x256, .f32⟩
  | 118 => ⟨S_, .i32⟩
  | 119 => ⟨S128x256, .i32⟩
  | 120 => ⟨S128x256, .i1⟩
  | 121 => ⟨S_, .i32⟩
  | 122 => ⟨S128x256, .i32⟩
  | 123 => ⟨S128x256, .i1⟩
  | 124 => ⟨S128x256, .i1⟩
  | 125 => ⟨S_, .i32⟩
  | 126 => ⟨S16, .i32⟩
  | 127 => ⟨S16, .i32⟩
  | _ => ⟨S32x2048x1024, .f32⟩

abbrev hbmTy0_1 (i : Nat) : BufTy := match i % 128 with
  | 0 => ⟨S1x1x256, .i32⟩
  | 1 => ⟨S16x1x1, .i32⟩
  | 2 => ⟨S16x1x256, .i32⟩
  | 3 => ⟨S16x1x256, .i32⟩
  | 4 => ⟨S16x1x256, .i32⟩
  | 5 => ⟨S_, .i32⟩
  | 6 => ⟨S16x1x256, .i32⟩
  | 7 => ⟨S16x1x256, .i32⟩
  | 8 => ⟨S_, .i32⟩
  | 9 => ⟨S16x1x256, .i32⟩
  | 10 => ⟨S16x1x256, .i1⟩
  | 11 => ⟨S1x128x256, .i1⟩
  | 12 => ⟨S16x128x256, .i1⟩
  | 13 => ⟨S16x128x256, .i1⟩
  | 14 => ⟨S16x128x256, .i1⟩
  | 15 => ⟨S16x1x1x1x128x256, .i1⟩
  | 16 => ⟨S_, .f32⟩
  | 17 => ⟨S_, .f32⟩
  | 18 => ⟨S16x32x2x8x128x256, .i1⟩
  | 19 => ⟨S32x2x8x128x256, .f32⟩
  | 20 => ⟨S16x32x2x8x128x256, .f32⟩
  | 21 => ⟨S16x32x2x8x128x256, .f32⟩
  | 22 => ⟨S16x32x2x8x128x1, .f32⟩
  | 23 => ⟨S16x32x2x8x128x257, .f32⟩
  | 24 => ⟨S_, .f32⟩
  | 25 => ⟨S16x32x2x8x128, .f32⟩
  | 26 => ⟨S_, .f32⟩
  | 27 => ⟨S16x32x2x8x128, .f32⟩
  | 28 => ⟨S16x32x2x8x128, .f32⟩
  | 29 => ⟨S16x32x2x8x128x1, .f32⟩
  | 30 => ⟨S16x32x2x8x128x257, .f32⟩
  | 31 => ⟨S16x32x2x8x128x257, .f32⟩
  | 32 => ⟨S16x32x2x8x128x257, .f32⟩
  | 33 => ⟨S_, .f32⟩
  | 34 => ⟨S16x32x2x8x128, .f32⟩
  | 35 => ⟨S16x32x2x8x128x1, .f32⟩
  | 36 => ⟨S16x32x2x8x128x257, .f32⟩
  | 37 => ⟨S16x32x2x8x128x257, .f32⟩
  | 38 => ⟨S16x32x2x8x128x256, .f32⟩
  | 39 => ⟨S16x32x2x64x8x128, .f32⟩
  | 40 => ⟨S16x32x128x2x8x64, .f32⟩
  | 41 => ⟨S32x16x128x2x8x64, .f32⟩
  | 42 => ⟨S32x2048x1024, .f32⟩
  | 43 => ⟨S32x2048x1024, .f32⟩
  | 44 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c : Ref sig .tc := ⟨.hbm, 83, rfl⟩
abbrev main_call0_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_10 : Ref sig .tc := ⟨.hbm, 91, rfl⟩
abbrev main_call1_v0 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_11 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_c_13 : Ref sig .tc := ⟨.hbm, 118, rfl⟩
abbrev main_v93 : Ref sig .tc := ⟨.hbm, 119, rfl⟩
abbrev main_v94 : Ref sig .tc := ⟨.hbm, 120, rfl⟩
abbrev main_c_14 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_15 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_16 : Ref sig .tc := ⟨.hbm, 133, rfl⟩
abbrev main_v105 : Ref sig .tc := ⟨.hbm, 134, rfl⟩
abbrev main_v106 : Ref sig .tc := ⟨.hbm, 135, rfl⟩
abbrev main_c_17 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_18 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_call2_v3 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_19 : Ref sig .tc := ⟨.hbm, 152, rfl⟩
abbrev main_v117 : Ref sig .tc := ⟨.hbm, 153, rfl⟩
abbrev main_cst_20 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_21 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩

abbrev nD : Nat := 1
abbrev τ : Topo := Topo.v7x

variable {F : FTy → Type} [FloatOps F]
-- ==== KvKernel.lean ====
abbrev S32x2048x1024 : Shape := ⟨3, ![32, 2048, 1024]⟩
abbrev S1024 : Shape := ⟨1, ![1024]⟩
abbrev S1024x256 : Shape := ⟨2, ![1024, 256]⟩
abbrev S64 : Shape := ⟨1, ![64]⟩
abbrev S1024x128 : Shape := ⟨2, ![1024, 128]⟩
abbrev S1024x2x64 : Shape := ⟨3, ![1024, 2, 64]⟩
abbrev S1024x2x32 : Shape := ⟨3, ![1024, 2, 32]⟩
abbrev S1x1024x1x2x1x32 : Shape := ⟨6, ![1, 1024, 1, 2, 1, 32]⟩
abbrev S1x1024x1x2x4x32 : Shape := ⟨6, ![1, 1024, 1, 2, 4, 32]⟩
abbrev S1024x2x128 : Shape := ⟨3, ![1024, 2, 128]⟩
abbrev S1024x2x256 : Shape := ⟨3, ![1024, 2, 256]⟩
abbrev S1024x512 : Shape := ⟨2, ![1024, 512]⟩
abbrev S1x1024x1x2x1x64 : Shape := ⟨6, ![1, 1024, 1, 2, 1, 64]⟩
abbrev S1x1024x1x2x4x64 : Shape := ⟨6, ![1, 1024, 1, 2, 4, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S1x1024 : Shape := ⟨2, ![1, 1024]⟩
abbrev S4x32 : Shape := ⟨2, ![4, 32]⟩
abbrev S128 : Shape := ⟨1, ![128]⟩
abbrev S256 : Shape := ⟨1, ![256]⟩
abbrev S1x256 : Shape := ⟨2, ![1, 256]⟩
abbrev S32x2048x512 : Shape := ⟨3, ![32, 2048, 512]⟩
abbrev S1x512x1024 : Shape := ⟨3, ![1, 512, 1024]⟩
abbrev S512x128 : Shape := ⟨2, ![512, 128]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩

abbrev nBuf : Space → Nat
  | .hbm => 73
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x256, .f32⟩
  | .hbm, ⟨3, _⟩ => ⟨S64, .f32⟩
  | .hbm, ⟨4, _⟩ => ⟨S1024x128, .f32⟩
  | .hbm, ⟨5, _⟩ => ⟨S1024x2x64, .f32⟩
  | .hbm, ⟨6, _⟩ => ⟨S1024x128, .f32⟩
  | .hbm, ⟨7, _⟩ => ⟨S1024x2x64, .f32⟩
  | .hbm, ⟨8, _⟩ => ⟨S1024x2x32, .f32⟩
  | .hbm, ⟨9, _⟩ => ⟨S1x1024x1x2x1x32, .f32⟩
  | .hbm, ⟨10, _⟩ => ⟨S1x1024x1x2x4x32, .f32⟩
  | .hbm, ⟨11, _⟩ => ⟨S1024x2x128, .f32⟩
  | .hbm, ⟨12, _⟩ => ⟨S1024x2x32, .f32⟩
  | .hbm, ⟨13, _⟩ => ⟨S1x1024x1x2x1x32, .f32⟩
  | .hbm, ⟨14, _⟩ => ⟨S1x1024x1x2x4x32, .f32⟩
  | .hbm, ⟨15, _⟩ => ⟨S1024x2x128, .f32⟩
  | .hbm, ⟨16, _⟩ => ⟨S1024x2x256, .f32⟩
  | .hbm, ⟨17, _⟩ => ⟨S1024x512, .f32⟩
  | .hbm, ⟨18, _⟩ => ⟨S1024x512, .bf16⟩
  | .hbm, ⟨19, _⟩ => ⟨S1x1024x1x2x1x64, .f32⟩
  | .hbm, ⟨20, _⟩ => ⟨S1x1024x1x2x4x64, .f32⟩
  | .hbm, ⟨21, _⟩ => ⟨S1024x2x256, .f32⟩
  | .hbm, ⟨22, _⟩ => ⟨S1024x512, .f32⟩
  | .hbm, ⟨23, _⟩ => ⟨S1024x512, .bf16⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S2048, .f32⟩
  | .hbm, ⟨41, _⟩ => ⟨S2048x1, .f32⟩
  | .hbm, ⟨42, _⟩ => ⟨S1x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S1x2048x1x32, .f32⟩
  | .hbm, ⟨48, _⟩ => ⟨S1x2048x4x32, .f32⟩
  | .hbm, ⟨49, _⟩ => ⟨S2048x128, .f32⟩
  | .hbm, ⟨50, _⟩ => ⟨S_, .f32⟩
  | .hbm, ⟨51, _⟩ => ⟨S2048x128, .f32⟩
  | .hbm, ⟨52, _⟩ => ⟨S2048x128, .f32⟩
  | .hbm, ⟨53, _⟩ => ⟨S2048x32, .f32⟩
  | .hbm, ⟨54, _⟩ => ⟨S1x2048x1x32, .f32⟩
  | .hbm, ⟨55, _⟩ => ⟨S1x2048x4x32, .f32⟩
  | .hbm, ⟨56, _⟩ => ⟨S2048x128, .f32⟩
  | .hbm, ⟨57, _⟩ => ⟨S_, .f32⟩
  | .hbm, ⟨58, _⟩ => ⟨S2048x128, .f32⟩
  | .hbm, ⟨59, _⟩ => ⟨S2048x128, .f32⟩
  | .hbm, ⟨60, _⟩ => ⟨S1x1024, .f32⟩
  | .hbm, ⟨61, _⟩ => ⟨S32, .f32⟩
  | .hbm, ⟨62, _⟩ => ⟨S1x32, .f32⟩
  | .hbm, ⟨63, _⟩ => ⟨S4x32, .f32⟩
  | .hbm, ⟨64, _⟩ => ⟨S128, .f32⟩
  | .hbm, ⟨65, _⟩ => ⟨S32, .f32⟩
  | .hbm, ⟨66, _⟩ => ⟨S1x32, .f32⟩
  | .hbm, ⟨67, _⟩ => ⟨S4x32, .f32⟩
  | .hbm, ⟨68, _⟩ => ⟨S128, .f32⟩
  | .hbm, ⟨69, _⟩ => ⟨S256, .f32⟩
  | .hbm, ⟨70, _⟩ => ⟨S1x256, .f32⟩
  | .hbm, ⟨71, _⟩ => ⟨S32x2048x512, .bf16⟩
  | .hbm, ⟨72, _⟩ => ⟨S32x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1024x512, .bf16⟩
  | .local _ .vmem, ⟨9, _⟩ => ⟨S1024x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60_0 : Ref sig .tc := ⟨.hbm, 71, rfl⟩
abbrev main_v60_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KvReferenceIdeal.lean ====
abbrev S32x2048x1024 : Shape := ⟨3, ![32, 2048, 1024]⟩
abbrev S1024 : Shape := ⟨1, ![1024]⟩
abbrev S1024x256 : Shape := ⟨2, ![1024, 256]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x256 : Shape := ⟨3, ![32, 2048, 256]⟩
abbrev S32x2048x128 : Shape := ⟨3, ![32, 2048, 128]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S1x1x1x64 : Shape := ⟨4, ![1, 1, 1, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048x2x32 : Shape := ⟨4, ![32, 2048, 2, 32]⟩
abbrev S32x2048x2x2x1x32 : Shape := ⟨6, ![32, 2048, 2, 2, 1, 32]⟩
abbrev S32x2048x2x2x4x32 : Shape := ⟨6, ![32, 2048, 2, 2, 4, 32]⟩
abbrev S32x2048x2x1x64 : Shape := ⟨5, ![32, 2048, 2, 1, 64]⟩
abbrev S32x2048x2x4x64 : Shape := ⟨5, ![32, 2048, 2, 4, 64]⟩
abbrev S32x2048x512 : Shape := ⟨3, ![32, 2048, 512]⟩

abbrev nBuf : Space → Nat
  | .hbm => 88
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x256, .f32⟩
  | .hbm, ⟨3, _⟩ => ⟨S64, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x256, .f32⟩
  | .hbm, ⟨21, _⟩ => ⟨S32x2048x128, .f32⟩
  | .hbm, ⟨22, _⟩ => ⟨S32x2048x128, .f32⟩
  | .hbm, ⟨23, _⟩ => ⟨S32x2048x2x64, .f32⟩
  | .hbm, ⟨24, _⟩ => ⟨S32x2048x2x64, .f32⟩
  | .hbm, ⟨25, _⟩ => ⟨S_, .f32⟩
  | .hbm, ⟨26, _⟩ => ⟨S32x2048x2, .f32⟩
  | .hbm, ⟨27, _⟩ => ⟨S32x2048x2x1, .f32⟩
  | .hbm, ⟨28, _⟩ => ⟨S_, .f32⟩
  | .hbm, ⟨29, _⟩ => ⟨S32x2048x2x1, .f32⟩
  | .hbm, ⟨30, _⟩ => ⟨S32x2048x2x1, .f32⟩
  | .hbm, ⟨31, _⟩ => ⟨S_, .f32⟩
  | .hbm, ⟨32, _⟩ => ⟨S32x2048x2x1, .f32⟩
  | .hbm, ⟨33, _⟩ => ⟨S32x2048x2x1, .f32⟩
  | .hbm, ⟨34, _⟩ => ⟨S32x2048x2x1, .f32⟩
  | .hbm, ⟨35, _⟩ => ⟨S32x2048x2x64, .f32⟩
  | .hbm, ⟨36, _⟩ => ⟨S32x2048x2x64, .f32⟩
  | .hbm, ⟨37, _⟩ => ⟨S1x1x1x64, .f32⟩
  | .hbm, ⟨38, _⟩ => ⟨S32x2048x2x64, .f32⟩
  | .hbm, ⟨39, _⟩ => ⟨S32x2048x2x64, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S2048, .f32⟩
  | .hbm, ⟨57, _⟩ => ⟨S2048x1, .f32⟩
  | .hbm, ⟨58, _⟩ => ⟨S1x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S1x2048x1x32, .f32⟩
  | .hbm, ⟨64, _⟩ => ⟨S2048x32, .f32⟩
  | .hbm, ⟨65, _⟩ => ⟨S1x2048x1x32, .f32⟩
  | .hbm, ⟨66, _⟩ => ⟨S32x2048x2x32, .f32⟩
  | .hbm, ⟨67, _⟩ => ⟨S32x2048x2x32, .f32⟩
  | .hbm, ⟨68, _⟩ => ⟨S32x2048x2x32, .f32⟩
  | .hbm, ⟨69, _⟩ => ⟨S32x2048x2x32, .f32⟩
  | .hbm, ⟨70, _⟩ => ⟨S32x2048x2x32, .f32⟩
  | .hbm, ⟨71, _⟩ => ⟨S32x2048x2x32, .f32⟩
  | .hbm, ⟨72, _⟩ => ⟨S32x2048x2x32, .f32⟩
  | .hbm, ⟨73, _⟩ => ⟨S32x2048x2x32, .f32⟩
  | .hbm, ⟨74, _⟩ => ⟨S32x2048x2x32, .f32⟩
  | .hbm, ⟨75, _⟩ => ⟨S32x2048x2x32, .f32⟩
  | .hbm, ⟨76, _⟩ => ⟨S32x2048x2x32, .f32⟩
  | .hbm, ⟨77, _⟩ => ⟨S32x2048x2x32, .f32⟩
  | .hbm, ⟨78, _⟩ => ⟨S32x2048x2x64, .f32⟩
  | .hbm, ⟨79, _⟩ => ⟨S32x2048x2x64, .f32⟩
  | .hbm, ⟨80, _⟩ => ⟨S32x2048x2x2x1x32, .f32⟩
  | .hbm, ⟨81, _⟩ => ⟨S32x2048x2x2x4x32, .f32⟩
  | .hbm, ⟨82, _⟩ => ⟨S32x2048x2x1x64, .f32⟩
  | .hbm, ⟨83, _⟩ => ⟨S32x2048x2x4x64, .f32⟩
  | .hbm, ⟨84, _⟩ => ⟨S32x2048x512, .f32⟩
  | .hbm, ⟨85, _⟩ => ⟨S32x2048x512, .bf16⟩
  | .hbm, ⟨86, _⟩ => ⟨S32x2048x512, .f32⟩
  | .hbm, ⟨87, _⟩ => ⟨S32x2048x512, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Proof.Ffn.Token.lean ====
module

public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

/-- The reciprocal root mean square of one token, with the problem's epsilon. -/
def rms (x : Fin 1024 → EReal) : EReal :=
  Ideal.rsqrt (Ideal.div (∑ k : Fin 1024, x k * x k) (Ideal.ofBits .f32 0x44800000#32) + Ideal.ofBits .f32 0x358637BD#32)

/-- One entry of the normalised token times a weight column. -/
def proj (x g w : Fin 1024 → EReal) : EReal := ∑ k : Fin 1024, x k * rms x * g k * w k

/-- One hidden activation of the feed-forward: the gate times its logistic times the up projection. -/
def unit (g u : EReal) : EReal := g * Ideal.logistic g * u

/-- One entry of the feed-forward's result for one token: the residual entry `x₀` plus half of the hidden activations times
    the output column. -/
def token (x₀ : EReal) (x g : Fin 1024 → EReal) (wg wu : Fin 2816 → Fin 1024 → EReal) (wo : Fin 2816 → EReal) : EReal :=
  x₀ + Ideal.ofBits .f32 0x3F000000#32 * ∑ f : Fin 2816, unit (proj x g (wg f)) (proj x g (wu f)) * wo f

end Cert.Ffn

end
-- ==== Proof.Ffn.Block.lean ====
module

public import proofs.«01_k».proof.Proof.Gen.KernelIdeal.Value
public import proofs.«01_k».proof.Proof.Ffn.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn
open Cert.KernelIdeal Cert.KernelIdeal.Gen

/-- The hidden activations of one block of 512 tokens, all 2816 columns at once. -/
def act (H : FVec Ideal S512x1024 .bf16) (Wg Wu : FVec Ideal S1024x2816 .bf16) : FVec Ideal S512x2816 .bf16 :=
  fun j => unit (∑ k : Fin 1024, H (ix2 (j 0) k) * Wg (ix2 k (j 1))) (∑ k : Fin 1024, H (ix2 (j 0) k) * Wu (ix2 k (j 1)))

variable (m : (ℓ : Loc nD τ sig) → Buf (Elt Ideal) ℓ)

set_option maxHeartbeats 2000000 in
/-- What one grid point writes back: the two input products chunk by chunk into the hidden scratch, then the output product
    over the whole scratch and the residual. -/
theorem stored (c : Dev nD) (t : Fin cfg0.N) : outsAt0 m c t = k0_pay17 (act (k0_pay1 (iblk m c 0 t) (iblk m c 1 t)) (iblk m c 2 t) (iblk m c 3 t))
   (iblk m c 4 t) (iblk m c 0 t) := by
  unfold outsAt0
  unfold out0_A_5
  frame_open
  simp (disch := decide) only [↓ View.readCov_skip, ↓ View.readCov_cons_toLoadRect, ↓ View.readCov_fill]
  frame_out
  refine congrArg (fun a => k0_pay17 a (iblk m c 4 t) (iblk m c 0 t)) (funext fun y => ?_)
  rw [View.readCov_eq_canon']
  generalize hH : k0_pay1 (iblk m c 0 t) (iblk m c 1 t) = H
  canon_tiles x h
  all_goals
    have z0 : (![0, 0] : Fin 2 → ℕ) 0 = 0 := rfl
    have z1 : (![0, 0] : Fin 2 → ℕ) 1 = 0 := rfl
    have e0 := Rect.idx_unit_val _ _ inb_S512x2816_S512x2816_0_0 y 0
    have e1 := Rect.idx_unit_val _ _ inb_S512x2816_S512x2816_0_0 y 1
    open_payloads; pointwise [act]; simp only [unit]; blk_point []

end Cert.Ffn

end
-- ==== Proof.Ffn.Reference.lean ====
module

public import proofs.«01_k».proof.Proof.Ffn.Token
public import proofs.«01_k».proof.Proof.Gen.ReferenceIdeal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

/-- The reference's own term over its four arguments. -/
abbrev REF (X : FVec Ideal Cert.ReferenceIdeal.S32x2048x1024 .f32) (G : FVec Ideal Cert.ReferenceIdeal.S1024 .f32) (Wi : FVec Ideal Cert.ReferenceIdeal.S1024x5632 .f32)
    (Wo : FVec Ideal Cert.ReferenceIdeal.S2816x1024 .f32) : FVec Ideal Cert.ReferenceIdeal.S65536x1024 .f32 :=
  shapeCast Cert.ReferenceIdeal.S65536x1024 (addf X (mulf (broadcastInDim Cert.ReferenceIdeal.S32x2048x1024 ![] Cert.ReferenceIdeal.Gen.bcast_S_S32x2048x1024 (constant Cert.ReferenceIdeal.S_ .f32 0x3F000000#32)) (Host.dotGeneral Cert.ReferenceIdeal.dot_S32x2048x2816_S2816x1024_S32x2048x1024_2_0_01_1_n_n none (mulf (mulf (extractStridedSlice Cert.ReferenceIdeal.S32x2048x2816 ![0, 0, 0] (Host.dotGeneral Cert.ReferenceIdeal.dot_S32x2048x1024_S1024x5632_S32x2048x5632_2_0_01_1_n_n none (mulf (mulf X (broadcastInDim Cert.ReferenceIdeal.S32x2048x1024 ![0, 1, 2] Cert.ReferenceIdeal.Gen.bcast_S32x2048x1_S32x2048x1024_0_1_2 (Host.rsqrt (addf (Host.divf (broadcastInDim Cert.ReferenceIdeal.S32x2048x1 ![0, 1] Cert.ReferenceIdeal.Gen.bcast_S32x2048_S32x2048x1_0_1 (Host.reduceAdd (mulf X X) (constant Cert.ReferenceIdeal.S_ .f32 0x00000000#32) Cert.ReferenceIdeal.Gen.reducesTo_S32x2048x1024_S32x2048_d2 Cert.ReferenceIdeal.Gen.h_S_)) (broadcastInDim Cert.ReferenceIdeal.S32x2048x1 ![] Cert.ReferenceIdeal.Gen.bcast_S_S32x2048x1 (constant Cert.ReferenceIdeal.S_ .f32 0x44800000#32))) (broadcastInDim Cert.ReferenceIdeal.S32x2048x1 ![] Cert.ReferenceIdeal.Gen.bcast_S_S32x2048x1 (constant Cert.ReferenceIdeal.S_ .f32 0x358637BD#32)))))) (broadcastInDim Cert.ReferenceIdeal.S32x2048x1024 ![0, 1, 2] Cert.ReferenceIdeal.Gen.bcast_S1x1x1024_S32x2048x1024_0_1_2 (broadcastInDim Cert.ReferenceIdeal.S1x1x1024 ![2] Cert.ReferenceIdeal.Gen.bcast_S1024_S1x1x1024_2 G))) Wi) Cert.ReferenceIdeal.Gen.slices_S32x2048x5632_S32x2048x2816_0_0_0) (Host.divf (broadcastInDim Cert.ReferenceIdeal.S32x2048x2816 ![] Cert.ReferenceIdeal.Gen.bcast_S_S32x2048x2816 (constant Cert.ReferenceIdeal.S_ .f32 0x3F800000#32)) (addf (broadcastInDim Cert.ReferenceIdeal.S32x2048x2816 ![] Cert.ReferenceIdeal.Gen.bcast_S_S32x2048x2816 (constant Cert.ReferenceIdeal.S_ .f32 0x3F800000#32)) (Host.exp (Host.negf (extractStridedSlice Cert.ReferenceIdeal.S32x2048x2816 ![0, 0, 0] (Host.dotGeneral Cert.ReferenceIdeal.dot_S32x2048x1024_S1024x5632_S32x2048x5632_2_0_01_1_n_n none (mulf (mulf X (broadcastInDim Cert.ReferenceIdeal.S32x2048x1024 ![0, 1, 2] Cert.ReferenceIdeal.Gen.bcast_S32x2048x1_S32x2048x1024_0_1_2 (Host.rsqrt (addf (Host.divf (broadcastInDim Cert.ReferenceIdeal.S32x2048x1 ![0, 1] Cert.ReferenceIdeal.Gen.bcast_S32x2048_S32x2048x1_0_1 (Host.reduceAdd (mulf X X) (constant Cert.ReferenceIdeal.S_ .f32 0x00000000#32) Cert.ReferenceIdeal.Gen.reducesTo_S32x2048x1024_S32x2048_d2 Cert.ReferenceIdeal.Gen.h_S_)) (broadcastInDim Cert.ReferenceIdeal.S32x2048x1 ![] Cert.ReferenceIdeal.Gen.bcast_S_S32x2048x1 (constant Cert.ReferenceIdeal.S_ .f32 0x44800000#32))) (broadcastInDim Cert.ReferenceIdeal.S32x2048x1 ![] Cert.ReferenceIdeal.Gen.bcast_S_S32x2048x1 (constant Cert.ReferenceIdeal.S_ .f32 0x358637BD#32)))))) (broadcastInDim Cert.ReferenceIdeal.S32x2048x1024 ![0, 1, 2] Cert.ReferenceIdeal.Gen.bcast_S1x1x1024_S32x2048x1024_0_1_2 (broadcastInDim Cert.ReferenceIdeal.S1x1x1024 ![2] Cert.ReferenceIdeal.Gen.bcast_S1024_S1x1x1024_2 G))) Wi) Cert.ReferenceIdeal.Gen.slices_S32x2048x5632_S32x2048x2816_0_0_0)))))) (extractStridedSlice Cert.ReferenceIdeal.S32x2048x2816 ![0, 0, 2816] (Host.dotGeneral Cert.ReferenceIdeal.dot_S32x2048x1024_S1024x5632_S32x2048x5632_2_0_01_1_n_n none (mulf (mulf X (broadcastInDim Cert.ReferenceIdeal.S32x2048x1024 ![0, 1, 2] Cert.ReferenceIdeal.Gen.bcast_S32x2048x1_S32x2048x1024_0_1_2 (Host.rsqrt (addf (Host.divf (broadcastInDim Cert.ReferenceIdeal.S32x2048x1 ![0, 1] Cert.ReferenceIdeal.Gen.bcast_S32x2048_S32x2048x1_0_1 (Host.reduceAdd (mulf X X) (constant Cert.ReferenceIdeal.S_ .f32 0x00000000#32) Cert.ReferenceIdeal.Gen.reducesTo_S32x2048x1024_S32x2048_d2 Cert.ReferenceIdeal.Gen.h_S_)) (broadcastInDim Cert.ReferenceIdeal.S32x2048x1 ![] Cert.ReferenceIdeal.Gen.bcast_S_S32x2048x1 (constant Cert.ReferenceIdeal.S_ .f32 0x44800000#32))) (broadcastInDim Cert.ReferenceIdeal.S32x2048x1 ![] Cert.ReferenceIdeal.Gen.bcast_S_S32x2048x1 (constant Cert.ReferenceIdeal.S_ .f32 0x358637BD#32)))))) (broadcastInDim Cert.ReferenceIdeal.S32x2048x1024 ![0, 1, 2] Cert.ReferenceIdeal.Gen.bcast_S1x1x1024_S32x2048x1024_0_1_2 (broadcastInDim Cert.ReferenceIdeal.S1x1x1024 ![2] Cert.ReferenceIdeal.Gen.bcast_S1024_S1x1x1024_2 G))) Wi) Cert.ReferenceIdeal.Gen.slices_S32x2048x5632_S32x2048x2816_0_0_2816)) Wo))) Cert.ReferenceIdeal.Gen.shapeCasts_S32x2048x1024_S65536x1024

/-- The reference read at one token and one column. -/
theorem REF_at (X : FVec Ideal Cert.ReferenceIdeal.S32x2048x1024 .f32) (G : FVec Ideal Cert.ReferenceIdeal.S1024 .f32) (Wi : FVec Ideal Cert.ReferenceIdeal.S1024x5632 .f32)
    (Wo : FVec Ideal Cert.ReferenceIdeal.S2816x1024 .f32) (b : Fin 32) (s : Fin 2048) (d : Fin 1024) (j : Cert.ReferenceIdeal.S65536x1024.Idx)
    (h0 : (j 0 : ℕ) = 2048 * b + s) (h1 : (j 1 : ℕ) = d) :
    REF X G Wi Wo j = token (X (ix3 b s d)) (fun k => X (ix3 b s k)) (fun k => G (ix1 k)) (fun f k => Wi (ix2 k ⟨f, by omega⟩))
      (fun f k => Wi (ix2 k ⟨2816 + f, by omega⟩)) (fun f => Wo (ix2 f d)) := by
  have e0 : (⟨(j 0 : ℕ) / 2048, by omega⟩ : Fin 32) = b := Fin.ext (by simp only; omega)
  have e1 : (⟨(j 0 : ℕ) % 2048, by omega⟩ : Fin 2048) = s := Fin.ext (by simp only; omega)
  have e2 : j 1 = d := Fin.ext h1
  pointwise [REF, token, proj, rms, unit, Ideal.logistic]
  simp only [e0, e1, e2]

end Cert.Ffn

end
-- ==== Proof.Ffn.Value.lean ====
module

public import proofs.«01_k».proof.Proof.Ffn.Block
public import proofs.«01_k».proof.Proof.Ffn.Reference
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn
open Cert.KernelIdeal Cert.KernelIdeal.Gen

variable (m : (ℓ : Loc nD τ sig) → Buf (Elt Ideal) ℓ)

/-- The block index of every window at grid point `t`: the token blocks follow `t`, the weights stay. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] :=
  (by decide +kernel : ∀ t : Fin grid0.N, _)

/-- The block's payload at a row and a column, as one token's entry. -/
theorem payload_at (x : FVec Ideal S512x1024 .f32) (g : FVec Ideal S1x1024 .f32) (wg wu : FVec Ideal S1024x2816 .bf16)
    (wo : FVec Ideal S2816x1024 .bf16) (y : S512x1024.Idx) :
    k0_pay17 (F := Ideal) (act (k0_pay1 x g) wg wu) wo x y = token (x (ix2 (y 0) (y 1))) (fun k => x (ix2 (y 0) k)) (fun k => g (ix2 0 k))
      (fun f k => wg (ix2 k f)) (fun f k => wu (ix2 k f)) (fun f => wo (ix2 f (y 1))) := by
  pointwise [k0_pay17, act, k0_pay1, token, proj, rms]

/-- The token block read at a row is the token array read at its batch and position. -/
theorem x_at (c : Dev nD) (t : Fin cfg0.N) (r : Fin 512) (k : Fin 1024) (b : Fin 32) (s : Fin 2048) (h : 2048 * (b : ℕ) + s = 512 * t + r) :
    iblk m c 0 t (ix2 r k) = m ((c : Thread nD τ).loc main_arg0) (ix3 b s k) := by
  blk_ext! [iblk, V, idx t]

/-- The norm's weights, read through the block. -/
theorem g_at (c : Dev nD) (t : Fin cfg0.N) (k : Fin 1024) :
    iblk m c 1 t (ix2 0 k) = m ((c : Thread nD τ).loc main_arg1) (ix1 k) := by
  blk_ext! [iblk, V, idx t]

/-- The gate's weights are the first half of the input weights. -/
theorem wg_at (c : Dev nD) (t : Fin cfg0.N) (k : Fin 1024) (f : Fin 2816) :
    iblk m c 2 t (ix2 k f) = m ((c : Thread nD τ).loc main_arg2) (ix2 k ⟨f, by omega⟩) := by
  blk_ext! [iblk, V, idx t]

/-- The up projection's weights are the second half of the input weights. -/
theorem wu_at (c : Dev nD) (t : Fin cfg0.N) (k : Fin 1024) (f : Fin 2816) :
    iblk m c 3 t (ix2 k f) = m ((c : Thread nD τ).loc main_arg2) (ix2 k ⟨2816 + f, by omega⟩) := by
  blk_ext! [iblk, V, idx t]

/-- The output weights, read through the block. -/
theorem wo_at (c : Dev nD) (t : Fin cfg0.N) (f : Fin 2816) (d : Fin 1024) :
    iblk m c 4 t (ix2 f d) = m ((c : Thread nD τ).loc main_arg3) (ix2 f d) := by
  blk_ext! [iblk, V, idx t]

/-- What grid point `t` writes at block index `y` is the reference at the array index `y` sits at. -/
theorem point (c : Dev nD) (t : Fin cfg0.N) (y : S512x1024.Idx) :
    k0_pay17 (act (k0_pay1 (iblk m c 0 t) (iblk m c 1 t)) (iblk m c 2 t) (iblk m c 3 t)) (iblk m c 4 t) (iblk m c 0 t) y
    = REF (m ((c : Thread nD τ).loc main_arg0)) (m ((c : Thread nD τ).loc main_arg1)) (m ((c : Thread nD τ).loc main_arg2))
        (m ((c : Thread nD τ).loc main_arg3)) (((cfg0.win 5).blk t).view.emb y) := by
  have ht : t.val < 128 := lt_of_lt_of_eq t.isLt N_0
  have hy0 : (y 0 : ℕ) < 512 := (y 0).isLt
  rw [payload_at]
  refine Eq.trans ?_ (REF_at _ _ _ _ ⟨(512 * t.val + y 0) / 2048, by omega⟩ ⟨(512 * t.val + y 0) % 2048, by omega⟩ (y 1) _ ?_ ?_).symm
  · congr 1
    · exact x_at m c t _ _ _ _ (by simp only; omega)
    · funext k; exact x_at m c t _ _ _ _ (by simp only; omega)
    · funext k; exact g_at m c t k
    · funext f k; exact wg_at m c t k f
    · funext f k; exact wu_at m c t k f
    · funext f; exact wo_at m c t f _
  · blk_simp [idx t]; dsimp only; omega
  · blk_simp [idx t] <;> try omega

/-- The result array after the run is the reference's term over the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5, stored]
  exact point m c t y

end Cert.Ffn

end
-- ==== Proof.Ffn.Claims.lean ====
/- The claims about the feed-forward call: its result is the reference's over the reals, and the reference's own frame. -/
module

public import proofs.«01_k».proof.Defs
public import proofs.«01_k».proof.Proof.Ffn.Value
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.Ffn

/-- The kernel's result is the reference's, entry by entry. -/
theorem algebraic : Cert.algebraic_KernelIdeal_ReferenceIdeal := by
  pair_intro
  · run_from Cert.KernelIdeal.Gen.run_main m g
  · run_from Cert.ReferenceIdeal.Value.run m' g'
    exact (final m c).symm

/-- The reference runs, leaves its arguments as they were and every counter at zero. -/
theorem reference_frame : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

end Cert.Ffn

end
-- ==== Proof.Att.Token.lean ====
/- The window attention's values as plain functions of a token's query, its keys and its values. -/
module

public import proofs.«01_k».proof.Proof.Ffn.Token
public import Idealize.ShloMosaic.Lib.Pipeline.ValueKit
public import Idealize.ShloMosaic.Lib.Pointwise
public import Idealize.ShloMosaic.Lib.Claim

@[expose] public section

noncomputable section

open Idealize.ShloMosaic Idealize.ShloMosaic.TcCoe Idealize.SL.Sem

namespace Cert.Att

/-- A head's query, normalised over its 64 entries and multiplied by the gains. -/
def gained (q gain : Fin 64 → EReal) (d : Fin 64) : EReal :=
  q d * Ideal.rsqrt (Ideal.div (∑ e : Fin 64, q e * q e) (Ideal.ofBits .f32 0x42800000#32) + Ideal.ofBits .f32 0x358637BD#32) * gain d

/-- A head's vector with its first half and its second half rotated into one another. -/
def rot (u : Fin 64 → EReal) (co si : Fin 32 → EReal) (d : Fin 64) : EReal :=
  if h : d.val < 32 then u d * co ⟨d, h⟩ - u ⟨d + 32, by omega⟩ * si ⟨d, h⟩
  else u d * co ⟨d - 32, by omega⟩ + u ⟨d - 32, by omega⟩ * si ⟨d - 32, by omega⟩

/-- The greatest of the scores and the sink. -/
def top (sc : Fin 256 → EReal) (sink : EReal) : EReal :=
  max (Finset.univ.fold max (Ideal.ofBits .f32 0xFF800000#32) sc) sink

/-- The sum of the exponentials that the weights are divided by. -/
def denom (sc : Fin 256 → EReal) (sink : EReal) : EReal := (∑ k, Ideal.exp (sc k - top sc sink)) + Ideal.exp (sink - top sc sink)

/-- The values weighted by the exponentials of the scores, the sum multiplied once by the reciprocal of the exponentials' sum. -/
def mix (sc v : Fin 256 → EReal) (sink : EReal) : EReal :=
  (∑ k, Ideal.exp (sc k - top sc sink) * v k) * Ideal.div 1 (denom sc sink)

/-- The values weighted by the exponentials of the scores, every weight divided by the exponentials' sum. -/
def softmaxMix (sc v : Fin 256 → EReal) (sink : EReal) : EReal :=
  ∑ k, Ideal.div (Ideal.exp (sc k - top sc sink)) (denom sc sink) * v k

/-- The lane of a slab that holds entry `d` of the slab's head `j`: the heads' first halves, then their second halves. -/
def col (j : Fin 4) (d : Fin 64) : Fin 256 := ⟨128 * (d / 32) + 32 * j + d % 32, by omega⟩

/-- A sum over the lanes of a slab that keeps one head's lanes is the sum over that head's entries. -/
theorem sum_col (j : Fin 4) (f : Fin 256 → EReal) :
    (∑ l : Fin 256, if (l : ℕ) % 128 / 32 = j then f l else 0) = ∑ d : Fin 64, f (col j d) := by
  rw [← Finset.sum_filter]
  refine (Finset.sum_bij' (fun d _ => col j d) (fun l _ => (⟨32 * (l / 128) + l % 32, by omega⟩ : Fin 64)) ?_ ?_ ?_ ?_ ?_).symm
  · intro d _; simp only [Finset.mem_filter, Finset.mem_univ, true_and, col]; omega
  · intro l _; exact Finset.mem_univ _
  · intro d _; apply Fin.ext; simp only [col]; omega
  · intro l h; simp only [Finset.mem_filter, Finset.mem_univ, true_and] at h; apply Fin.ext; simp only [col]; omega
  · intro d _; rfl

end Cert.Att

end
-- ==== Proof.Att.Block.lean ====
module

public import proofs.«01_k».proof.Proof.Gen.AttKernelIdeal.Value
public import proofs.«01_k».proof.Proof.Att.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen

/-- The index of a lane in each of the rows of a vector register block. -/
abbrev lane : IVec S128x256 32 := iota Kind.tc S128x256 32 [1] iota_S128x256_d1_w32

/-- Which lanes of a slab hold the first, second, third and fourth head's query. -/
abbrev headLanes₀ : IVec S128x256 1 := k0_pay6 k0_pay4 32#32 k0_pay5 0#32
/-- The lanes of the second head's query. -/
abbrev headLanes₁ : IVec S128x256 1 := k0_pay10 (k0_pay7 lane) 32#32 (k0_pay8 lane) (k0_pay9 lane) 0#32
/-- The lanes of the third head's query. -/
abbrev headLanes₂ : IVec S128x256 1 := k0_pay14 (k0_pay11 lane) 32#32 (k0_pay12 lane) (k0_pay13 lane)
/-- The lanes of the fourth head's query. -/
abbrev headLanes₃ : IVec S128x256 1 := k0_pay18 (k0_pay15 lane) 32#32 (k0_pay16 lane) (k0_pay17 lane) 1#32 0#32
/-- The lanes of a slab that take the first head's result. -/
abbrev outLanes₀ : IVec S128x256 1 := k0_pay19 lane
/-- The lanes that take the second head's result. -/
abbrev outLanes₁ : IVec S128x256 1 := k0_pay22 lane 64#32 (k0_pay20 lane) (k0_pay21 lane) 0#32
/-- The lanes that take the third head's result. -/
abbrev outLanes₂ : IVec S128x256 1 := k0_pay23 lane

theorem headLanes₀_at (y : S128x256.Idx) : headLanes₀ y = if (y 1 : ℕ) % 128 / 32 = 0 then 1 else 0 := by
  have H : ∀ l : Fin 256, headLanes₀ (ix2 (0 : Fin 128) l) = if (l : ℕ) % 128 / 32 = 0 then 1 else 0 := by decide +kernel
  exact H (y 1)

theorem headLanes₁_at (y : S128x256.Idx) : headLanes₁ y = if (y 1 : ℕ) % 128 / 32 = 1 then 1 else 0 := by
  have H : ∀ l : Fin 256, headLanes₁ (ix2 (0 : Fin 128) l) = if (l : ℕ) % 128 / 32 = 1 then 1 else 0 := by decide +kernel
  exact H (y 1)

theorem headLanes₂_at (y : S128x256.Idx) : headLanes₂ y = if (y 1 : ℕ) % 128 / 32 = 2 then 1 else 0 := by
  have H : ∀ l : Fin 256, headLanes₂ (ix2 (0 : Fin 128) l) = if (l : ℕ) % 128 / 32 = 2 then 1 else 0 := by decide +kernel
  exact H (y 1)

theorem headLanes₃_at (y : S128x256.Idx) : headLanes₃ y = if (y 1 : ℕ) % 128 / 32 = 3 then 1 else 0 := by
  have H : ∀ l : Fin 256, headLanes₃ (ix2 (0 : Fin 128) l) = if (l : ℕ) % 128 / 32 = 3 then 1 else 0 := by decide +kernel
  exact H (y 1)

theorem outLanes₀_at (y : S128x256.Idx) : outLanes₀ y = if (y 1 : ℕ) / 64 = 0 then 1 else 0 := by
  have H : ∀ l : Fin 256, outLanes₀ (ix2 (0 : Fin 128) l) = if (l : ℕ) / 64 = 0 then 1 else 0 := by decide +kernel
  exact H (y 1)

theorem outLanes₁_at (y : S128x256.Idx) : outLanes₁ y = if (y 1 : ℕ) / 64 = 1 then 1 else 0 := by
  have H : ∀ l : Fin 256, outLanes₁ (ix2 (0 : Fin 128) l) = if (l : ℕ) / 64 = 1 then 1 else 0 := by decide +kernel
  exact H (y 1)

theorem outLanes₂_at (y : S128x256.Idx) : outLanes₂ y = if (y 1 : ℕ) / 64 = 2 then 1 else 0 := by
  have H : ∀ l : Fin 256, outLanes₂ (ix2 (0 : Fin 128) l) = if (l : ℕ) / 64 = 2 then 1 else 0 := by decide +kernel
  exact H (y 1)

/-- One slab's normalised and rotated queries of a block of 256 tokens. -/
abbrev queries (H : FVec Ideal S256x1024 .bf16) (wq : FVec Ideal S1024x256 .bf16) (ind : FVec Ideal S256x256 .bf16) (gain : FVec Ideal S1x256 .f32)
    (co si : FVec Ideal S256x128 .f32) : FVec Ideal S256x256 .f32 := k0_pay24 H wq ind gain co si

/-- The four heads' queries one below the other, each with zeros in the other heads' lanes. -/
def stacked (q : FVec Ideal S128x256 .f32) : FVec Ideal S512x256 .bf16 :=
  truncf .bf16 (concatenate S512x256 0 [⟨S128x256, select headLanes₀ q (broadcast S128x256 (Scalar.ofBits .f32 0x00000000#32))⟩,
    ⟨S128x256, select headLanes₁ q (broadcast S128x256 (Scalar.ofBits .f32 0x00000000#32))⟩,
    ⟨S128x256, select headLanes₂ q (broadcast S128x256 (Scalar.ofBits .f32 0x00000000#32))⟩,
    ⟨S128x256, select headLanes₃ q (broadcast S128x256 (Scalar.ofBits .f32 0x00000000#32))⟩]
    concatenates_S128x256_S128x256_S128x256_S128x256_S512x256_d0) bitsLt_bf16_f32

/-- The masked scores of 128 queries of four heads on 256 keys. -/
def scores (q : FVec Ideal S128x256 .f32) (keys : FVec Ideal S256x256 .bf16) (hidden : FVec Ideal S1x512x256 .f32) : FVec Ideal S512x256 .f32 :=
  addf (matmul dot_S512x256_S256x256_S512x256_1_1_0_0_n_n none (stacked q) keys (constant S512x256 .f32 0x00000000#32))
    (mulf (shapeCast S512x256 hidden shapeCasts_S1x512x256_S512x256) (broadcast S512x256 (Named.named κ "mask" 0xF149F2CA#32)))

/-- The 128 by 256 piece of a slab's result: every head's weighted values in its own lanes. -/
def piece (q : FVec Ideal S128x256 .f32) (keys vals : FVec Ideal S256x256 .bf16) (hidden : FVec Ideal S1x512x256 .f32)
    (sink : FVec Ideal S1x512x1 .f32) : FVec Ideal S128x256 .bf16 :=
  k0_pay38 outLanes₀ outLanes₁ outLanes₂ vals (scores q keys hidden) sink

/-- A select on a decided lane is the choice it states. -/
theorem select_ite (c : Prop) [Decidable c] (a b : EReal) : Scalar.select (if c then (1 : BitVec 1) else 0) a b = if c then a else b := by
  split <;> rfl

/-- The stacked queries: row `128 j + r` holds query `r` of head `j` in that head's lanes and zero in the others. -/
theorem stacked_at (q : FVec Ideal S128x256 .f32) (j : Fin 4) (r : Fin 128) (l : Fin 256) :
    stacked q (ix2 ⟨128 * j + r, by omega⟩ l) = if (l : ℕ) % 128 / 32 = j then q (ix2 r l) else 0 := by
  pointwise [stacked]
  simp only [headLanes₀_at, headLanes₁_at, headLanes₂_at, headLanes₃_at, select_ite]
  have hr := r.isLt
  fin_cases j
  · simp
  · have h1 : ¬ (128 * 1 + (r : ℕ) < 128) := by omega
    have h2 : 128 * 1 + (r : ℕ) - 128 < 128 := by omega
    have h3 : 128 * 1 + (r : ℕ) - 128 = r := by omega
    simp [h1, h2, h3]
  · have h1 : ¬ (128 * 2 + (r : ℕ) < 128) := by omega
    have h2 : ¬ (128 * 2 + (r : ℕ) - 128 < 128) := by omega
    have h3 : 128 * 2 + (r : ℕ) - 128 - 128 < 128 := by omega
    have h4 : 128 * 2 + (r : ℕ) - 128 - 128 = r := by omega
    simp [h1, h2, h3, h4]
  · have h1 : ¬ (128 * 3 + (r : ℕ) < 128) := by omega
    have h2 : ¬ (128 * 3 + (r : ℕ) - 128 < 128) := by omega
    have h3 : ¬ (128 * 3 + (r : ℕ) - 128 - 128 < 128) := by omega
    have h4 : 128 * 3 + (r : ℕ) - 128 - 128 - 128 = r := by omega
    simp [h1, h2, h3, h4]

/-- The scores of query `r` of head `j` of a slab. -/
theorem scores_at (q : FVec Ideal S128x256 .f32) (keys : FVec Ideal S256x256 .bf16) (hidden : FVec Ideal S1x512x256 .f32) (j : Fin 4) (r : Fin 128)
    (k : Fin 256) : scores q keys hidden (ix2 ⟨128 * j + r, by omega⟩ k) =
      (∑ d : Fin 64, q (ix2 r (col j d)) * keys (ix2 k (col j d))) + hidden (ix3 0 ⟨128 * j + r, by omega⟩ k) * ⊥ := by
  have hmask : Named.named (F := Ideal) (φ := .f32) κ "mask" 0xF149F2CA#32 = (⊥ : EReal) := IdealRules.named_const.ideal_named_scalar _ _ _ _ rfl
  pointwise [scores]
  rw [hmask]
  congr 1
  rw [← sum_col j fun l => q (ix2 r l) * keys (ix2 k l)]
  refine Finset.sum_congr rfl fun l _ => ?_
  rw [stacked_at]
  split <;> simp

/-- The last of the block's steps: in each lane the weighted values of the head that the lane belongs to. -/
theorem pay38_at (a b c : IVec S128x256 1) (vals : FVec Ideal S256x256 .bf16) (sc : FVec Ideal S512x256 .f32) (sink : FVec Ideal S1x512x1 .f32)
    (r : Fin 128) (l : Fin 256) : k0_pay38 a b c vals sc sink (ix2 r l) =
      Scalar.select (a (ix2 r l)) (mix (fun k => sc (ix2 ⟨r, by omega⟩ k)) (fun k => vals (ix2 k l)) (sink (ix3 0 ⟨r, by omega⟩ 0)))
      (Scalar.select (b (ix2 r l)) (mix (fun k => sc (ix2 ⟨128 + r, by omega⟩ k)) (fun k => vals (ix2 k l)) (sink (ix3 0 ⟨128 + r, by omega⟩ 0)))
      (Scalar.select (c (ix2 r l)) (mix (fun k => sc (ix2 ⟨256 + r, by omega⟩ k)) (fun k => vals (ix2 k l)) (sink (ix3 0 ⟨256 + r, by omega⟩ 0)))
        (mix (fun k => sc (ix2 ⟨384 + r, by omega⟩ k)) (fun k => vals (ix2 k l)) (sink (ix3 0 ⟨384 + r, by omega⟩ 0))))) := by
  pointwise [k0_pay38, mix, denom, top]

/-- One entry of a piece: the weighted values of query `r` of the lane's head. -/
theorem piece_at (q : FVec Ideal S128x256 .f32) (keys vals : FVec Ideal S256x256 .bf16) (hidden : FVec Ideal S1x512x256 .f32)
    (sink : FVec Ideal S1x512x1 .f32) (r : Fin 128) (l : Fin 256) (j : Fin 4) (hj : (l : ℕ) / 64 = j) :
    piece q keys vals hidden sink (ix2 r l) = mix (fun k => (∑ d : Fin 64, q (ix2 r (col j d)) * keys (ix2 k (col j d))) +
       hidden (ix3 0 ⟨128 * j + r, by omega⟩ k) * ⊥) (fun k => vals (ix2 k l)) (sink (ix3 0 ⟨128 * j + r, by omega⟩ 0)) := by
  simp only [← scores_at]
  rw [piece, pay38_at, outLanes₀_at, outLanes₁_at, outLanes₂_at, select_ite, select_ite, select_ite]
  have e0 : ((ix2 r l : S128x256.Idx) 1 : ℕ) = l := rfl
  simp only [e0, hj]
  fin_cases j <;> simp

/-- The product with the table of equal heads sums a head's squares, and the reciprocal of 64 is the division by 64. -/
theorem mean_col (j : Fin 4) (f : Fin 256 → EReal) (n : ℕ) (hn : n % 128 / 32 = j) :
    (∑ l : Fin 256, (f l * f l) * if (l : ℕ) % 128 / 32 = n % 128 / 32 then 1 else 0) * Ideal.ofBits .f32 0x3C800000#32 =
      Ideal.div (∑ e : Fin 64, f (col j e) * f (col j e)) (Ideal.ofBits .f32 0x42800000#32) := by
  have h1 : Ideal.ofBits .f32 0x42800000#32 = ((64 : ℝ) : EReal) := by simp [Ideal.ofBits, Ideal.ieee, -EReal.coe_mul]; norm_num
  have h2 : Ideal.ofBits .f32 0x3C800000#32 = ((1 / 64 : ℝ) : EReal) := by simp [Ideal.ofBits, Ideal.ieee, -EReal.coe_mul]; norm_num
  rw [h1, h2, Ideal.div_coe (by norm_num), ← sum_col j fun l => f l * f l]
  simp only [hn, mul_ite, mul_one, mul_zero]

/-- A slab's query at the lane of head `j`'s entry `d`: the head's projection, normalised, multiplied by the gains, and rotated. -/
theorem queries_at (H : FVec Ideal S256x1024 .bf16) (wq : FVec Ideal S1024x256 .bf16) (ind : FVec Ideal S256x256 .bf16) (gain : FVec Ideal S1x256 .f32)
    (co si : FVec Ideal S256x128 .f32) (hind : ∀ a b : Fin 256, ind (ix2 a b) = if (a : ℕ) % 128 / 32 = (b : ℕ) % 128 / 32 then 1 else 0)
    (r : Fin 256) (j : Fin 4) (d : Fin 64) :
    queries H wq ind gain co si (ix2 r (col j d)) =
      rot (gained (fun e => ∑ k : Fin 1024, H (ix2 r k) * wq (ix2 k (col j e))) (fun e => gain (ix2 0 (col j e))))
        (fun i => co (ix2 r ⟨32 * j + i, by omega⟩)) (fun i => si (ix2 r ⟨32 * j + i, by omega⟩)) d := by
  pointwise [queries, k0_pay24]
  simp only [hind]
  have key := fun n hn => mean_col j (fun l => ∑ k : Fin 1024, H (ix2 r k) * wq (ix2 k l)) n hn
  have hj := j.isLt
  have hd := d.isLt
  by_cases h : (d : ℕ) < 32
  · have c0 : (col j d : ℕ) < 128 := by simp only [col]; omega
    have e1 : ∀ h', (⟨128 + (col j d : ℕ), h'⟩ : Fin 256) = col j ⟨d + 32, by omega⟩ := fun h' => Fin.ext (by simp only [col]; omega)
    have e2 : ∀ h', (⟨(col j d : ℕ), h'⟩ : Fin 128) = ⟨32 * j + d, by omega⟩ := fun h' => Fin.ext (by simp only [col]; omega)
    rw [dif_pos c0, rot, dif_pos h]
    rw [key _ (by simp only [col]; omega), key _ (by simp only [col]; omega)]
    simp only [e1, e2, gained]
  · have c0 : ¬ (col j d : ℕ) < 128 := by simp only [col]; omega
    have e1 : ∀ h', (⟨128 + ((col j d : ℕ) - 128), h'⟩ : Fin 256) = col j d := fun h' => Fin.ext (by simp only [col]; omega)
    have e2 : ∀ h', (⟨(col j d : ℕ) - 128, h'⟩ : Fin 128) = ⟨32 * j + (d - 32), by omega⟩ := fun h' => Fin.ext (by simp only [col]; omega)
    have e3 : ∀ h', (⟨(col j d : ℕ) - 128, h'⟩ : Fin 256) = col j ⟨d - 32, by omega⟩ := fun h' => Fin.ext (by simp only [col]; omega)
    rw [dif_neg c0, rot, dif_neg h]
    rw [key _ (by simp only [col]; omega), key _ (by simp only [col]; omega)]
    simp only [e1, e2, e3, gained]

end Cert.Att

end
-- ==== Proof.Att.Tables.lean ====
/- What the host's tables hold at an index. -/
module

public import proofs.«01_k».proof.Proof.Att.Block
public import Idealize.ShloMosaic.Lib.StableHlo.ReadAt
public import Idealize.ShloMosaic.Lib.WordCmp
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen WordCmp

variable (m : (ℓ : Loc nD τ sig) → Buf (Elt Ideal) ℓ)

theorem gTable (c : Dev nD) (l : Fin 1024) :
    V m c main_v88 (ix2 0 l) = m ((c : Thread nD τ).loc main_arg1) (ix1 l) := by
  unfold V
  after_reads_at

theorem sinkTable (c : Dev nD) (sl : Fin 4) (i : Fin 512) :
    V m c main_v87 (ix3 sl i 0) = m ((c : Thread nD τ).loc main_arg6) (ix1 ⟨4 * sl + i / 128, by omega⟩) := by
  unfold V
  after_reads_at
  exact congrArg _ (congrArg ix1 (Fin.ext (by dsimp only; omega)))

theorem wqTable (c : Dev nD) (k l : Fin 1024) :
    V m c main_v19 (ix2 k l) = m ((c : Thread nD τ).loc main_arg4) (ix2 k ⟨256 * (l / 256) + 64 * (l % 128 / 32) + 32 * (l % 256 / 128) + l % 32, by omega⟩) := by
  unfold V
  after_reads_at
  exact congrArg _ (congrArg (ix2 k) (Fin.ext (by dsimp only; omega)))

theorem gainTable (c : Dev nD) (l : Fin 256) :
    V m c main_v98 (ix2 0 l) = m ((c : Thread nD τ).loc main_arg5) (ix1 ⟨32 * (l / 128) + l % 32, by omega⟩) := by
  unfold V
  after_reads_at
  split <;> after_reads_at <;> exact congrArg _ (congrArg ix1 (Fin.ext (by dsimp only; omega)))

theorem kTable (c : Dev nD) (b : Fin 32) (s : Fin 2048) (l : Fin 512) :
    V m c main_v10 (ix3 b s l) = m ((c : Thread nD τ).loc main_arg2) (ix4 b s ⟨l / 256, by omega⟩ ⟨32 * (l % 256 / 128) + l % 32, by omega⟩) := by
  unfold V
  after_reads_at
  split <;> after_reads_at <;> exact congrArg _ (congrArg (ix4 b s _) (Fin.ext (by dsimp only; omega)))

theorem vTable (c : Dev nD) (b : Fin 32) (s : Fin 2048) (l : Fin 512) :
    V m c main_v15 (ix3 b s l) = m ((c : Thread nD τ).loc main_arg3) (ix4 b s ⟨l / 256, by omega⟩ ⟨l % 64, by omega⟩) := by
  unfold V
  after_reads_at
  exact congrArg _ (congrArg (ix4 b s _) (Fin.ext (by dsimp only; omega)))

/-- The rotation angle of position `s` and frequency `i`. -/
def angle (s i : ℕ) : EReal :=
  FloatOps.sitofp (F := Ideal) FTy.f32 (BitVec.ofNat 32 s) *
    Ideal.div 1 (Ideal.pow (Ideal.ofBits FTy.f32 0x461C4000#32)
      (Ideal.div (Ideal.ofBits FTy.f32 0x40000000#32 * FloatOps.sitofp (F := Ideal) FTy.f32 (BitVec.ofNat 32 i)) (Ideal.ofBits FTy.f32 0x42800000#32)))

theorem cosTable (c : Dev nD) (s : Fin 2048) (l : Fin 128) :
    V m c main_v42 (ix2 s l) = Ideal.cos (angle s (l % 32)) * Ideal.ofBits FTy.f32 0x3E000000#32 := by
  unfold V
  after_reads_at
  rfl

theorem sinTable (c : Dev nD) (s : Fin 2048) (l : Fin 128) :
    V m c main_v48 (ix2 s l) = Ideal.sin (angle s (l % 32)) * Ideal.ofBits FTy.f32 0x3E000000#32 := by
  unfold V
  after_reads_at
  rfl

theorem hiddenTable (c : Dev nD) (n : Fin 2) (i : Fin 512) (k : Fin 256) :
    V m c main_v83 (ix3 n i k) = if i % 128 < (k : ℕ) ∧ (k : ℕ) ≤ i % 128 + 128 ∧ (n = 1 → 128 ≤ (k : ℕ)) then (0 : EReal) else (1 : EReal) := by
  unfold V
  after_reads_at
  dsimp only [id]
  pointwise
  have hi : (i : ℕ) % 128 < 128 := by omega
  by_cases hn : (n : ℕ) < 1
  · have hn' : ¬ n = 1 := fun h => by subst h; simp at hn
    rw [dif_pos hn]
    after_reads_at
    rw [addi_ofNat, cmpi_sgt_ofNat (by omega) (by omega), cmpi_sle_ofNat (by omega) (by omega)]
    by_cases h1 : (i : ℕ) % 128 < k <;> by_cases h2 : (k : ℕ) ≤ i % 128 + 128 <;>
      simp [h1, h2, hn', IntOp.andi, Scalar.select]
  · have hn' : n = 1 := by omega
    rw [dif_neg hn]
    after_reads_at
    rw [addi_ofNat, cmpi_sgt_ofNat (by omega) (by omega), cmpi_sle_ofNat (by omega) (by omega), cmpi_sge_ofNat (by omega) (by omega)]
    by_cases h1 : (i : ℕ) % 128 < k <;> by_cases h2 : (k : ℕ) ≤ i % 128 + 128 <;> by_cases h3 : 128 ≤ (k : ℕ) <;>
      simp [h1, h2, h3, hn', IntOp.andi, Scalar.select]

/-- The head that lane `i` of a key row belongs to, as the host counts it. -/
theorem laneWord (c : Dev nD) (i : Fin 256) : V m c main_v51 (ix1 i) = BitVec.ofNat 32 (i % 128 / 32) := by
  unfold V
  after_reads_at
  revert i
  decide +kernel

theorem indTable (c : Dev nD) (i k : Fin 256) :
    V m c main_v57 (ix2 i k) = if (i : ℕ) % 128 / 32 = k % 128 / 32 then (1 : EReal) else (0 : EReal) := by
  have e : V m c main_v57 (ix2 i k) = FloatOps.uitofp (F := Ideal) .bf16 (IntOp.cmpi .eq (V m c main_v51 (ix1 i)) (V m c main_v51 (ix1 k))) := by
    unfold V
    after_reads_at
  rw [e, laneWord, laneWord]
  rw [cmpi_eq_ofNat (by omega) (by omega)]
  by_cases h : (i : ℕ) % 128 / 32 = k % 128 / 32
  · rw [if_pos h, decide_eq_true h]
    simp [FloatOps.uitofp]
  · rw [if_neg h, decide_eq_false h]
    simp [FloatOps.uitofp]

end Cert.Att

end
-- ==== Proof.Att.Head.lean ====
/- One head's attention at one token, as a function of the arguments' rows. -/
module

public import proofs.«01_k».proof.Proof.Att.Tables
public import proofs.«01_k».proof.Proof.Ffn.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
/-- Head `h`'s query of the token at position `s`: its projection, normalised and rotated, an eighth of it. -/
def query (x g : Fin 1024 → EReal) (wq : Fin 1024 → Fin 1024 → EReal) (gain : Fin 64 → EReal) (s : ℕ) (h : Fin 16) (d : Fin 64) : EReal :=
  rot (gained (fun e => ∑ k : Fin 1024, (x k * Ffn.rms x * g k) * wq k ⟨64 * h + e, by omega⟩) gain)
    (fun i => Ideal.cos (angle s i) * Ideal.ofBits FTy.f32 0x3E000000#32)
    (fun i => Ideal.sin (angle s i) * Ideal.ofBits FTy.f32 0x3E000000#32) d

/-- The position of key `k` of the 256 that the block of the token at `s` reads; at a sequence's first block the
    first 128 stand for the missing ones. -/
def keyPos (s : Fin 2048) (k : Fin 256) : Fin 2048 :=
  ⟨if (s : ℕ) / 128 = 0 ∧ (k : ℕ) < 128 then k else 128 * (s / 128) + k - 128, by split <;> omega⟩

/-- Key `k` is one of the 128 last positions up to `s`. -/
def Seen (s : Fin 2048) (k : Fin 256) : Prop := (s : ℕ) % 128 < k ∧ (k : ℕ) ≤ s % 128 + 128 ∧ ((s : ℕ) / 128 = 0 → 128 ≤ (k : ℕ))

instance (s : Fin 2048) (k : Fin 256) : Decidable (Seen s k) := inferInstanceAs (Decidable (_ ∧ _ ∧ _))

/-- Entry `d` of a head's attention at the token at position `s`. -/
def attended (q : Fin 64 → EReal) (K W : Fin 2048 → Fin 64 → EReal) (sink : EReal) (s : Fin 2048) (d : Fin 64) : EReal :=
  mix (fun k : Fin 256 => (∑ e : Fin 64, q e * K (keyPos s k) e) + (if Seen s k then 0 else 1) * ⊥) (fun k => W (keyPos s k) d) sink

end Cert.Att

end
-- ==== Proof.Att.Reads.lean ====
/- What the attention's grid points read: every window's block as entries of the arguments or of the host's tables. -/
module

public import proofs.«01_k».proof.Proof.Att.Tables
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen

variable (m : (ℓ : Loc nD τ sig) → Buf (Elt Ideal) ℓ)

/-- The block index of every window at grid point `t`: batch `t / 8`, block of 256 tokens `t % 8`. -/
theorem idx : ∀ t : Fin cfg0.N, win0_0.index t = ![t.val / 8, t.val % 8, 0] ∧ win0_1.index t = ![0, 0] ∧ win0_2.index t = ![0, 0]
    ∧ win0_3.index t = ![t.val % 8, 0] ∧ win0_4.index t = ![t.val % 8, 0] ∧ win0_5.index t = ![0, 0] ∧ win0_6.index t = ![0, 0, 0]
    ∧ win0_7.index t = ![0, 0, 0] ∧ win0_8.index t = ![t.val / 8, 2 * (t.val % 8) - 1, 0] ∧ win0_9.index t = ![t.val / 8, t.val % 8, 0]
    ∧ win0_10.index t = ![t.val / 8, 2 * (t.val % 8) - 1, 0] ∧ win0_11.index t = ![t.val / 8, t.val % 8, 0] ∧ win0_12.index t = ![0, 0]
    ∧ win0_13.index t = ![0, 0] ∧ win0_14.index t = ![t.val / 8, t.val % 8, 0] :=
  (by decide +kernel : ∀ t : Fin grid0.N, _)

theorem x_at (c : Dev nD) (t : Fin cfg0.N) (r : Fin 256) (k : Fin 1024) (b : Fin 32) (s : Fin 2048) (hb : (b : ℕ) = t.val / 8)
    (hs : (s : ℕ) = 256 * (t.val % 8) + r) :
    iblk m c 0 t (ix3 0 r k) = m ((c : Thread nD τ).loc main_arg0) (ix3 b s k) := by
  blk_ext! [iblk, V, idx t]

theorem g_at (c : Dev nD) (t : Fin cfg0.N) (k : Fin 1024) :
    iblk m c 1 t (ix2 0 k) = m ((c : Thread nD τ).loc main_arg1) (ix1 k) := by
  refine Eq.trans ?_ (gTable m c k)
  unfold iblk
  generalize V m c = W
  blk_ext [idx t]

theorem gain_at (c : Dev nD) (t : Fin cfg0.N) (j : Fin 4) (d : Fin 64) :
    iblk m c 2 t (ix2 0 (col j d)) = m ((c : Thread nD τ).loc main_arg5) (ix1 d) := by
  refine Eq.trans (b := V m c main_v98 (ix2 0 (col j d))) (by unfold iblk; generalize V m c = W; blk_ext [idx t]) ((gainTable m c (col j d)).trans ?_)
  exact congrArg _ (congrArg ix1 (Fin.ext (by dsimp only [col]; omega)))

theorem sink_at (c : Dev nD) (t : Fin cfg0.N) (sl : Fin 4) (i : Fin 512) :
    iblk m c 7 t (ix3 sl i 0) = m ((c : Thread nD τ).loc main_arg6) (ix1 ⟨4 * sl + i / 128, by omega⟩) := by
  refine Eq.trans ?_ (sinkTable m c sl i)
  unfold iblk
  generalize V m c = W
  blk_ext [idx t]

theorem cos_at (c : Dev nD) (t : Fin cfg0.N) (r : Fin 256) (l : Fin 128) :
    iblk m c 3 t (ix2 r l) = Ideal.cos (angle (256 * (t.val % 8) + r) (l % 32)) * Ideal.ofBits FTy.f32 0x3E000000#32 := by
  refine Eq.trans ?_ (cosTable m c ⟨256 * (t.val % 8) + r, by omega⟩ l)
  unfold iblk
  generalize V m c = W
  blk_ext [idx t]

theorem sin_at (c : Dev nD) (t : Fin cfg0.N) (r : Fin 256) (l : Fin 128) :
    iblk m c 4 t (ix2 r l) = Ideal.sin (angle (256 * (t.val % 8) + r) (l % 32)) * Ideal.ofBits FTy.f32 0x3E000000#32 := by
  refine Eq.trans ?_ (sinTable m c ⟨256 * (t.val % 8) + r, by omega⟩ l)
  unfold iblk
  generalize V m c = W
  blk_ext [idx t]

theorem ind_at (c : Dev nD) (t : Fin cfg0.N) (i k : Fin 256) :
    iblk m c 5 t (ix2 i k) = if (i : ℕ) % 128 / 32 = k % 128 / 32 then (1 : EReal) else (0 : EReal) := by
  refine Eq.trans ?_ (indTable m c i k)
  unfold iblk
  generalize V m c = W
  blk_ext [idx t]

theorem hidden_at (c : Dev nD) (t : Fin cfg0.N) (n : Fin 2) (i : Fin 512) (k : Fin 256) :
    iblk m c 6 t (ix3 n i k) = if i % 128 < (k : ℕ) ∧ (k : ℕ) ≤ i % 128 + 128 ∧ (n = 1 → 128 ≤ (k : ℕ)) then (0 : EReal) else (1 : EReal) := by
  refine Eq.trans ?_ (hiddenTable m c n i k)
  unfold iblk
  generalize V m c = W
  blk_ext [idx t]

theorem wq_at (c : Dev nD) (t : Fin cfg0.N) (k : Fin 1024) (sl j : Fin 4) (d : Fin 64) (l : Fin 1024) (hl : (l : ℕ) = 256 * sl + col j d) :
    iblk m c 12 t (ix2 k l) = m ((c : Thread nD τ).loc main_arg4) (ix2 k ⟨256 * sl + 64 * j + d, by omega⟩) := by
  refine Eq.trans (b := V m c main_v19 (ix2 k l)) (by unfold iblk; generalize V m c = W; blk_ext [idx t]) ((wqTable m c k l).trans ?_)
  dsimp only [col] at hl
  exact congrArg _ (congrArg (ix2 k) (Fin.ext (by dsimp only; omega)))

theorem wo_at (c : Dev nD) (t : Fin cfg0.N) (f : Fin 1024) (d : Fin 1024) :
    iblk m c 13 t (ix2 f d) = m ((c : Thread nD τ).loc main_arg7) (ix2 f d) := by
  blk_ext! [iblk, V, idx t]

end Cert.Att

end
-- ==== Proof.Att.ReadsK.lean ====
/- What the attention's grid points read: the keys' blocks. -/
module

public import proofs.«01_k».proof.Proof.Att.Reads
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen

variable (m : (ℓ : Loc nD τ sig) → Buf (Elt Ideal) ℓ)

/-- The keys of the 128 tokens before the block; of the first 128 at a sequence's first block. -/
theorem kprev_at (c : Dev nD) (t : Fin cfg0.N) (r : Fin 128) (l : Fin 512) (b : Fin 32) (s : Fin 2048) (hb : (b : ℕ) = t.val / 8)
    (hs : (s : ℕ) = 128 * (2 * (t.val % 8) - 1) + r) :
    iblk m c 8 t (ix3 0 r l) = m ((c : Thread nD τ).loc main_arg2)
      (ix4 b s ⟨l / 256, by omega⟩ ⟨32 * (l % 256 / 128) + l % 32, by omega⟩) := by
  refine Eq.trans ?_ (kTable m c b s l)
  unfold iblk
  generalize V m c = W
  blk_ext [idx t]

theorem kcur_at (c : Dev nD) (t : Fin cfg0.N) (r : Fin 256) (l : Fin 512) (b : Fin 32) (s : Fin 2048) (hb : (b : ℕ) = t.val / 8)
    (hs : (s : ℕ) = 256 * (t.val % 8) + r) :
    iblk m c 9 t (ix3 0 r l) = m ((c : Thread nD τ).loc main_arg2)
      (ix4 b s ⟨l / 256, by omega⟩ ⟨32 * (l % 256 / 128) + l % 32, by omega⟩) := by
  refine Eq.trans ?_ (kTable m c b s l)
  unfold iblk
  generalize V m c = W
  blk_ext [idx t]

end Cert.Att

end
-- ==== Proof.Att.ReadsV.lean ====
/- What the attention's grid points read: the values' blocks. -/
module

public import proofs.«01_k».proof.Proof.Att.Reads
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen

variable (m : (ℓ : Loc nD τ sig) → Buf (Elt Ideal) ℓ)

/-- The values of the 128 tokens before the block; of the first 128 at a sequence's first block. -/
theorem vprev_at (c : Dev nD) (t : Fin cfg0.N) (r : Fin 128) (l : Fin 512) (b : Fin 32) (s : Fin 2048) (hb : (b : ℕ) = t.val / 8)
    (hs : (s : ℕ) = 128 * (2 * (t.val % 8) - 1) + r) :
    iblk m c 10 t (ix3 0 r l) = m ((c : Thread nD τ).loc main_arg3)
      (ix4 b s ⟨l / 256, by omega⟩ ⟨l % 64, by omega⟩) := by
  refine Eq.trans ?_ (vTable m c b s l)
  unfold iblk
  generalize V m c = W
  blk_ext [idx t]

theorem vcur_at (c : Dev nD) (t : Fin cfg0.N) (r : Fin 256) (l : Fin 512) (b : Fin 32) (s : Fin 2048) (hb : (b : ℕ) = t.val / 8)
    (hs : (s : ℕ) = 256 * (t.val % 8) + r) :
    iblk m c 11 t (ix3 0 r l) = m ((c : Thread nD τ).loc main_arg3)
      (ix4 b s ⟨l / 256, by omega⟩ ⟨l % 64, by omega⟩) := by
  refine Eq.trans ?_ (vTable m c b s l)
  unfold iblk
  generalize V m c = W
  blk_ext [idx t]

end Cert.Att

end
-- ==== Proof.Att.Stored.lean ====
/- What a grid point of the attention leaves in the scratch it multiplies by the output weights: every head's attention. -/
module

public import proofs.«01_k».proof.Proof.Att.Head
public import proofs.«01_k».proof.Proof.Att.ReadsK
public import proofs.«01_k».proof.Proof.Att.ReadsV
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen

variable (m : (ℓ : Loc nD τ sig) → Buf (Elt Ideal) ℓ)

/-- The normalised block of 256 tokens. -/
theorem normed_at (x : FVec Ideal S1x256x1024 .f32) (g : FVec Ideal S1x1024 .f32) (r : Fin 256) (k : Fin 1024) :
    k0_pay3 (F := Ideal) x g (ix2 r k) = x (ix3 0 r k) * Ffn.rms (fun k => x (ix3 0 r k)) * g (ix2 0 k) := by
  pointwise [k0_pay3, Ffn.rms]

theorem firstKeys_at (a b : FVec Ideal S1x128x256 .bf16) (k l : Fin 256) :
    k0_pay28 (F := Ideal) a b (ix2 k l) = if h : (k : ℕ) < 128 then a (ix3 0 ⟨k, h⟩ l) else b (ix3 0 ⟨k - 128, by omega⟩ l) := by
  pointwise [k0_pay28]

theorem laterKeys_at (a : FVec Ideal S1x256x256 .bf16) (k l : Fin 256) : k0_pay36 (F := Ideal) a (ix2 k l) = a (ix3 0 k l) := by
  pointwise [k0_pay36]

/-- Entry `d` of head `h`'s attention at token `s` of sequence `b`; `g` is the head's group of keys and values. -/
def entry (c : Dev nD) (b : Fin 32) (s : Fin 2048) (g : Fin 2) (h : Fin 16) (d : Fin 64) : EReal :=
  attended
    (query (fun k => m ((c : Thread nD τ).loc main_arg0) (ix3 b s k)) (fun k => m ((c : Thread nD τ).loc main_arg1) (ix1 k))
      (fun k l => m ((c : Thread nD τ).loc main_arg4) (ix2 k l)) (fun e => m ((c : Thread nD τ).loc main_arg5) (ix1 e)) s h)
    (fun p e => m ((c : Thread nD τ).loc main_arg2) (ix4 b p g e)) (fun p e => m ((c : Thread nD τ).loc main_arg3) (ix4 b p g e))
    (m ((c : Thread nD τ).loc main_arg6) (ix1 h)) s d

/-- The slab's columns of the query weights. -/
theorem wqSlab (c : Dev nD) (t : Fin cfg0.N) (sl : Fin 4) (o : Fin 2 → ℕ) (inb) (ho : o = ![0, 256 * (sl : ℕ)]) (k : Fin 1024) (j : Fin 4) (d : Fin 64) :
    View.ld (iblk m c 12 t) (Rect.unit (s := S1024x1024) o ![1024, 256] inb) (ix2 k (col j d)) =
      m ((c : Thread nD τ).loc main_arg4) (ix2 k ⟨256 * sl + 64 * j + d, by omega⟩) := by
  have e : (Rect.unit (s := S1024x1024) o ![1024, 256] inb).idx (ix2 k (col j d)) = ix2 k ⟨256 * sl + col j d, by omega⟩ := by
    subst ho
    funext a
    apply Fin.ext
    rw [Rect.idx_unit_val]
    fin_cases a <;> simp
  exact (congrArg (iblk m c 12 t) e).trans (wq_at m c t k sl j d _ rfl)

/-- The slab's queries at the row of a token. -/
theorem querySlab (c : Dev nD) (t : Fin cfg0.N) (sl : Fin 4) (o : Fin 2 → ℕ) (inb) (ho : o = ![0, 256 * (sl : ℕ)]) (n : Fin 256) (j : Fin 4) (e : Fin 64)
    (b : Fin 32) (s : Fin 2048) (hb : (b : ℕ) = t.val / 8) (hs : (s : ℕ) = 256 * (t.val % 8) + n) (h : Fin 16) (hh : (h : ℕ) = 4 * sl + j) :
    queries (k0_pay3 (iblk m c 0 t) (iblk m c 1 t)) (View.ld (iblk m c 12 t) (Rect.unit (s := S1024x1024) o ![1024, 256] inb))
      (iblk m c 5 t) (iblk m c 2 t) (iblk m c 3 t) (iblk m c 4 t) (ix2 n (col j e)) =
    query (fun k => m ((c : Thread nD τ).loc main_arg0) (ix3 b s k)) (fun k => m ((c : Thread nD τ).loc main_arg1) (ix1 k))
      (fun k l => m ((c : Thread nD τ).loc main_arg4) (ix2 k l)) (fun e => m ((c : Thread nD τ).loc main_arg5) (ix1 e)) s h e := by
  rw [queries_at (hind := ind_at m c t)]
  simp only [normed_at, wqSlab m c t sl o inb ho, x_at m c t n _ b s hb hs, g_at, gain_at, cos_at, sin_at]
  unfold query
  rw [hs]
  have hc : ∀ d : Fin 64, (⟨256 * sl + 64 * j + d, by omega⟩ : Fin 1024) = ⟨64 * h + d, by omega⟩ := fun d => Fin.ext (by dsimp only; omega)
  simp only [hc]
  have hl : ∀ i : Fin 32, (32 * (j : ℕ) + i) % 32 = i := fun i => by omega
  simp only [hl]

/-- The group's keys before the block. -/
theorem kprevSlab (c : Dev nD) (t : Fin cfg0.N) (g : Fin 2) (o : Fin 3 → ℕ) (inb) (ho : o = ![0, 0, 256 * (g : ℕ)]) (r : Fin 128) (j : Fin 4) (e : Fin 64)
    (b : Fin 32) (s : Fin 2048) (hb : (b : ℕ) = t.val / 8) (hs : (s : ℕ) = 128 * (2 * (t.val % 8) - 1) + r) :
    View.ld (iblk m c 8 t) (Rect.unit (s := S1x128x512) o ![1, 128, 256] inb) (ix3 0 r (col j e)) = m ((c : Thread nD τ).loc main_arg2) (ix4 b s g e) := by
  have i : (Rect.unit (s := S1x128x512) o ![1, 128, 256] inb).idx (ix3 0 r (col j e)) = ix3 0 ⟨r, by omega⟩ ⟨256 * g + col j e, by omega⟩ := by
    subst ho
    funext a
    apply Fin.ext
    rw [Rect.idx_unit_val]
    fin_cases a <;> simp
  refine (congrArg (iblk m c 8 t) i).trans ((kprev_at m c t ⟨r, by omega⟩ ⟨256 * g + col j e, by omega⟩ b s hb hs).trans ?_)
  have hj := j.isLt
  have he := e.isLt
  exact congrArg _ (congrArg₂ (ix4 b s) (Fin.ext (by dsimp only [col]; omega)) (Fin.ext (by dsimp only [col]; omega)))

/-- The group's keys of the block's first 128 tokens. -/
theorem kfirstSlab (c : Dev nD) (t : Fin cfg0.N) (g : Fin 2) (o : Fin 3 → ℕ) (inb) (ho : o = ![0, 0, 256 * (g : ℕ)]) (r : Fin 128) (j : Fin 4) (e : Fin 64)
    (b : Fin 32) (s : Fin 2048) (hb : (b : ℕ) = t.val / 8) (hs : (s : ℕ) = 256 * (t.val % 8) + r) :
    View.ld (iblk m c 9 t) (Rect.unit (s := S1x256x512) o ![1, 128, 256] inb) (ix3 0 r (col j e)) = m ((c : Thread nD τ).loc main_arg2) (ix4 b s g e) := by
  have i : (Rect.unit (s := S1x256x512) o ![1, 128, 256] inb).idx (ix3 0 r (col j e)) = ix3 0 ⟨r, by omega⟩ ⟨256 * g + col j e, by omega⟩ := by
    subst ho
    funext a
    apply Fin.ext
    rw [Rect.idx_unit_val]
    fin_cases a <;> simp
  refine (congrArg (iblk m c 9 t) i).trans ((kcur_at m c t ⟨r, by omega⟩ ⟨256 * g + col j e, by omega⟩ b s hb hs).trans ?_)
  have hj := j.isLt
  have he := e.isLt
  exact congrArg _ (congrArg₂ (ix4 b s) (Fin.ext (by dsimp only [col]; omega)) (Fin.ext (by dsimp only [col]; omega)))

/-- The group's keys of the block. -/
theorem kcurSlab (c : Dev nD) (t : Fin cfg0.N) (g : Fin 2) (o : Fin 3 → ℕ) (inb) (ho : o = ![0, 0, 256 * (g : ℕ)]) (r : Fin 256) (j : Fin 4) (e : Fin 64)
    (b : Fin 32) (s : Fin 2048) (hb : (b : ℕ) = t.val / 8) (hs : (s : ℕ) = 256 * (t.val % 8) + r) :
    View.ld (iblk m c 9 t) (Rect.unit (s := S1x256x512) o ![1, 256, 256] inb) (ix3 0 r (col j e)) = m ((c : Thread nD τ).loc main_arg2) (ix4 b s g e) := by
  have i : (Rect.unit (s := S1x256x512) o ![1, 256, 256] inb).idx (ix3 0 r (col j e)) = ix3 0 ⟨r, by omega⟩ ⟨256 * g + col j e, by omega⟩ := by
    subst ho
    funext a
    apply Fin.ext
    rw [Rect.idx_unit_val]
    fin_cases a <;> simp
  refine (congrArg (iblk m c 9 t) i).trans ((kcur_at m c t ⟨r, by omega⟩ ⟨256 * g + col j e, by omega⟩ b s hb hs).trans ?_)
  have hj := j.isLt
  have he := e.isLt
  exact congrArg _ (congrArg₂ (ix4 b s) (Fin.ext (by dsimp only [col]; omega)) (Fin.ext (by dsimp only [col]; omega)))

/-- The group's values before the block. -/
theorem vprevSlab (c : Dev nD) (t : Fin cfg0.N) (g : Fin 2) (o : Fin 3 → ℕ) (inb) (ho : o = ![0, 0, 256 * (g : ℕ)]) (r : Fin 128) (j : Fin 4) (e : Fin 64) (l : Fin 256) (hl : (l : ℕ) = 64 * j + e)
    (b : Fin 32) (s : Fin 2048) (hb : (b : ℕ) = t.val / 8) (hs : (s : ℕ) = 128 * (2 * (t.val % 8) - 1) + r) :
    View.ld (iblk m c 10 t) (Rect.unit (s := S1x128x512) o ![1, 128, 256] inb) (ix3 0 r l) = m ((c : Thread nD τ).loc main_arg3) (ix4 b s g e) := by
  have i : (Rect.unit (s := S1x128x512) o ![1, 128, 256] inb).idx (ix3 0 r l) = ix3 0 ⟨r, by omega⟩ ⟨256 * g + l, by omega⟩ := by
    subst ho
    funext a
    apply Fin.ext
    rw [Rect.idx_unit_val]
    fin_cases a <;> simp
  refine (congrArg (iblk m c 10 t) i).trans ((vprev_at m c t ⟨r, by omega⟩ ⟨256 * g + l, by omega⟩ b s hb hs).trans ?_)
  have hj := j.isLt
  have he := e.isLt
  exact congrArg _ (congrArg₂ (ix4 b s) (Fin.ext (by dsimp only [col]; omega)) (Fin.ext (by dsimp only [col]; omega)))

/-- The group's values of the block's first 128 tokens. -/
theorem vfirstSlab (c : Dev nD) (t : Fin cfg0.N) (g : Fin 2) (o : Fin 3 → ℕ) (inb) (ho : o = ![0, 0, 256 * (g : ℕ)]) (r : Fin 128) (j : Fin 4) (e : Fin 64) (l : Fin 256) (hl : (l : ℕ) = 64 * j + e)
    (b : Fin 32) (s : Fin 2048) (hb : (b : ℕ) = t.val / 8) (hs : (s : ℕ) = 256 * (t.val % 8) + r) :
    View.ld (iblk m c 11 t) (Rect.unit (s := S1x256x512) o ![1, 128, 256] inb) (ix3 0 r l) = m ((c : Thread nD τ).loc main_arg3) (ix4 b s g e) := by
  have i : (Rect.unit (s := S1x256x512) o ![1, 128, 256] inb).idx (ix3 0 r l) = ix3 0 ⟨r, by omega⟩ ⟨256 * g + l, by omega⟩ := by
    subst ho
    funext a
    apply Fin.ext
    rw [Rect.idx_unit_val]
    fin_cases a <;> simp
  refine (congrArg (iblk m c 11 t) i).trans ((vcur_at m c t ⟨r, by omega⟩ ⟨256 * g + l, by omega⟩ b s hb hs).trans ?_)
  have hj := j.isLt
  have he := e.isLt
  exact congrArg _ (congrArg₂ (ix4 b s) (Fin.ext (by dsimp only [col]; omega)) (Fin.ext (by dsimp only [col]; omega)))

/-- The group's values of the block. -/
theorem vcurSlab (c : Dev nD) (t : Fin cfg0.N) (g : Fin 2) (o : Fin 3 → ℕ) (inb) (ho : o = ![0, 0, 256 * (g : ℕ)]) (r : Fin 256) (j : Fin 4) (e : Fin 64) (l : Fin 256) (hl : (l : ℕ) = 64 * j + e)
    (b : Fin 32) (s : Fin 2048) (hb : (b : ℕ) = t.val / 8) (hs : (s : ℕ) = 256 * (t.val % 8) + r) :
    View.ld (iblk m c 11 t) (Rect.unit (s := S1x256x512) o ![1, 256, 256] inb) (ix3 0 r l) = m ((c : Thread nD τ).loc main_arg3) (ix4 b s g e) := by
  have i : (Rect.unit (s := S1x256x512) o ![1, 256, 256] inb).idx (ix3 0 r l) = ix3 0 ⟨r, by omega⟩ ⟨256 * g + l, by omega⟩ := by
    subst ho
    funext a
    apply Fin.ext
    rw [Rect.idx_unit_val]
    fin_cases a <;> simp
  refine (congrArg (iblk m c 11 t) i).trans ((vcur_at m c t ⟨r, by omega⟩ ⟨256 * g + l, by omega⟩ b s hb hs).trans ?_)
  have hj := j.isLt
  have he := e.isLt
  exact congrArg _ (congrArg₂ (ix4 b s) (Fin.ext (by dsimp only [col]; omega)) (Fin.ext (by dsimp only [col]; omega)))

/-- The slab's sinks. -/
theorem sinkSlab (c : Dev nD) (t : Fin cfg0.N) (sl : Fin 4) (o : Fin 3 → ℕ) (inb) (ho : o = ![(sl : ℕ), 0, 0]) (i : Fin 512) (h : Fin 16)
    (hh : (h : ℕ) = 4 * sl + i / 128) :
    View.ld (iblk m c 7 t) (Rect.unit (s := S4x512x1) o ![1, 512, 1] inb) (ix3 0 i 0) = m ((c : Thread nD τ).loc main_arg6) (ix1 h) := by
  have e : (Rect.unit (s := S4x512x1) o ![1, 512, 1] inb).idx (ix3 0 i 0) = ix3 sl i 0 := by
    subst ho
    funext a
    apply Fin.ext
    rw [Rect.idx_unit_val]
    fin_cases a <;> simp
  refine (congrArg (iblk m c 7 t) e).trans ((sink_at m c t sl i).trans ?_)
  exact congrArg _ (congrArg ix1 (Fin.ext hh.symm))

/-- The table of hidden keys that the block reads: number `n`. -/
theorem hiddenSlab (c : Dev nD) (t : Fin cfg0.N) (n : Fin 2) (o : Fin 3 → ℕ) (inb) (ho : o = ![(n : ℕ), 0, 0]) (i : Fin 512) (k : Fin 256) :
    View.ld (iblk m c 6 t) (Rect.unit (s := S2x512x256) o ![1, 512, 256] inb) (ix3 0 i k) =
      if i % 128 < (k : ℕ) ∧ (k : ℕ) ≤ i % 128 + 128 ∧ (n = 1 → 128 ≤ (k : ℕ)) then (0 : EReal) else (1 : EReal) := by
  have e : (Rect.unit (s := S2x512x256) o ![1, 512, 256] inb).idx (ix3 0 i k) = ix3 n i k := by
    subst ho
    funext a
    apply Fin.ext
    rw [Rect.idx_unit_val]
    fin_cases a <;> simp
  exact (congrArg (iblk m c 6 t) e).trans (hidden_at m c t n i k)

/-- The first block of a sequence reads the second table, every other the first. -/
theorem firstTable : ∀ t : Fin cfg0.N, k0_off1 (grid0.coords t) = ![if t.val % 8 = 0 then 1 else 0, 0, 0] :=
  (by decide +kernel : ∀ t : Fin grid0.N, _)

/-- A slab's piece at a lane is the attention of the lane's head, where its operands are the head's. -/
theorem piece_entry (c : Dev nD) (j : Fin 4) (g : Fin 2) (h : Fin 16) (d : Fin 64) (r : Fin 128) (l : Fin 256) (hl : (l : ℕ) = 64 * j + d) (b : Fin 32) (s : Fin 2048)
    (q : FVec Ideal S128x256 .f32) (keys vals : FVec Ideal S256x256 .bf16) (hidden : FVec Ideal S1x512x256 .f32) (sink : FVec Ideal S1x512x1 .f32)
    (hq : ∀ e, q (ix2 r (col j e)) = query (fun k => m ((c : Thread nD τ).loc main_arg0) (ix3 b s k))
      (fun k => m ((c : Thread nD τ).loc main_arg1) (ix1 k)) (fun k l => m ((c : Thread nD τ).loc main_arg4) (ix2 k l))
      (fun e => m ((c : Thread nD τ).loc main_arg5) (ix1 e)) s h e)
    (hk : ∀ k e, keys (ix2 k (col j e)) = m ((c : Thread nD τ).loc main_arg2) (ix4 b (keyPos s k) g e))
    (hv : ∀ k, vals (ix2 k l) = m ((c : Thread nD τ).loc main_arg3) (ix4 b (keyPos s k) g d))
    (hd : ∀ k, hidden (ix3 0 ⟨128 * j + r, by omega⟩ k) = if Seen s k then (0 : EReal) else (1 : EReal))
    (hsi : sink (ix3 0 ⟨128 * j + r, by omega⟩ 0) = m ((c : Thread nD τ).loc main_arg6) (ix1 h)) :
    piece q keys vals hidden sink (ix2 r l) = entry m c b s g h d := by
  rw [piece_at (hj := (by omega : (l : ℕ) / 64 = j))]
  simp only [hq, hk, hv, hd, hsi]
  rfl

/-- The first 128 tokens of a block: a slab's piece holds the attention of the lane's head. -/
theorem firstPiece (c : Dev nD) (t : Fin cfg0.N) (sl j : Fin 4) (g : Fin 2) (hg : (g : ℕ) = (sl : ℕ) / 2) (r : Fin 128) (l : Fin 256) (h : Fin 16) (d : Fin 64)
    (hh : (h : ℕ) = 4 * sl + j) (hl : (l : ℕ) = 64 * j + d) (b : Fin 32) (s : Fin 2048) (hb : (b : ℕ) = t.val / 8)
    (hs : (s : ℕ) = 256 * (t.val % 8) + r) (o12 : Fin 2 → ℕ) (i12) (h12 : o12 = ![0, 256 * (sl : ℕ)]) (o : Fin 3 → ℕ) (ip ic) (ho : o = ![0, 0, 256 * (g : ℕ)])
    (o7 : Fin 3 → ℕ) (i7) (h7 : o7 = ![(sl : ℕ), 0, 0]) (i6) :
    piece (extractStridedSlice S128x256 ![0, 0] (queries (k0_pay3 (iblk m c 0 t) (iblk m c 1 t)) (View.ld (iblk m c 12 t) (Rect.unit (s := S1024x1024) o12 ![1024, 256] i12))
        (iblk m c 5 t) (iblk m c 2 t) (iblk m c 3 t) (iblk m c 4 t)) slices_S256x256_o0_0_S128x256)
      (k0_pay28 (View.ld (iblk m c 8 t) (Rect.unit (s := S1x128x512) o ![1, 128, 256] ip)) (View.ld (iblk m c 9 t) (Rect.unit (s := S1x256x512) o ![1, 128, 256] ic)))
      (k0_pay28 (View.ld (iblk m c 10 t) (Rect.unit (s := S1x128x512) o ![1, 128, 256] ip)) (View.ld (iblk m c 11 t) (Rect.unit (s := S1x256x512) o ![1, 128, 256] ic)))
      (View.ld (iblk m c 6 t) (Rect.unit (s := S2x512x256) (k0_off1 (grid0.coords t)) ![1, 512, 256] i6))
      (View.ld (iblk m c 7 t) (Rect.unit (s := S4x512x1) o7 ![1, 512, 1] i7)) (ix2 r l) = entry m c b s g h d := by
  have hr := r.isLt
  have hj := j.isLt
  have hd := d.isLt
  refine piece_entry m c j g h d r l hl b s _ _ _ _ _ (fun e => Eq.trans (by pointwise) (querySlab m c t sl o12 i12 h12 ⟨r, by omega⟩ j e b s hb hs h hh)) ?_ ?_ ?_
    (sinkSlab m c t sl o7 i7 h7 _ h (by dsimp only; omega))
  · intro k e
    rw [firstKeys_at]
    split
    · exact kprevSlab m c t g o ip ho _ j e b (keyPos s k) hb (by dsimp only [keyPos]; split <;> omega)
    · exact kfirstSlab m c t g o ic ho _ j e b (keyPos s k) hb (by dsimp only [keyPos]; split <;> omega)
  · intro k
    rw [firstKeys_at]
    split
    · exact vprevSlab m c t g o ip ho _ j d l hl b (keyPos s k) hb (by dsimp only [keyPos]; split <;> omega)
    · exact vfirstSlab m c t g o ic ho _ j d l hl b (keyPos s k) hb (by dsimp only [keyPos]; split <;> omega)
  · intro k
    rw [hiddenSlab m c t (if t.val % 8 = 0 then 1 else 0) _ i6 ((firstTable t).trans (by split <;> rfl))]
    refine if_congr ?_ rfl rfl
    unfold Seen
    by_cases h0 : t.val % 8 = 0 <;> simp only [h0, if_true, if_false] <;> (try dsimp only) <;> constructor <;> rintro ⟨h1, h2, h3⟩ <;> refine ⟨by omega, by omega, fun h4 => ?_⟩
    · exact h3 trivial
    · exact h3 (by omega)
    · omega
    · exact absurd h4 (by decide)

/-- The last 128 tokens of a block: a slab's piece holds the attention of the lane's head. -/
theorem laterPiece (c : Dev nD) (t : Fin cfg0.N) (sl j : Fin 4) (g : Fin 2) (hg : (g : ℕ) = (sl : ℕ) / 2) (r : Fin 128) (l : Fin 256) (h : Fin 16) (d : Fin 64)
    (hh : (h : ℕ) = 4 * sl + j) (hl : (l : ℕ) = 64 * j + d) (b : Fin 32) (s : Fin 2048) (hb : (b : ℕ) = t.val / 8)
    (hs : (s : ℕ) = 256 * (t.val % 8) + (128 + r)) (o12 : Fin 2 → ℕ) (i12) (h12 : o12 = ![0, 256 * (sl : ℕ)]) (o : Fin 3 → ℕ) (ic) (ho : o = ![0, 0, 256 * (g : ℕ)])
    (o7 : Fin 3 → ℕ) (i7) (h7 : o7 = ![(sl : ℕ), 0, 0]) (i6) :
    piece (extractStridedSlice S128x256 ![128, 0] (queries (k0_pay3 (iblk m c 0 t) (iblk m c 1 t)) (View.ld (iblk m c 12 t) (Rect.unit (s := S1024x1024) o12 ![1024, 256] i12))
        (iblk m c 5 t) (iblk m c 2 t) (iblk m c 3 t) (iblk m c 4 t)) slices_S256x256_o128_0_S128x256)
      (k0_pay36 (View.ld (iblk m c 9 t) (Rect.unit (s := S1x256x512) o ![1, 256, 256] ic)))
      (k0_pay36 (View.ld (iblk m c 11 t) (Rect.unit (s := S1x256x512) o ![1, 256, 256] ic)))
      (View.ld (iblk m c 6 t) (Rect.unit (s := S2x512x256) ![0, 0, 0] ![1, 512, 256] i6))
      (View.ld (iblk m c 7 t) (Rect.unit (s := S4x512x1) o7 ![1, 512, 1] i7)) (ix2 r l) = entry m c b s g h d := by
  have hr := r.isLt
  have hj := j.isLt
  have hd := d.isLt
  refine piece_entry m c j g h d r l hl b s _ _ _ _ _ (fun e => Eq.trans (by pointwise) (querySlab m c t sl o12 i12 h12 ⟨128 + r, by omega⟩ j e b s hb hs h hh)) ?_ ?_ ?_
    (sinkSlab m c t sl o7 i7 h7 _ h (by dsimp only; omega))
  · intro k e
    rw [laterKeys_at]
    exact kcurSlab m c t g o ic ho _ j e b (keyPos s k) hb (by dsimp only [keyPos]; split <;> omega)
  · intro k
    rw [laterKeys_at]
    exact vcurSlab m c t g o ic ho _ j d l hl b (keyPos s k) hb (by dsimp only [keyPos]; split <;> omega)
  · intro k
    rw [hiddenSlab m c t 0 _ i6 rfl]
    refine if_congr ?_ rfl rfl
    unfold Seen
    dsimp only
    constructor <;> rintro ⟨h1, h2, h3⟩ <;> refine ⟨by omega, by omega, fun h4 => ?_⟩
    · omega
    · exact absurd h4 (by decide)

end Cert.Att

end
-- ==== Proof.Att.Result.lean ====
/- The attention's result at a grid point. -/
module

public import proofs.«01_k».proof.Proof.Att.Stored
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen

variable (m : (ℓ : Loc nD τ sig) → Buf (Elt Ideal) ℓ)

/-- Every head's attention of the 256 tokens of grid point `t`, the heads side by side. -/
def attBlock (c : Dev nD) (t : Fin cfg0.N) : FVec Ideal S256x1024 .bf16 := fun y =>
  entry m c ⟨t.val / 8, by have := t.isLt; change t.val < 256 at this; omega⟩ ⟨256 * (t.val % 8) + y 0, by have : (y 0).val < 256 := (y 0).isLt; omega⟩
    ⟨(y 1 : ℕ) / 512, by have : (y 1).val < 1024 := (y 1).isLt; omega⟩ ⟨(y 1 : ℕ) / 64, by have : (y 1).val < 1024 := (y 1).isLt; omega⟩
    ⟨(y 1 : ℕ) % 64, by omega⟩

/-- The head of lane `256 sl + l` is the `l / 64`-th of slab `sl`. -/
theorem slabHead {y l : ℕ} (sl : ℕ) (hy : y = 256 * sl + l) (hl : l < 256) : y / 64 = 4 * sl + l / 64 := by omega

/-- Lane `256 sl + l` is lane `(256 sl + l) % 64` of the `l / 64`-th head of slab `sl`. -/
theorem slabLane {y l : ℕ} (sl : ℕ) (hy : y = 256 * sl + l) : l = 64 * (l / 64) + y % 64 := by omega

/-- What a grid point stores: the attention times the output weights, added to the block of tokens. -/
theorem stored (c : Dev nD) (t : Fin cfg0.N) : outsAt0 m c t = k0_pay2 (attBlock m c t) (iblk m c 13 t) (iblk m c 0 t) := by
  unfold outsAt0
  unfold out0_A_14
  frame_open
  simp (disch := decide) only [↓ View.readCov_skip, ↓ View.readCov_cons_toLoadRect, ↓ View.readCov_fill]
  frame_out
  refine congrArg (fun a => k0_pay2 a (iblk m c 13 t) (iblk m c 0 t)) (funext fun y => ?_)
  rw [View.readCov_eq_canon']
  have e0 : ((Rect.unit (s := S256x1024) ![0, 0] ![256, 1024] inb_S256x1024_S256x1024_0_0).idx y 0 : ℕ) = y 0 := by
    rw [Rect.idx_unit_val]; simp
  have e1 : ((Rect.unit (s := S256x1024) ![0, 0] ![256, 1024] inb_S256x1024_S256x1024_0_0).idx y 1 : ℕ) = y 1 := by
    rw [Rect.idx_unit_val]; simp
  unfold attBlock
  have t0 : t.val < 256 := t.isLt
  canon_tiles x h
  all_goals
    rw [e0] at h0
    rw [e1] at h1
    obtain ⟨r, l, rfl⟩ : ∃ r l, x = ix2 r l := ⟨x 0, x 1, by funext a; match a with | 0 => rfl | 1 => rfl⟩
    have r0 := r.isLt
    have l0 := l.isLt
  case piece0 =>
    have g0 : (y 0 : ℕ) = 128 + r := h0
    have g1 : (y 1 : ℕ) = 768 + l := h1
    exact (laterPiece m c t 3 ⟨l / 64, by omega⟩ 1 rfl r l ⟨(y 1 : ℕ) / 64, by omega⟩ ⟨(y 1 : ℕ) % 64, by omega⟩ (slabHead 3 g1 l0) (slabLane 3 g1)
      ⟨t.val / 8, by omega⟩ ⟨256 * (t.val % 8) + y 0, by omega⟩ rfl (by dsimp only; omega) ![0, 768] inb_S1024x1024_S1024x256_0_768 rfl
      ![0, 0, 256] inb_S1x256x512_S1x256x256_0_0_256 rfl ![3, 0, 0] inb_S4x512x1_S1x512x1_3_0_0 rfl inb_S2x512x256_S1x512x256_0_0_0).trans
      (congrArg (fun g => entry m c _ _ g _ _) (Fin.ext (show 1 = (y 1 : ℕ) / 512 by omega)))
  case piece1 =>
    have g0 : (y 0 : ℕ) = r := h0
    have g1 : (y 1 : ℕ) = 768 + l := h1
    exact (firstPiece m c t 3 ⟨l / 64, by omega⟩ 1 rfl r l ⟨(y 1 : ℕ) / 64, by omega⟩ ⟨(y 1 : ℕ) % 64, by omega⟩ (slabHead 3 g1 l0) (slabLane 3 g1)
      ⟨t.val / 8, by omega⟩ ⟨256 * (t.val % 8) + y 0, by omega⟩ rfl (by dsimp only; omega) ![0, 768] inb_S1024x1024_S1024x256_0_768 rfl
      ![0, 0, 256] inb_S1x128x512_S1x128x256_0_0_256 inb_S1x256x512_S1x128x256_0_0_256 rfl ![3, 0, 0] inb_S4x512x1_S1x512x1_3_0_0 rfl _).trans
      (congrArg (fun g => entry m c _ _ g _ _) (Fin.ext (show 1 = (y 1 : ℕ) / 512 by omega)))
  case piece2 =>
    have g0 : (y 0 : ℕ) = 128 + r := h0
    have g1 : (y 1 : ℕ) = 512 + l := h1
    exact (laterPiece m c t 2 ⟨l / 64, by omega⟩ 1 rfl r l ⟨(y 1 : ℕ) / 64, by omega⟩ ⟨(y 1 : ℕ) % 64, by omega⟩ (slabHead 2 g1 l0) (slabLane 2 g1)
      ⟨t.val / 8, by omega⟩ ⟨256 * (t.val % 8) + y 0, by omega⟩ rfl (by dsimp only; omega) ![0, 512] inb_S1024x1024_S1024x256_0_512 rfl
      ![0, 0, 256] inb_S1x256x512_S1x256x256_0_0_256 rfl ![2, 0, 0] inb_S4x512x1_S1x512x1_2_0_0 rfl inb_S2x512x256_S1x512x256_0_0_0).trans
      (congrArg (fun g => entry m c _ _ g _ _) (Fin.ext (show 1 = (y 1 : ℕ) / 512 by omega)))
  case piece3 =>
    have g0 : (y 0 : ℕ) = r := h0
    have g1 : (y 1 : ℕ) = 512 + l := h1
    exact (firstPiece m c t 2 ⟨l / 64, by omega⟩ 1 rfl r l ⟨(y 1 : ℕ) / 64, by omega⟩ ⟨(y 1 : ℕ) % 64, by omega⟩ (slabHead 2 g1 l0) (slabLane 2 g1)
      ⟨t.val / 8, by omega⟩ ⟨256 * (t.val % 8) + y 0, by omega⟩ rfl (by dsimp only; omega) ![0, 512] inb_S1024x1024_S1024x256_0_512 rfl
      ![0, 0, 256] inb_S1x128x512_S1x128x256_0_0_256 inb_S1x256x512_S1x128x256_0_0_256 rfl ![2, 0, 0] inb_S4x512x1_S1x512x1_2_0_0 rfl _).trans
      (congrArg (fun g => entry m c _ _ g _ _) (Fin.ext (show 1 = (y 1 : ℕ) / 512 by omega)))
  case piece4 =>
    have g0 : (y 0 : ℕ) = 128 + r := h0
    have g1 : (y 1 : ℕ) = 256 + l := h1
    exact (laterPiece m c t 1 ⟨l / 64, by omega⟩ 0 rfl r l ⟨(y 1 : ℕ) / 64, by omega⟩ ⟨(y 1 : ℕ) % 64, by omega⟩ (slabHead 1 g1 l0) (slabLane 1 g1)
      ⟨t.val / 8, by omega⟩ ⟨256 * (t.val % 8) + y 0, by omega⟩ rfl (by dsimp only; omega) ![0, 256] inb_S1024x1024_S1024x256_0_256 rfl
      ![0, 0, 0] inb_S1x256x512_S1x256x256_0_0_0 rfl ![1, 0, 0] inb_S4x512x1_S1x512x1_1_0_0 rfl inb_S2x512x256_S1x512x256_0_0_0).trans
      (congrArg (fun g => entry m c _ _ g _ _) (Fin.ext (show 0 = (y 1 : ℕ) / 512 by omega)))
  case piece5 =>
    have g0 : (y 0 : ℕ) = r := h0
    have g1 : (y 1 : ℕ) = 256 + l := h1
    exact (firstPiece m c t 1 ⟨l / 64, by omega⟩ 0 rfl r l ⟨(y 1 : ℕ) / 64, by omega⟩ ⟨(y 1 : ℕ) % 64, by omega⟩ (slabHead 1 g1 l0) (slabLane 1 g1)
      ⟨t.val / 8, by omega⟩ ⟨256 * (t.val % 8) + y 0, by omega⟩ rfl (by dsimp only; omega) ![0, 256] inb_S1024x1024_S1024x256_0_256 rfl
      ![0, 0, 0] inb_S1x128x512_S1x128x256_0_0_0 inb_S1x256x512_S1x128x256_0_0_0 rfl ![1, 0, 0] inb_S4x512x1_S1x512x1_1_0_0 rfl _).trans
      (congrArg (fun g => entry m c _ _ g _ _) (Fin.ext (show 0 = (y 1 : ℕ) / 512 by omega)))
  case piece6 =>
    have g0 : (y 0 : ℕ) = 128 + r := h0
    have g1 : (y 1 : ℕ) = 0 + l := h1.trans (Nat.zero_add _).symm
    exact (laterPiece m c t 0 ⟨l / 64, by omega⟩ 0 rfl r l ⟨(y 1 : ℕ) / 64, by omega⟩ ⟨(y 1 : ℕ) % 64, by omega⟩ (slabHead 0 g1 l0) (slabLane 0 g1)
      ⟨t.val / 8, by omega⟩ ⟨256 * (t.val % 8) + y 0, by omega⟩ rfl (by dsimp only; omega) ![0, 0] inb_S1024x1024_S1024x256_0_0 rfl
      ![0, 0, 0] inb_S1x256x512_S1x256x256_0_0_0 rfl ![0, 0, 0] inb_S4x512x1_S1x512x1_0_0_0 rfl inb_S2x512x256_S1x512x256_0_0_0).trans
      (congrArg (fun g => entry m c _ _ g _ _) (Fin.ext (show 0 = (y 1 : ℕ) / 512 by omega)))
  case piece7 =>
    have g0 : (y 0 : ℕ) = r := h0
    have g1 : (y 1 : ℕ) = 0 + l := h1.trans (Nat.zero_add _).symm
    exact (firstPiece m c t 0 ⟨l / 64, by omega⟩ 0 rfl r l ⟨(y 1 : ℕ) / 64, by omega⟩ ⟨(y 1 : ℕ) % 64, by omega⟩ (slabHead 0 g1 l0) (slabLane 0 g1)
      ⟨t.val / 8, by omega⟩ ⟨256 * (t.val % 8) + y 0, by omega⟩ rfl (by dsimp only; omega) ![0, 0] inb_S1024x1024_S1024x256_0_0 rfl
      ![0, 0, 0] inb_S1x128x512_S1x128x256_0_0_0 inb_S1x256x512_S1x128x256_0_0_0 rfl ![0, 0, 0] inb_S4x512x1_S1x512x1_0_0_0 rfl _).trans
      (congrArg (fun g => entry m c _ _ g _ _) (Fin.ext (show 0 = (y 1 : ℕ) / 512 by omega)))

end Cert.Att

end
-- ==== Proof.Att.Sections.lean ====
/- The attention's reference, in sections, each read at an index. -/
module

public import proofs.«01_k».proof.Proof.Att.Head
public import proofs.«01_k».proof.Proof.Gen.AttReferenceIdeal
public import Idealize.ShloMosaic.Lib.Pipeline.ReadBack
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- The tokens, normalised and weighted. -/
def refNormed (X : FVec Ideal S32x2048x1024 .f32) (G : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))

/-- The queries, projected and normalised within every head. -/
def refGained (N : FVec Ideal S32x2048x1024 .f32) (Wq : FVec Ideal S1024x1024 .f32) (gain : FVec Ideal S64 .f32) : FVec Ideal S32x2048x16x64 .f32 :=
  mulf (mulf (shapeCast S32x2048x16x64 (Host.dotGeneral dot_S32x2048x1024_S1024x1024_S32x2048x1024_2_0_01_1_n_n none N Wq) shapeCasts_S32x2048x1024_S32x2048x16x64) (broadcastInDim S32x2048x16x64 ![0, 1, 2, 3] bcast_S32x2048x16x1_S32x2048x16x64_0_1_2_3 (Host.rsqrt (addf (Host.divf (broadcastInDim S32x2048x16x1 ![0, 1, 2] bcast_S32x2048x16_S32x2048x16x1_0_1_2 (Host.reduceAdd (mulf (shapeCast S32x2048x16x64 (Host.dotGeneral dot_S32x2048x1024_S1024x1024_S32x2048x1024_2_0_01_1_n_n none N Wq) shapeCasts_S32x2048x1024_S32x2048x16x64) (shapeCast S32x2048x16x64 (Host.dotGeneral dot_S32x2048x1024_S1024x1024_S32x2048x1024_2_0_01_1_n_n none N Wq) shapeCasts_S32x2048x1024_S32x2048x16x64)) (constant S_ .f32 0x00000000#32) reducesTo_S32x2048x16x64_S32x2048x16_d3 h_S_)) (broadcastInDim S32x2048x16x1 ![] bcast_S_S32x2048x16x1 (constant S_ .f32 0x42800000#32))) (broadcastInDim S32x2048x16x1 ![] bcast_S_S32x2048x16x1 (constant S_ .f32 0x358637BD#32)))))) (broadcastInDim S32x2048x16x64 ![0, 1, 2, 3] bcast_S1x1x1x64_S32x2048x16x64_0_1_2_3 (broadcastInDim S1x1x1x64 ![3] bcast_S64_S1x1x1x64_3 gain))

/-- The cosines of the angles. -/
def refCos : FVec Ideal S1x2048x1x32 .f32 :=
  broadcastInDim S1x2048x1x32 ![1, 3] bcast_S2048x32_S1x2048x1x32_1_3 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))))

/-- The sines of the angles. -/
def refSin : FVec Ideal S1x2048x1x32 .f32 :=
  broadcastInDim S1x2048x1x32 ![1, 3] bcast_S2048x32_S1x2048x1x32_1_3 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))))

/-- The queries rotated. -/
def refRotated (Q : FVec Ideal S32x2048x16x64 .f32) (co : FVec Ideal S1x2048x1x32 .f32) (si : FVec Ideal S1x2048x1x32 .f32) : FVec Ideal S32x2048x16x64 .f32 :=
  concatenate S32x2048x16x64 3 [⟨S32x2048x16x32, (subf (mulf (extractStridedSlice S32x2048x16x32 ![0, 0, 0, 0] Q slices_S32x2048x16x64_S32x2048x16x32_0_0_0_0) (broadcastInDim S32x2048x16x32 ![0, 1, 2, 3] bcast_S1x2048x1x32_S32x2048x16x32_0_1_2_3 co)) (mulf (extractStridedSlice S32x2048x16x32 ![0, 0, 0, 32] Q slices_S32x2048x16x64_S32x2048x16x32_0_0_0_32) (broadcastInDim S32x2048x16x32 ![0, 1, 2, 3] bcast_S1x2048x1x32_S32x2048x16x32_0_1_2_3 si)))⟩, ⟨S32x2048x16x32, (addf (mulf (extractStridedSlice S32x2048x16x32 ![0, 0, 0, 32] Q slices_S32x2048x16x64_S32x2048x16x32_0_0_0_32) (broadcastInDim S32x2048x16x32 ![0, 1, 2, 3] bcast_S1x2048x1x32_S32x2048x16x32_0_1_2_3 co)) (mulf (extractStridedSlice S32x2048x16x32 ![0, 0, 0, 0] Q slices_S32x2048x16x64_S32x2048x16x32_0_0_0_0) (broadcastInDim S32x2048x16x32 ![0, 1, 2, 3] bcast_S1x2048x1x32_S32x2048x16x32_0_1_2_3 si)))⟩] concatenates_S32x2048x16x32_S32x2048x16x32_S32x2048x16x64_d3

/-- The queries in blocks of 128 positions. -/
def refQueries (R : FVec Ideal S32x2048x16x64 .f32) : FVec Ideal S16x32x128x2x8x64 .f32 :=
  transpose S16x32x128x2x8x64 [1, 0, 2, 3, 4, 5] (shapeCast S32x16x128x2x8x64 R shapeCasts_S32x2048x16x64_S32x16x128x2x8x64) transposes_S32x16x128x2x8x64_S16x32x128x2x8x64_1_0_2_3_4_5

/-- Every block of 128 positions beside the block before it. -/
def refBand (K : FVec Ideal S32x2048x2x64 .f32) : FVec Ideal S16x32x256x2x64 .f32 :=
  transpose S16x32x256x2x64 [1, 0, 2, 3, 4] (concatenate S32x16x256x2x64 2 [⟨S32x16x128x2x64, (shapeCast S32x16x128x2x64 (extractStridedSlice S32x2048x2x64 ![0, 0, 0, 0] (pad S32x2176x2x64 ![0, 128, 0, 0] ![0, 0, 0, 0] ![0, 0, 0, 0] K (sitofp .f32 (constantI S_ 32 0#32)) pads_S32x2048x2x64_S32x2176x2x64_000_12800_000_000 h_S_) slices_S32x2176x2x64_S32x2048x2x64_0_0_0_0) shapeCasts_S32x2048x2x64_S32x16x128x2x64)⟩, ⟨S32x16x128x2x64, (shapeCast S32x16x128x2x64 K shapeCasts_S32x2048x2x64_S32x16x128x2x64)⟩] concatenates_S32x16x128x2x64_S32x16x128x2x64_S32x16x256x2x64_d2) transposes_S32x16x256x2x64_S16x32x256x2x64_1_0_2_3_4

/-- The sinks, one for every head, at every position. -/
def refSinks (sinks : FVec Ideal S16 .f32) : FVec Ideal S16x32x2x8x128x1 .f32 :=
  broadcastInDim S16x32x2x8x128x1 ![1, 2, 3, 4, 5] bcast_S32x2x8x128x1_S16x32x2x8x128x1_1_2_3_4_5 (broadcastInDim S32x2x8x128x1 ![0, 1, 2, 3, 4] bcast_S1x2x8x1x1_S32x2x8x128x1_0_1_2_3_4 (broadcastInDim S1x2x8x1x1 ![1, 2] bcast_S2x8_S1x2x8x1x1_1_2 (shapeCast S2x8 sinks shapeCasts_S16_S2x8)))

/-- Which keys of a block a position sees. -/
def refValid : IVec S16x1x1x1x128x256 1 :=
  broadcastInDim S16x1x1x1x128x256 ![0, 4, 5] bcast_S16x128x256_S16x1x1x1x128x256_0_4_5 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (cmpi .sge (subi (addi (broadcastInDim S16x1x256 ![0, 1, 2] bcast_S16x1x1_S16x1x256_0_1_2 (broadcastInDim S16x1x1 ![0] bcast_S16_S16x1x1_0 (muli (iotaInDim S16 32 0) (broadcastInDim S16 ![] bcast_S_S16 (constantI S_ 32 128#32))))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 128#32))) (broadcastInDim S16x1x256 ![] bcast_S_S16x1x256 (constantI S_ 32 0#32)))))

/-- The scaled products of queries and keys. -/
def refScores (K : FVec Ideal S16x32x256x2x64 .f32) (Q : FVec Ideal S16x32x128x2x8x64 .f32) : FVec Ideal S16x32x2x8x128x256 .f32 :=
  mulf (transpose S16x32x2x8x128x256 [0, 1, 2, 5, 4, 3] (Host.dotGeneral dot_S16x32x256x2x64_S16x32x128x2x8x64_S16x32x2x256x128x8_4_5_2_24_013_013 none K Q) transposes_S16x32x2x256x128x8_S16x32x2x8x128x256_0_1_2_5_4_3) (broadcastInDim S16x32x2x8x128x256 ![] bcast_S_S16x32x2x8x128x256 (constant S_ .f32 0x3E000000#32))

/-- The scores with the hidden keys at minus infinity, and the sink beside them. -/
def refLogits (sc : FVec Ideal S16x32x2x8x128x256 .f32) (valid : IVec S16x1x1x1x128x256 1) (sinks : FVec Ideal S16x32x2x8x128x1 .f32) : FVec Ideal S16x32x2x8x128x257 .f32 :=
  concatenate S16x32x2x8x128x257 5 [⟨S16x32x2x8x128x256, (select (broadcastInDim S16x32x2x8x128x256 ![0, 1, 2, 3, 4, 5] bcast_S16x1x1x1x128x256_S16x32x2x8x128x256_0_1_2_3_4_5 valid) sc (broadcastInDim S16x32x2x8x128x256 ![1, 2, 3, 4, 5] bcast_S32x2x8x128x256_S16x32x2x8x128x256_1_2_3_4_5 (broadcastInDim S32x2x8x128x256 ![] bcast_S_S32x2x8x128x256 (constant S_ .f32 0xFF800000#32))))⟩, ⟨S16x32x2x8x128x1, sinks⟩] concatenates_S16x32x2x8x128x256_S16x32x2x8x128x1_S16x32x2x8x128x257_d5

/-- The greatest logits. -/
def refMax (L : FVec Ideal S16x32x2x8x128x257 .f32) : FVec Ideal S16x32x2x8x128 .f32 :=
  Host.reduce FloatOps.maximumf L (constant S_ .f32 0xFF800000#32) reducesTo_S16x32x2x8x128x257_S16x32x2x8x128_d5 h_S_

/-- The exponentials of the logits over the greatest. -/
def refExps (L : FVec Ideal S16x32x2x8x128x257 .f32) (M : FVec Ideal S16x32x2x8x128 .f32) : FVec Ideal S16x32x2x8x128x257 .f32 :=
  Host.exp (subf L (broadcastInDim S16x32x2x8x128x257 ![0, 1, 2, 3, 4, 5] bcast_S16x32x2x8x128x1_S16x32x2x8x128x257_0_1_2_3_4_5 (broadcastInDim S16x32x2x8x128x1 ![0, 1, 2, 3, 4] bcast_S16x32x2x8x128_S16x32x2x8x128x1_0_1_2_3_4 (maximumf (broadcastInDim S16x32x2x8x128 ![] bcast_S_S16x32x2x8x128 (constant S_ .f32 0xFF800000#32)) M))))

/-- The weights of the keys. -/
def refWeights (E : FVec Ideal S16x32x2x8x128x257 .f32) : FVec Ideal S16x32x2x8x128x256 .f32 :=
  extractStridedSlice S16x32x2x8x128x256 ![0, 0, 0, 0, 0, 0] (Host.divf E (broadcastInDim S16x32x2x8x128x257 ![0, 1, 2, 3, 4, 5] bcast_S16x32x2x8x128x1_S16x32x2x8x128x257_0_1_2_3_4_5 (broadcastInDim S16x32x2x8x128x1 ![0, 1, 2, 3, 4] bcast_S16x32x2x8x128_S16x32x2x8x128x1_0_1_2_3_4 (Host.reduceAdd E (constant S_ .f32 0x00000000#32) reducesTo_S16x32x2x8x128x257_S16x32x2x8x128_d5 h_S_)))) slices_S16x32x2x8x128x257_S16x32x2x8x128x256_0_0_0_0_0_0

/-- The values weighted, the heads side by side. -/
def refMixed (V : FVec Ideal S16x32x256x2x64 .f32) (P : FVec Ideal S16x32x2x8x128x256 .f32) : FVec Ideal S32x2048x1024 .f32 :=
  shapeCast S32x2048x1024 (transpose S32x16x128x2x8x64 [1, 0, 2, 3, 4, 5] (transpose S16x32x128x2x8x64 [0, 1, 5, 2, 4, 3] (Host.dotGeneral dot_S16x32x256x2x64_S16x32x2x8x128x256_S16x32x2x64x8x128_2_5_4_34_013_012 none V P) transposes_S16x32x2x64x8x128_S16x32x128x2x8x64_0_1_5_2_4_3) transposes_S16x32x128x2x8x64_S32x16x128x2x8x64_1_0_2_3_4_5) shapeCasts_S32x16x128x2x8x64_S32x2048x1024

/-- The attention through the output weights, added to the tokens. -/
def refOut (X : FVec Ideal S32x2048x1024 .f32) (A : FVec Ideal S32x2048x1024 .f32) (Wo : FVec Ideal S1024x1024 .f32) : FVec Ideal S32x2048x1024 .f32 :=
  addf X (Host.dotGeneral dot_S32x2048x1024_S1024x1024_S32x2048x1024_2_0_01_1_n_n none A Wo)

end Cert.Att

end
-- ==== Proof.Att.RefQuery.lean ====
/- The reference's queries, read at an index. -/
module

public import proofs.«01_k».proof.Proof.Att.Sections
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- The normalised tokens at a token and a column. -/
theorem refNormed_at (X : FVec Ideal S32x2048x1024 .f32) (G : FVec Ideal S1024 .f32) (b : Fin 32) (s : Fin 2048) (k : Fin 1024) :
    refNormed X G (ix3 b s k) = X (ix3 b s k) * Ffn.rms (fun k => X (ix3 b s k)) * G (ix1 k) := by
  pointwise [refNormed, Ffn.rms]

/-- A head's normalised query at an entry. -/
theorem refGained_at (N : FVec Ideal S32x2048x1024 .f32) (Wq : FVec Ideal S1024x1024 .f32) (gain : FVec Ideal S64 .f32)
    (b : Fin 32) (s : Fin 2048) (h : Fin 16) (d : Fin 64) :
    refGained N Wq gain (ix4 b s h d) = gained (fun e => ∑ k : Fin 1024, N (ix3 b s k) * Wq (ix2 k ⟨64 * h + e, by omega⟩)) (fun e => gain (ix1 e)) d := by
  pointwise [refGained, gained]
  simp only [Nat.mul_comm h.val 64]

/-- The cosine of an angle. -/
theorem refCos_at (s : Fin 2048) (i : Fin 32) : refCos (ix4 0 s 0 i) = Ideal.cos (angle s i) := by
  pointwise [refCos, angle]

/-- The sine of an angle. -/
theorem refSin_at (s : Fin 2048) (i : Fin 32) : refSin (ix4 0 s 0 i) = Ideal.sin (angle s i) := by
  pointwise [refSin, angle]

end Cert.Att

end
-- ==== Proof.Att.RefRot.lean ====
/- The reference's rotated queries, read at an index. -/
module

public import proofs.«01_k».proof.Proof.Att.Sections
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- A rotated query at an entry. -/
theorem refRotated_at (Q : FVec Ideal S32x2048x16x64 .f32) (co si : FVec Ideal S1x2048x1x32 .f32) (b : Fin 32) (s : Fin 2048) (h : Fin 16) (d : Fin 64) :
    refRotated Q co si (ix4 b s h d) = rot (fun e => Q (ix4 b s h e)) (fun i => co (ix4 0 s 0 i)) (fun i => si (ix4 0 s 0 i)) d := by
  pointwise [refRotated, rot]
  split
  · simp only [Nat.add_comm 32]
  · rename_i hd
    simp only [Nat.add_sub_cancel' (Nat.le_of_not_lt hd)]

end Cert.Att

end
-- ==== Proof.Att.RefBlocks.lean ====
/- The reference's blocks of queries, read at an index. -/
module

public import proofs.«01_k».proof.Proof.Att.Sections
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- A query of a block is the query of its position. -/
theorem refQueries_at (R : FVec Ideal S32x2048x16x64 .f32) (n : Fin 16) (b : Fin 32) (r : Fin 128) (g : Fin 2) (j : Fin 8) (d : Fin 64) :
    refQueries R (ix6 n b r g j d) = R (ix4 b ⟨128 * n + r, by omega⟩ ⟨8 * g + j, by omega⟩ d) := by
  pointwise [refQueries]
  simp only [Nat.mul_comm n.val 128, Nat.mul_comm g.val 8]

end Cert.Att

end
-- ==== Proof.Att.RefBand.lean ====
/- The reference's bands of keys, read at an index. -/
module

public import proofs.«01_k».proof.Proof.Att.Sections
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- A key of a block and of the block before it, unless it lies before the first block. -/
theorem refBand_at (K : FVec Ideal S32x2048x2x64 .f32) (n : Fin 16) (b : Fin 32) (k : Fin 256) (g : Fin 2) (d : Fin 64) (h : ¬ ((n : ℕ) = 0 ∧ (k : ℕ) < 128)) :
    refBand K (ix5 n b k g d) = K (ix4 b ⟨128 * n + k - 128, by omega⟩ g d) := by
  pointwise [refBand]
  split
  · rw [dif_pos (by omega)]
    congr 1
    congr 1
    exact Fin.ext (by simp only; omega)
  · congr 1
    congr 1
    exact Fin.ext (by simp only; omega)

/-- The words of the two comparisons of the distance between a position and a key. -/
theorem near_word : ∀ (r : Fin 128) (k : Fin 256), IntOp.andi
      (IntOp.cmpi CmpIPredicate.sge (IntOp.subi (IntOp.addi (BitVec.ofNat 32 r) 128#32) (BitVec.ofNat 32 k)) 0#32)
      (IntOp.cmpi CmpIPredicate.slt (IntOp.subi (IntOp.addi (BitVec.ofNat 32 r) 128#32) (BitVec.ofNat 32 k)) 128#32)
    = if (r : ℕ) < k ∧ (k : ℕ) ≤ r + 128 then 1#1 else 0#1 := by decide +kernel

/-- The word of the comparison of a key's position with the sequence's start. -/
theorem inside_word : ∀ (n : Fin 16) (k : Fin 256),
    IntOp.cmpi CmpIPredicate.sge (IntOp.subi (IntOp.addi (IntOp.muli (BitVec.ofNat 32 n) 128#32) (BitVec.ofNat 32 k)) 128#32) 0#32
    = if (n : ℕ) = 0 → 128 ≤ (k : ℕ) then 1#1 else 0#1 := by decide +kernel

/-- Two words of conditions, combined. -/
theorem and_word (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The words that mark the keys a position sees. -/
theorem refValid_at (n : Fin 16) (r : Fin 128) (k : Fin 256) :
    refValid (ix6 n 0 0 0 r k) = if Seen ⟨128 * n + r, by omega⟩ k then 1#1 else 0#1 := by
  pointwise [refValid]
  rw [near_word, inside_word]
  have hs : Seen ⟨128 * n + r, by omega⟩ k ↔ ((r : ℕ) < k ∧ (k : ℕ) ≤ r + 128) ∧ ((n : ℕ) = 0 → 128 ≤ (k : ℕ)) := by
    simp only [Seen, show (128 * (n : ℕ) + r) % 128 = r by omega, show (128 * (n : ℕ) + r) / 128 = n by omega, and_assoc]
  rw [and_word]
  exact if_congr hs.symm rfl rfl

end Cert.Att

end
-- ==== Proof.Att.RefLogits.lean ====
/- The reference's logits, read at an index. -/
module

public import proofs.«01_k».proof.Proof.Att.Sections
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- A scaled product of a query and a key at an index. -/
theorem refScores_at (K : FVec Ideal S16x32x256x2x64 .f32) (Q : FVec Ideal S16x32x128x2x8x64 .f32) (n : Fin 16) (b : Fin 32) (g : Fin 2) (j : Fin 8)
    (r : Fin 128) (k : Fin 256) :
    refScores K Q (ix6 n b g j r k) = (∑ e : Fin 64, K (ix5 n b k g e) * Q (ix6 n b r g j e)) * Ideal.ofBits .f32 0x3E000000#32 := by
  pointwise [refScores]

/-- The sink of a head at an index. -/
theorem refSinks_at (sinks : FVec Ideal S16 .f32) (n : Fin 16) (b : Fin 32) (g : Fin 2) (j : Fin 8) (r : Fin 128) :
    refSinks sinks (ix6 n b g j r 0) = sinks (ix1 ⟨8 * g + j, by omega⟩) := by
  pointwise [refSinks]
  simp only [Nat.mul_comm g.val 8]

/-- The logit of a key: its score where the key is seen, minus infinity elsewhere. -/
theorem refLogits_key (sc : FVec Ideal S16x32x2x8x128x256 .f32) (valid : IVec S16x1x1x1x128x256 1) (sinks : FVec Ideal S16x32x2x8x128x1 .f32)
    (n : Fin 16) (b : Fin 32) (g : Fin 2) (j : Fin 8) (r : Fin 128) (k : Fin 256) :
    refLogits sc valid sinks (ix6 n b g j r ⟨k, by omega⟩)
      = if valid (ix6 n 0 0 0 r k) = 1#1 then sc (ix6 n b g j r k) else Ideal.ofBits .f32 0xFF800000#32 := by
  pointwise [refLogits]
  rfl

/-- The logit beside the keys is the sink. -/
theorem refLogits_sink (sc : FVec Ideal S16x32x2x8x128x256 .f32) (valid : IVec S16x1x1x1x128x256 1) (sinks : FVec Ideal S16x32x2x8x128x1 .f32)
    (n : Fin 16) (b : Fin 32) (g : Fin 2) (j : Fin 8) (r : Fin 128) :
    refLogits sc valid sinks (ix6 n b g j r 256) = sinks (ix6 n b g j r 0) := by
  pointwise [refLogits]

end Cert.Att

end
-- ==== Proof.Att.LastAxis.lean ====
/- Sums and maxima over the last of six axes. -/
module

public import proofs.«01_k».proof.Proof.Att.Sections
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- The indices that agree with `a, b, c, d, e` on the first five axes are those with one of the last axis's entries. -/
theorem fiber_six {n0 n1 n2 n3 n4 n5 : ℕ} (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, funext fun x => Fin.ext ?_⟩
    match x with
    | ⟨0, _⟩ => exact (congrArg Fin.val (congrFun q ⟨0, (by decide : 0 < 5)⟩)).symm
    | ⟨1, _⟩ => exact (congrArg Fin.val (congrFun q ⟨1, (by decide : 1 < 5)⟩)).symm
    | ⟨2, _⟩ => exact (congrArg Fin.val (congrFun q ⟨2, (by decide : 2 < 5)⟩)).symm
    | ⟨3, _⟩ => exact (congrArg Fin.val (congrFun q ⟨3, (by decide : 3 < 5)⟩)).symm
    | ⟨4, _⟩ => exact (congrArg Fin.val (congrFun q ⟨4, (by decide : 4 < 5)⟩)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A sum over the last of six axes. -/
theorem sum_six {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    Ideal.hostReduceAdd h v init (ix5 a b c d e) = init + ∑ k : Fin n5, v (ix6 a b c d e k) :=
  congrArg (init + ·) (Finset.sum_filter_eq_sum_of_fiber _ (fun k : Fin n5 => ix6 a b c d e k) (fun _ _ q => congrFun q 5) (fiber_six h a b c d e) v)

/-- The greatest over the last of six axes. -/
theorem max_six {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    (Finset.univ.filter fun i => h.drop i = ix5 a b c d e).fold max init v = (Finset.univ : Finset (Fin n5)).fold max init fun k => v (ix6 a b c d e k) :=
  Finset.fold_filter_eq_fold_of_fiber max _ (fun k : Fin n5 => ix6 a b c d e k) (fun _ _ q => congrFun q 5) (fiber_six h a b c d e) init v

/-- The reduction to the greatest over the last of six axes, from an initial value. -/
theorem reduce_max_six {n0 n1 n2 n3 n4 n5 : ℕ} {u : Shape} (h : (⟨6, ![n0, n1, n2, n3, n4, n5]⟩ : Shape).ReducesTo [5] ⟨5, ![n0, n1, n2, n3, n4]⟩) (hu : 0 < u.numel)
    (v : FVec Ideal ⟨6, ![n0, n1, n2, n3, n4, n5]⟩ .f32) (init : FVec Ideal u .f32) (a : Fin n0) (b : Fin n1) (c : Fin n2) (d : Fin n3) (e : Fin n4) :
    Host.reduce FloatOps.maximumf v init h hu (ix5 a b c d e)
      = (Finset.univ : Finset (Fin n5)).fold max (init (Shape.Idx.first hu)) fun k => v (ix6 a b c d e k) := by
  refine Eq.trans ?_ (max_six h v _ a b c d e)
  rw [Host.reduce_eq_fold]
  rfl

end Cert.Att

end
-- ==== Proof.Att.RefExps.lean ====
/- The reference's exponentials, read at an index. -/
module

public import proofs.«01_k».proof.Proof.Att.Sections
public import proofs.«01_k».proof.Proof.Att.LastAxis
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- The greatest logit of a row. -/
theorem refMax_at (L : FVec Ideal S16x32x2x8x128x257 .f32) (n : Fin 16) (b : Fin 32) (g : Fin 2) (j : Fin 8) (r : Fin 128) :
    refMax L (ix5 n b g j r) = (Finset.univ : Finset (Fin 257)).fold max (Ideal.ofBits .f32 0xFF800000#32) fun k => L (ix6 n b g j r k) :=
  reduce_max_six reducesTo_S16x32x2x8x128x257_S16x32x2x8x128_d5 h_S_ L (constant S_ .f32 0xFF800000#32) n b g j r

/-- An exponential at an index: of the logit over the greatest of its row. -/
theorem refExps_at (L : FVec Ideal S16x32x2x8x128x257 .f32) (M : FVec Ideal S16x32x2x8x128 .f32) (n : Fin 16) (b : Fin 32) (g : Fin 2) (j : Fin 8) (r : Fin 128)
    (k : Fin 257) :
    refExps L M (ix6 n b g j r k) = Ideal.exp (L (ix6 n b g j r k) - max (Ideal.ofBits .f32 0xFF800000#32) (M (ix5 n b g j r))) := by
  pointwise [refExps]

end Cert.Att

end
-- ==== Proof.Att.RefWeights.lean ====
/- The reference's weights, read at an index. -/
module

public import proofs.«01_k».proof.Proof.Att.Sections
public import proofs.«01_k».proof.Proof.Att.LastAxis
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- A key's weight at an index: its exponential over the sum of its row's. -/
theorem refWeights_at (E : FVec Ideal S16x32x2x8x128x257 .f32) (n : Fin 16) (b : Fin 32) (g : Fin 2) (j : Fin 8) (r : Fin 128) (k : Fin 256) :
    refWeights E (ix6 n b g j r k) = Ideal.div (E (ix6 n b g j r ⟨k, by omega⟩)) (∑ k, E (ix6 n b g j r k)) := by
  pointwise [refWeights]
  rw [sum_six reducesTo_S16x32x2x8x128x257_S16x32x2x8x128_d5, zero_add]

end Cert.Att

end
-- ==== Proof.Att.RefOut.lean ====
/- The reference's result, read at an index. -/
module

public import proofs.«01_k».proof.Proof.Att.Sections
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen

/-- The weighted values of a token, the heads side by side. -/
theorem refMixed_at (W : FVec Ideal S16x32x256x2x64 .f32) (P : FVec Ideal S16x32x2x8x128x256 .f32) (n : Fin 16) (b : Fin 32) (g : Fin 2) (j : Fin 8)
    (r : Fin 128) (d : Fin 64) (s : Fin 2048) (f : Fin 1024) (hs : (s : ℕ) = 128 * n + r) (hf : (f : ℕ) = 512 * g + 64 * j + d) :
    refMixed W P (ix3 b s f) = ∑ k : Fin 256, W (ix5 n b k g d) * P (ix6 n b g j r k) := by
  have e0 : (⟨(s : ℕ) / 128, by omega⟩ : Fin 16) = n := Fin.ext (by simp only; omega)
  have e1 : (⟨(s : ℕ) % 128, by omega⟩ : Fin 128) = r := Fin.ext (by simp only; omega)
  have e2 : (⟨(f : ℕ) / 512, by omega⟩ : Fin 2) = g := Fin.ext (by simp only; omega)
  have e3 : (⟨(f : ℕ) / 64 % 8, by omega⟩ : Fin 8) = j := Fin.ext (by simp only; omega)
  have e4 : (⟨(f : ℕ) % 64, by omega⟩ : Fin 64) = d := Fin.ext (by simp only; omega)
  pointwise [refMixed]
  simp only [e0, e1, e2, e3, e4]

/-- The result at a token and a column. -/
theorem refOut_at (X A : FVec Ideal S32x2048x1024 .f32) (Wo : FVec Ideal S1024x1024 .f32) (b : Fin 32) (s : Fin 2048) (d : Fin 1024) :
    refOut X A Wo (ix3 b s d) = X (ix3 b s d) + ∑ f : Fin 1024, A (ix3 b s f) * Wo (ix2 f d) := by
  pointwise [refOut]

end Cert.Att

end
-- ==== Proof.Common.Finite.lean ====
/- Extended reals that are real, and the operations that keep them so. -/
module

public import Idealize.ShloMosaic.Lib.Pipeline.ValueKit
public import Idealize.ShloMosaic.Lib.Pointwise
public import Idealize.ShloMosaic.Lib.Claim

@[expose] public section

noncomputable section

open Idealize.ShloMosaic Idealize.ShloMosaic.TcCoe Idealize.SL.Sem

namespace Cert.Common

/-- `x` is a real number. -/
def IsReal (x : EReal) : Prop := ∃ r : ℝ, x = r

theorem IsReal.coe (r : ℝ) : IsReal r := ⟨r, rfl⟩

theorem IsReal.lt_top {x : EReal} : IsReal x → x < ⊤ := by rintro ⟨r, rfl⟩; exact EReal.coe_lt_top r

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

/-- A sum of real numbers read as extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.sum {ι : Type} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩

/-- The reciprocal square root of a positive real is real. -/
theorem IsReal.rsqrt {x : EReal} (h : ∃ r : ℝ, 0 < r ∧ x = r) : IsReal (Ideal.rsqrt x) := by
  obtain ⟨r, hr, rfl⟩ := h
  exact ⟨(Real.sqrt r)⁻¹, by rw [Ideal.rsqrt_coe, if_neg (not_lt.2 hr.le), if_neg hr.ne']⟩

/-- The mean of squares of reals with a positive number added is a positive real. -/
theorem mean_pos {ι : Type} [Fintype ι] {f : ι → EReal} (h : ∀ i, IsReal (f i)) {n e : ℝ} (hn : 0 < n) (he : 0 < e) {x y : EReal}
    (hx : x = n) (hy : y = e) : ∃ r : ℝ, 0 < r ∧ Ideal.div (∑ i, f i * f i) x + y = r := by
  choose r hr using h
  refine ⟨(∑ i, r i * r i) * (1 / n) + e, ?_, ?_⟩
  · have : 0 ≤ ∑ i, r i * r i := Finset.sum_nonneg fun i _ => mul_self_nonneg _
    positivity
  · subst hx hy
    have hs : (∑ i, f i * f i) = ((∑ i, r i * r i : ℝ) : EReal) := by
      rw [coe_sum]; exact Finset.sum_congr rfl fun i _ => by rw [hr i, EReal.coe_mul]
    rw [hs, Ideal.div_coe hn.ne', EReal.coe_add, EReal.coe_mul]

/-- An extended real whose magnitude is below infinity is real. -/
theorem IsReal.of_abs {x : EReal} (h : (max x (-x) : EReal) < ⊤) : IsReal x := by
  induction x with
  | bot => simp at h
  | top => simp at h
  | coe r => exact ⟨r, rfl⟩

/-- The constants of the norms. -/
theorem eps_val : Ideal.ofBits .f32 0x358637BD#32 = ((8796093 / 8796093022208 : ℝ) : EReal) := by
  simp [Ideal.ofBits, Ideal.ieee, -EReal.coe_mul]
  norm_num

theorem n1024_val : Ideal.ofBits .f32 0x44800000#32 = ((1024 : ℝ) : EReal) := by
  simp [Ideal.ofBits, Ideal.ieee, -EReal.coe_mul]; norm_num

theorem n64_val : Ideal.ofBits .f32 0x42800000#32 = ((64 : ℝ) : EReal) := by
  simp [Ideal.ofBits, Ideal.ieee, -EReal.coe_mul]; norm_num

theorem eighth_val : Ideal.ofBits .f32 0x3E000000#32 = ((1 / 8 : ℝ) : EReal) := by
  simp [Ideal.ofBits, Ideal.ieee, -EReal.coe_mul]; norm_num

theorem ninf_val : Ideal.ofBits .f32 0xFF800000#32 = (⊥ : EReal) := by
  simp [Ideal.ofBits, Ideal.ieee]

theorem pinf_val : Ideal.ofBits .f32 0x7F800000#32 = (⊤ : EReal) := by
  simp [Ideal.ofBits, Ideal.ieee]

end Cert.Common

end
-- ==== Proof.Att.Softmax.lean ====
/- The two ways of weighting values by the exponentials of scores agree. -/
module

public import proofs.«01_k».proof.Proof.Att.Token
public import proofs.«01_k».proof.Proof.Common.Finite

@[expose] public section

noncomputable section

open Idealize.ShloMosaic Idealize.ShloMosaic.TcCoe Idealize.SL.Sem

namespace Cert.Att
open Cert.Common

/-- The greatest of scores below infinity and of a real sink is real. -/
theorem top_real {sc : Fin 256 → EReal} {sink : EReal} (hs : IsReal sink) (hsc : ∀ k, sc k < ⊤) : IsReal (top sc sink) := by
  obtain ⟨s, rfl⟩ := hs
  have h1 : top sc s < ⊤ := by
    unfold top
    refine max_lt ?_ (EReal.coe_lt_top s)
    rw [ninf_val]
    exact (Finset.fold_max_lt _).2 ⟨bot_lt_top, fun k _ => hsc k⟩
  have h2 : ⊥ < top sc s := lt_of_lt_of_le (EReal.bot_lt_coe s) (le_max_right _ _)
  exact ⟨(top sc s).toReal, (EReal.coe_toReal h1.ne h2.ne').symm⟩

/-- The exponential of a score below infinity over a real is a real that is not negative. -/
theorem exp_real {x t : EReal} (hx : x < ⊤) (ht : IsReal t) : ∃ r : ℝ, 0 ≤ r ∧ Ideal.exp (x - t) = r := by
  obtain ⟨t, rfl⟩ := ht
  induction x with
  | bot => exact ⟨0, le_rfl, by simp⟩
  | top => exact absurd hx (lt_irrefl _)
  | coe r => exact ⟨Real.exp (r - t), (Real.exp_pos _).le, by rw [← EReal.coe_sub, Ideal.exp_coe]⟩

/-- The exponentials' sum is a positive real. -/
theorem denom_real {sc : Fin 256 → EReal} {sink : EReal} (hs : IsReal sink) (hsc : ∀ k, sc k < ⊤) : ∃ r : ℝ, 0 < r ∧ denom sc sink = r := by
  have ht := top_real hs hsc
  choose e he using fun k => exp_real (hsc k) ht
  obtain ⟨s, hs⟩ := hs
  obtain ⟨t, ht⟩ := ht
  refine ⟨(∑ k, e k) + Real.exp (s - t), add_pos_of_nonneg_of_pos (Finset.sum_nonneg fun k _ => (he k).1) (Real.exp_pos _), ?_⟩
  unfold denom
  rw [EReal.coe_add, coe_sum]
  congr 1
  · exact Finset.sum_congr rfl fun k _ => (he k).2
  · rw [ht, hs, ← EReal.coe_sub, Ideal.exp_coe]

/-- A real that is not negative distributes over a sum of extended reals. -/
theorem sum_mul_nonneg {ι : Type} (s : Finset ι) (f : ι → EReal) {c : ℝ} (hc : 0 ≤ c) : (∑ i ∈ s, f i) * (c : EReal) = ∑ i ∈ s, f i * c := by
  induction s using Finset.cons_induction with
  | empty => simp
  | cons a s ha ih =>
    rw [Finset.sum_cons, Finset.sum_cons, ← ih, mul_comm, EReal.left_distrib_of_nonneg_of_ne_top (by exact_mod_cast hc) (EReal.coe_ne_top c), mul_comm, mul_comm (c : EReal)]

/-- Dividing every weight is dividing the sum. -/
theorem mix_eq {sc v : Fin 256 → EReal} {sink : EReal} (hs : IsReal sink) (hsc : ∀ k, sc k < ⊤) : mix sc v sink = softmaxMix sc v sink := by
  obtain ⟨d, hd, e⟩ := denom_real hs hsc
  unfold mix softmaxMix
  rw [e, Ideal.div_coe hd.ne', one_mul, sum_mul_nonneg _ _ (by positivity)]
  refine Finset.sum_congr rfl fun k _ => ?_
  rw [Ideal.div_coe hd.ne', mul_assoc, mul_assoc, mul_comm (v k)]

/-- The values of the keys whose score is minus infinity do not count. -/
theorem softmaxMix_congr {sc v w : Fin 256 → EReal} {sink : EReal} (hs : IsReal sink) (hsc : ∀ k, sc k < ⊤) (hv : ∀ k, sc k ≠ ⊥ → v k = w k) :
    softmaxMix sc v sink = softmaxMix sc w sink := by
  obtain ⟨d, hd, e⟩ := denom_real hs hsc
  unfold softmaxMix
  refine Finset.sum_congr rfl fun k _ => ?_
  by_cases h : sc k = ⊥
  · rw [h, EReal.bot_sub, Ideal.exp_bot, e, Ideal.div_coe hd.ne', zero_mul, zero_mul, zero_mul]
  · rw [hv k h]

/-- The softmax of the scores with the sink beside them, of which the keys' part weights the values. -/
theorem softmax_beside (L : Fin 257 → EReal) (v : Fin 256 → EReal) :
    (∑ k : Fin 256, v k * Ideal.div
        (Ideal.exp (L ⟨k, by omega⟩ - max (Ideal.ofBits .f32 0xFF800000#32) ((Finset.univ : Finset (Fin 257)).fold max (Ideal.ofBits .f32 0xFF800000#32) L)))
        (∑ k : Fin 257, Ideal.exp (L k - max (Ideal.ofBits .f32 0xFF800000#32) ((Finset.univ : Finset (Fin 257)).fold max (Ideal.ofBits .f32 0xFF800000#32) L))))
      = softmaxMix (fun k => L ⟨k, by omega⟩) v (L 256) := by
  have ht : max (Ideal.ofBits .f32 0xFF800000#32) ((Finset.univ : Finset (Fin 257)).fold max (Ideal.ofBits .f32 0xFF800000#32) L)
      = top (fun k => L ⟨k, by omega⟩) (L 256) := by
    rw [ninf_val, max_eq_right bot_le, top, ninf_val, Fin.univ_castSuccEmb, Finset.fold_cons, Finset.fold_map, max_comm]
    rfl
  rw [ht]
  unfold softmaxMix denom
  rw [Fin.sum_univ_castSucc (n := 256)]
  refine Finset.sum_congr rfl fun k _ => ?_
  rw [mul_comm]
  rfl

end Cert.Att

end
-- ==== Proof.Common.Normed.lean ====
/- A vector divided by the root of its mean square is real, whatever its entries. -/
module

public import proofs.«01_k».proof.Proof.Common.Finite

@[expose] public section

noncomputable section

open Idealize.ShloMosaic

namespace Cert.Common

theorem square_nonneg (x : EReal) : 0 ≤ x * x := by
  induction x with
  | bot => simp
  | top => simp
  | coe r => rw [← EReal.coe_mul]; exact EReal.coe_nonneg.2 (mul_self_nonneg r)

/-- The square of an extended real that is not real is infinite. -/
theorem square_top {x : EReal} (h : ¬ IsReal x) : x * x = ⊤ := by
  induction x with
  | bot => simp
  | top => simp
  | coe r => exact absurd ⟨r, rfl⟩ h

/-- An entry times the reciprocal root of the mean square: real where all entries are, and zero where one is infinite, since the mean is infinite then. -/
theorem normalised_real {ι : Type} [Fintype ι] (f : ι → EReal) {n e : ℝ} (hn : 0 < n) (he : 0 < e) {x y : EReal} (hx : x = n) (hy : y = e) (i : ι) :
    IsReal (f i * Ideal.rsqrt (Ideal.div (∑ i, f i * f i) x + y)) := by
  by_cases h : ∀ i, IsReal (f i)
  · exact (h i).mul (IsReal.rsqrt (mean_pos h hn he hx hy))
  · obtain ⟨j, hj⟩ := not_forall.1 h
    have hs : ∑ i, f i * f i = ⊤ := by
      refine top_le_iff.1 ?_
      rw [← square_top hj]
      exact Finset.single_le_sum (f := fun i => f i * f i) (fun i _ => square_nonneg _) (Finset.mem_univ j)
    subst hx hy
    rw [hs, Ideal.div_coe hn.ne', EReal.top_mul_coe_of_pos (by positivity), EReal.top_add_coe]
    exact ⟨0, mul_zero _⟩

end Cert.Common

end
-- ==== Proof.Att.Scores.lean ====
/- The scores over finite arguments: the kernel scales the rotations and adds minus infinity at a hidden key, the reference scales the product and replaces it. -/
module

public import proofs.«01_k».proof.Proof.Att.Head
public import proofs.«01_k».proof.Proof.Att.Softmax
public import proofs.«01_k».proof.Proof.Common.Normed

@[expose] public section

noncomputable section

open Idealize.ShloMosaic Idealize.ShloMosaic.TcCoe Idealize.SL.Sem

namespace Cert.Att
open Cert.Common

/-- A position's angle is real. -/
theorem angle_real (s i : ℕ) : ∃ r : ℝ, angle s i = r := by
  have hb : Ideal.ofBits .f32 0x461C4000#32 = ((10000 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  obtain ⟨a, ha⟩ : ∃ r : ℝ, FloatOps.sitofp (F := Ideal) FTy.f32 (BitVec.ofNat 32 s) = (r : EReal) := ⟨_, rfl⟩
  obtain ⟨e, he⟩ : ∃ r : ℝ, FloatOps.sitofp (F := Ideal) FTy.f32 (BitVec.ofNat 32 i) = (r : EReal) := ⟨_, rfl⟩
  have hp : (0 : ℝ) < Real.rpow 10000 (2 * e * (1 / 64)) := Real.rpow_pos_of_pos (by norm_num) _
  refine ⟨a * (1 * (1 / Real.rpow 10000 (2 * e * (1 / 64)))), ?_⟩
  unfold angle
  rw [ha, he, hb, h2, n64_val, ← EReal.coe_mul, Ideal.div_coe (by norm_num), ← EReal.coe_mul, Ideal.pow_coe_coe, Ideal.div_coe hp.ne']
  push_cast
  rfl

/-- A normalised head's entry is real, whatever the head's entries. -/
theorem gained_real {q gain : Fin 64 → EReal} (hg : ∀ e, IsReal (gain e)) (d : Fin 64) : IsReal (gained q gain d) :=
  (normalised_real q (by norm_num) (by norm_num) n64_val eps_val d).mul (hg d)

/-- A rotated real vector is real. -/
theorem rot_real {u : Fin 64 → EReal} {co si : Fin 32 → EReal} (hu : ∀ e, IsReal (u e)) (hc : ∀ i, IsReal (co i)) (hs : ∀ i, IsReal (si i)) (d : Fin 64) :
    IsReal (rot u co si d) := by
  unfold rot
  split
  · exact ((hu _).mul (hc _)).sub ((hu _).mul (hs _))
  · exact ((hu _).mul (hc _)).add ((hu _).mul (hs _))

/-- Scaling a rotation's table scales what it rotates. -/
theorem rot_scale {u : Fin 64 → EReal} {co si : Fin 32 → EReal} (hu : ∀ e, IsReal (u e)) (hc : ∀ i, IsReal (co i)) (hs : ∀ i, IsReal (si i)) (c : ℝ) (d : Fin 64) :
    rot u (fun i => co i * c) (fun i => si i * c) d = rot u co si d * c := by
  choose a ha using hu
  choose b hb using hc
  choose e he using hs
  unfold rot
  split
  · simp only [ha, hb, he]
    norm_cast
    ring
  · simp only [ha, hb, he]
    norm_cast
    ring

/-- The query of a head before the scaling. -/
def unscaled (x g : Fin 1024 → EReal) (wq : Fin 1024 → Fin 1024 → EReal) (gain : Fin 64 → EReal) (s : ℕ) (h : Fin 16) (d : Fin 64) : EReal :=
  rot (gained (fun e => ∑ k : Fin 1024, (x k * Ffn.rms x * g k) * wq k ⟨64 * h + e, by omega⟩) gain) (fun i => Ideal.cos (angle s i)) (fun i => Ideal.sin (angle s i)) d

/-- The angles' cosines and sines are real. -/
theorem cos_real (s i : ℕ) : IsReal (Ideal.cos (angle s i)) := by
  obtain ⟨r, h⟩ := angle_real s i
  exact ⟨_, by rw [h, Ideal.cos_coe]⟩

theorem sin_real (s i : ℕ) : IsReal (Ideal.sin (angle s i)) := by
  obtain ⟨r, h⟩ := angle_real s i
  exact ⟨_, by rw [h, Ideal.sin_coe]⟩

section
variable {x g : Fin 1024 → EReal} {wq : Fin 1024 → Fin 1024 → EReal} {gain : Fin 64 → EReal}
  (hn : ∀ e, IsReal (gain e)) (s : ℕ) (h : Fin 16)
include hn

theorem head_real (d : Fin 64) : IsReal (gained (fun e => ∑ k : Fin 1024, (x k * Ffn.rms x * g k) * wq k ⟨64 * h + e, by omega⟩) gain d) :=
  gained_real hn d

theorem unscaled_real (d : Fin 64) : IsReal (unscaled x g wq gain s h d) :=
  rot_real (head_real hn h) (fun i => cos_real s i) (fun i => sin_real s i) d

/-- The kernel's query is an eighth of the reference's. -/
theorem query_eq (d : Fin 64) : query x g wq gain s h d = unscaled x g wq gain s h d * Ideal.ofBits FTy.f32 0x3E000000#32 := by
  unfold query
  rw [eighth_val]
  exact rot_scale (head_real hn h) (fun i => cos_real s i) (fun i => sin_real s i) _ d

end

/-- A seen key's score, as the reference forms it; minus infinity at a hidden key. -/
def score (p : Fin 64 → EReal) (K : Fin 2048 → Fin 64 → EReal) (s : Fin 2048) (k : Fin 256) : EReal :=
  if Seen s k then (∑ e : Fin 64, K (keyPos s k) e * p e) * Ideal.ofBits FTy.f32 0x3E000000#32 else ⊥

theorem score_lt {p : Fin 64 → EReal} {K : Fin 2048 → Fin 64 → EReal} (hp : ∀ e, IsReal (p e)) (hK : ∀ t e, IsReal (K t e)) (s : Fin 2048) (k : Fin 256) :
    score p K s k < ⊤ := by
  unfold score
  split
  · rw [eighth_val]
    exact ((IsReal.sum _ fun e => (hK _ e).mul (hp e)).mul (IsReal.coe _)).lt_top
  · exact bot_lt_top

/-- The kernel's attention of a head is the softmax of the reference's scores. -/
theorem attended_eq {q p : Fin 64 → EReal} {K W : Fin 2048 → Fin 64 → EReal} {sink : EReal} (hq : ∀ e, q e = p e * Ideal.ofBits FTy.f32 0x3E000000#32)
    (hp : ∀ e, IsReal (p e)) (hK : ∀ t e, IsReal (K t e)) (hs : IsReal sink) (s : Fin 2048) (d : Fin 64) :
    attended q K W sink s d = softmaxMix (score p K s) (fun k => W (keyPos s k) d) sink := by
  rw [← mix_eq hs (score_lt hp hK s)]
  unfold attended
  congr 1
  funext k
  unfold score
  split
  · rw [zero_mul, add_zero, eighth_val, sum_mul_nonneg _ _ (by norm_num)]
    refine Finset.sum_congr rfl fun e _ => ?_
    rw [hq, eighth_val, mul_right_comm, mul_comm (p e)]
  · rw [one_mul, EReal.add_bot]

end Cert.Att

end
-- ==== Proof.Att.Reference.lean ====
/- The attention reference at a token and a column: the token with its heads' attention, through the output weights, added. -/
module

public import proofs.«01_k».proof.Proof.Att.RefQuery
public import proofs.«01_k».proof.Proof.Att.RefRot
public import proofs.«01_k».proof.Proof.Att.RefBlocks
public import proofs.«01_k».proof.Proof.Att.RefBand
public import proofs.«01_k».proof.Proof.Att.RefLogits
public import proofs.«01_k».proof.Proof.Att.RefExps
public import proofs.«01_k».proof.Proof.Att.RefWeights
public import proofs.«01_k».proof.Proof.Att.RefOut
public import proofs.«01_k».proof.Proof.Att.Scores
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttReferenceIdeal Cert.AttReferenceIdeal.Gen
open Cert.Common

/-- The heads' attention, side by side, from rotated queries. -/
def refAttention (R : FVec Ideal S32x2048x16x64 .f32) (K V : FVec Ideal S32x2048x2x64 .f32) (sinks : FVec Ideal S16 .f32) : FVec Ideal S32x2048x1024 .f32 :=
  refMixed (refBand V) (refWeights (refExps (refLogits (refScores (refBand K) (refQueries R)) refValid (refSinks sinks))
    (refMax (refLogits (refScores (refBand K) (refQueries R)) refValid (refSinks sinks)))))

/-- The reference's own term over its arguments, by its sections. -/
def attRef (X : FVec Ideal S32x2048x1024 .f32) (G : FVec Ideal S1024 .f32) (K V : FVec Ideal S32x2048x2x64 .f32) (Wq : FVec Ideal S1024x1024 .f32)
    (gain : FVec Ideal S64 .f32) (sinks : FVec Ideal S16 .f32) (Wo : FVec Ideal S1024x1024 .f32) : FVec Ideal S32x2048x1024 .f32 :=
  refOut X (refAttention (refRotated (refGained (refNormed X G) Wq gain) refCos refSin) K V sinks) Wo

/-- The weights of a row of logits, applied to the band of values. -/
theorem weighted_at (L : FVec Ideal S16x32x2x8x128x257 .f32) (W : FVec Ideal S16x32x256x2x64 .f32) (n : Fin 16) (b : Fin 32) (g : Fin 2) (j : Fin 8)
    (r : Fin 128) (d : Fin 64) (s : Fin 2048) (f : Fin 1024) (hs : (s : ℕ) = 128 * n + r) (hf : (f : ℕ) = 512 * g + 64 * j + d) :
    refMixed W (refWeights (refExps L (refMax L))) (ix3 b s f)
      = softmaxMix (fun k => L (ix6 n b g j r ⟨k, by omega⟩)) (fun k => W (ix5 n b k g d)) (L (ix6 n b g j r 256)) := by
  rw [refMixed_at W _ n b g j r d s f hs hf]
  simp only [refWeights_at, refExps_at, refMax_at]
  exact softmax_beside (fun k => L (ix6 n b g j r k)) _

/-- A seen key is not one of those that stand before a sequence's start. -/
theorem seen_band {s : Fin 2048} {k : Fin 256} (h : Seen s k) : ¬ ((s : ℕ) / 128 = 0 ∧ (k : ℕ) < 128) := by
  unfold Seen at h; omega

/-- The band at a key that is seen. -/
theorem band_seen (K : FVec Ideal S32x2048x2x64 .f32) (n : Fin 16) (b : Fin 32) (r : Fin 128) (k : Fin 256) (g : Fin 2) (d : Fin 64) (s : Fin 2048)
    (hs : (s : ℕ) = 128 * n + r) (h : Seen s k) : refBand K (ix5 n b k g d) = K (ix4 b (keyPos s k) g d) := by
  have hb := seen_band h
  have hn : (s : ℕ) / 128 = n := by omega
  rw [hn] at hb
  rw [refBand_at K n b k g d hb]
  congr 2
  apply Fin.ext
  dsimp only [keyPos]
  rw [hn, if_neg hb]

/-- A logit of the reference is the score of its key. -/
theorem logit_at (R : FVec Ideal S32x2048x16x64 .f32) (K : FVec Ideal S32x2048x2x64 .f32) (sinks : FVec Ideal S16 .f32) (n : Fin 16) (b : Fin 32) (g : Fin 2)
    (j : Fin 8) (r : Fin 128) (s : Fin 2048) (h : Fin 16) (hs : (s : ℕ) = 128 * n + r) (hh : (h : ℕ) = 8 * g + j) (k : Fin 256) :
    refLogits (refScores (refBand K) (refQueries R)) refValid (refSinks sinks) (ix6 n b g j r ⟨k, by omega⟩)
      = score (fun e => R (ix4 b s h e)) (fun p e => K (ix4 b p g e)) s k := by
  have es : (⟨128 * n + r, by omega⟩ : Fin 2048) = s := Fin.ext hs.symm
  have eh : (⟨8 * g + j, by omega⟩ : Fin 16) = h := Fin.ext hh.symm
  rw [refLogits_key, refValid_at, es, ninf_val]
  unfold score
  by_cases hk : Seen s k
  · rw [if_pos hk, if_pos hk, if_pos rfl, refScores_at]
    congr 1
    refine Finset.sum_congr rfl fun e _ => ?_
    rw [band_seen K n b r k g e s hs hk, refQueries_at, es, eh]
  · rw [if_neg hk, if_neg hk, if_neg (by decide)]

/-- The heads' attention at an entry. -/
theorem refAttention_at (R : FVec Ideal S32x2048x16x64 .f32) (K V : FVec Ideal S32x2048x2x64 .f32) (sinks : FVec Ideal S16 .f32)
    (hR : ∀ i, IsReal (R i)) (hK : ∀ i, IsReal (K i)) (hS : ∀ i, IsReal (sinks i)) (b : Fin 32) (s : Fin 2048) (f : Fin 1024) (g : Fin 2) (h : Fin 16) (d : Fin 64)
    (hg : (g : ℕ) = f / 512) (hh : (h : ℕ) = f / 64) (hd : (d : ℕ) = f % 64) :
    refAttention R K V sinks (ix3 b s f)
      = softmaxMix (score (fun e => R (ix4 b s h e)) (fun p e => K (ix4 b p g e)) s) (fun k => V (ix4 b (keyPos s k) g d)) (sinks (ix1 h)) := by
  have hs : (s : ℕ) = 128 * (⟨s / 128, by omega⟩ : Fin 16) + (⟨s % 128, by omega⟩ : Fin 128) := by dsimp only; omega
  have hj : (h : ℕ) = 8 * g + (⟨h % 8, by omega⟩ : Fin 8) := by dsimp only; omega
  unfold refAttention
  rw [weighted_at _ _ ⟨s / 128, by omega⟩ b g ⟨h % 8, by omega⟩ ⟨s % 128, by omega⟩ d s f hs (by dsimp only; omega)]
  rw [refLogits_sink, refSinks_at]
  have eh : (⟨8 * g + (⟨h % 8, by omega⟩ : Fin 8), by omega⟩ : Fin 16) = h := Fin.ext hj.symm
  rw [eh]
  simp only [logit_at R K sinks _ b g _ _ s h hs hj]
  refine softmaxMix_congr (hS _) (score_lt (fun e => hR _) (fun t e => hK _) s) fun k hk => band_seen V _ b _ k g d s hs ?_
  by_contra hn
  exact hk (if_neg hn)

end Cert.Att

end
-- ==== Proof.Att.Value.lean ====
/- The attention call's result is the reference's, entry by entry. -/
module

public import proofs.«01_k».proof.Proof.Att.Result
public import proofs.«01_k».proof.Proof.Att.Reference
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Att
open Cert.AttKernelIdeal Cert.AttKernelIdeal.Gen
open Cert.Common

variable (m : (ℓ : Loc nD τ sig) → Buf (Elt Ideal) ℓ)

/-- The block's payload at a row and a column. -/
theorem payload_at (A : FVec Ideal S256x1024 .bf16) (Wo : FVec Ideal S1024x1024 .bf16) (X : FVec Ideal S1x256x1024 .f32) (r : Fin 256) (d : Fin 1024) :
    k0_pay2 (F := Ideal) A Wo X (ix3 0 r d) = X (ix3 0 r d) + ∑ f : Fin 1024, A (ix2 r f) * Wo (ix2 f d) := by
  pointwise [k0_pay2]

/-- The arguments that a token's attention reads are finite. -/
structure Finite (c : Dev nD) : Prop where
  k : ∀ i, IsReal (m ((c : Thread nD τ).loc main_arg2) i)
  gain : ∀ i, IsReal (m ((c : Thread nD τ).loc main_arg5) i)
  sinks : ∀ i, IsReal (m ((c : Thread nD τ).loc main_arg6) i)

/-- The reference over the call's arguments. -/
abbrev REF (c : Dev nD) : FVec Ideal S32x2048x1024 .f32 :=
  attRef (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's rotated query of a head. -/
theorem rotated_at (X : FVec Ideal S32x2048x1024 .f32) (G : FVec Ideal Cert.AttReferenceIdeal.S1024 .f32) (Wq : FVec Ideal S1024x1024 .f32) (gain : FVec Ideal Cert.AttReferenceIdeal.S64 .f32)
    (b : Fin 32) (s : Fin 2048) (h : Fin 16) (e : Fin 64) :
    refRotated (refGained (refNormed X G) Wq gain) refCos refSin (ix4 b s h e)
      = unscaled (fun k => X (ix3 b s k)) (fun k => G (ix1 k)) (fun k l => Wq (ix2 k l)) (fun e => gain (ix1 e)) s h e := by
  rw [refRotated_at]
  simp only [refGained_at, refNormed_at, refCos_at, refSin_at]
  rfl

/-- A head's attention is the reference's. -/
theorem entry_eq (c : Dev nD) (H : Finite m c) (b : Fin 32) (s : Fin 2048) (f : Fin 1024) (g : Fin 2) (h : Fin 16) (d : Fin 64)
    (hg : (g : ℕ) = f / 512) (hh : (h : ℕ) = f / 64) (hd : (d : ℕ) = f % 64) :
    entry m c b s g h d = refAttention (refRotated (refGained (refNormed (m ((c : Thread nD τ).loc main_arg0)) (m ((c : Thread nD τ).loc main_arg1)))
        (m ((c : Thread nD τ).loc main_arg4)) (m ((c : Thread nD τ).loc main_arg5))) refCos refSin)
      (m ((c : Thread nD τ).loc main_arg2)) (m ((c : Thread nD τ).loc main_arg3)) (m ((c : Thread nD τ).loc main_arg6)) (ix3 b s f) := by
  have hq (b : Fin 32) (s : Fin 2048) (h : Fin 16) (e : Fin 64) : IsReal (unscaled (fun k => m ((c : Thread nD τ).loc main_arg0) (ix3 b s k))
      (fun k => m ((c : Thread nD τ).loc main_arg1) (ix1 k)) (fun k l => m ((c : Thread nD τ).loc main_arg4) (ix2 k l))
      (fun e => m ((c : Thread nD τ).loc main_arg5) (ix1 e)) s h e) :=
    unscaled_real (fun e => H.gain _) s h e
  unfold entry
  rw [attended_eq (fun e => query_eq (fun e => H.gain _) s h e) (hq b s h) (fun t e => H.k _) (H.sinks _)]
  rw [refAttention_at _ _ _ _ ?_ H.k H.sinks b s f g h d hg hh hd]
  · simp only [rotated_at]
  · intro i
    obtain ⟨b, s, h, e, rfl⟩ : ∃ (b : Fin 32) (s : Fin 2048) (h : Fin 16) (e : Fin 64), i = ix4 b s h e := ⟨i 0, i 1, i 2, i 3, eq_ix4 i⟩
    rw [rotated_at]
    exact hq _ _ _ _

/-- What grid point `t` writes at a row and a column is the reference at the token's batch and position. -/
theorem point (c : Dev nD) (H : Finite m c) (t : Fin cfg0.N) (y : S1x256x1024.Idx) :
    k0_pay2 (attBlock m c t) (iblk m c 13 t) (iblk m c 0 t) y = REF m c (((cfg0.win 14).blk t).view.emb y) := by
  have ht : t.val < 256 := lt_of_lt_of_eq t.isLt N_0
  obtain ⟨z, r, d, rfl⟩ : ∃ (z : Fin 1) (r : Fin 256) (d : Fin 1024), y = ix3 z r d := ⟨y 0, y 1, y 2, eq_ix3 y⟩
  obtain rfl : z = 0 := Subsingleton.elim _ _
  have e : ((cfg0.win 14).blk t).view.emb (ix3 0 r d) = (ix3 ⟨t / 8, by omega⟩ ⟨256 * (t % 8) + r, by omega⟩ d : S32x2048x1024.Idx) := by
    funext a
    apply Fin.ext
    match a with
    | 0 => blk_simp [idx t] <;> dsimp only <;> omega
    | 1 => blk_simp [idx t] <;> dsimp only <;> omega
    | 2 => blk_simp [idx t] <;> dsimp only <;> omega
  rw [e, payload_at]
  unfold REF attRef
  rw [refOut_at]
  congr 1
  · exact x_at m c t r d _ _ rfl rfl
  · refine Finset.sum_congr rfl fun f _ => ?_
    rw [wo_at]
    congr 1
    exact entry_eq m c H _ _ f _ _ _ rfl rfl rfl

/-- The result array after the run is the reference's term over the arguments. -/
theorem final (c : Dev nD) (H : Finite m c) : (dats m 0 c).arrAt 14 (cfgs 0).N = REF m c := by
  refine (dats m 0 c).arrAt_eq_of_covers 14 _ (by decide +kernel) fun t _ y => ?_
  blk_simp
  rw [after0_14, stored]
  exact point m c H t y

end Cert.Att

end
-- ==== Proof.Common.AllFinite.lean ====
/- A conjunction of finiteness tests over an array, read back as a fact about every element. -/
module

public import proofs.«01_k».proof.Proof.Common.Finite
public import Idealize.ShloMosaic.Lib.Pointwise

@[expose] public section

noncomputable section

open Idealize.ShloMosaic Idealize.ShloMosaic.TcCoe Idealize.SL.Sem

namespace Cert.Common

theorem and_one (x y : BitVec 1) : IntOp.andi x y = 1#1 ↔ x = 1#1 ∧ y = 1#1 := by
  revert x y; decide

/-- A conjunction folded over words is one only if every word is. -/
theorem foldl_and {ι : Type} (l : List ι) (f : ι → BitVec 1) (a : BitVec 1) (h : l.foldl (fun r i => IntOp.andi r (f i)) a = 1#1) :
    a = 1#1 ∧ ∀ i ∈ l, f i = 1#1 := by
  induction l generalizing a with
  | nil => exact ⟨h, fun i hi => by simp at hi⟩
  | cons x xs ih =>
    obtain ⟨h1, h2⟩ := ih _ h
    obtain ⟨h3, h4⟩ := (and_one _ _).1 h1
    refine ⟨h3, fun i hi => ?_⟩
    rcases List.mem_cons.1 hi with rfl | hi
    · exact h4
    · exact h2 i hi

/-- The shapes' one index where no axis is left. -/
theorem nullary_idx {t : Shape} (ht : t.rank = 0) (i j : t.Idx) : i = j := by
  funext a
  exact absurd a.isLt (by omega)

/-- A conjunction over the whole array is one only if every element is. -/
theorem all_one {s t u : Shape} {axes : List (Fin s.rank)} (x : IVec s 1) (init : IVec u 1) (h : s.ReducesTo axes t) (hu : 0 < u.numel) (ht : t.rank = 0) (j : t.Idx)
    (e : Host.reduce IntOp.andi x init h hu j = 1#1) (i : s.Idx) : x i = 1#1 := by
  rw [Host.reduce_eq_foldl] at e
  refine (foldl_and _ _ _ e).2 i ?_
  rw [List.mem_filter]
  refine ⟨List.mem_map.2 ⟨s.rowMajor i, List.mem_finRange _, Equiv.symm_apply_apply _ _⟩, ?_⟩
  exact decide_eq_true (nullary_idx ht _ _)

/-- An array of which every magnitude tests below infinity is real everywhere. -/
theorem all_real {s t u v : Shape} {axes : List (Fin s.rank)} (x : FVec Ideal s .f32) (dims : Fin v.rank → Fin s.rank) (hb : v.BroadcastsInDim s dims) (init : IVec u 1)
    (h : s.ReducesTo axes t) (hu : 0 < u.numel) (ht : t.rank = 0) (j : t.Idx)
    (e : Host.reduce IntOp.andi (cmpf .olt (Host.absf x) (broadcastInDim s dims hb (constant v .f32 0x7F800000#32))) init h hu j = 1#1) (i : s.Idx) :
    IsReal (x i) := by
  have q : Ideal.cmp .olt (max (x i) (-(x i))) (Ideal.ofBits .f32 0x7F800000#32) = 1#1 := all_one _ _ h hu ht j e i
  rw [pinf_val] at q
  by_contra hn
  have : ¬ (max (x i) (-(x i)) : EReal) < ⊤ := fun hl => hn (IsReal.of_abs hl)
  simp [Ideal.cmp, this] at q

end Cert.Common

end
-- ==== Proof.Att.Claims.lean ====
/- The claims about the attention call: its result is the reference's over the reals, and the reference's own frame. -/
module

public import proofs.«01_k».proof.Defs
public import proofs.«01_k».proof.Proof.Att.Value
public import proofs.«01_k».proof.Proof.Common.AllFinite
public import proofs.«01_k».proof.Proof.Gen.Pre_attention_finite
public import proofs.«01_k».proof.Proof.Gen.AttReferenceIdeal.Run
public import Idealize.ShloMosaic.Lib.Claim

@[expose] public section

set_option maxRecDepth 16384

noncomputable section

open Idealize.ShloMosaic Idealize.ShloMosaic.TcCoe Idealize.SL.Sem

namespace Cert.Att
open Cert.Common

/-- What the precondition says of its arrays, element by element. -/
theorem finite_of_pre (x0 : FVec Ideal Cert.Pre_attention_finite.S32x2048x1024 .f32) (x1 : FVec Ideal Cert.Pre_attention_finite.S1024 .f32)
    (x2 x3 : FVec Ideal Cert.Pre_attention_finite.S32x2048x2x64 .f32) (x4 : FVec Ideal Cert.Pre_attention_finite.S1024x1024 .f32)
    (x5 : FVec Ideal Cert.Pre_attention_finite.S64 .f32) (x6 : FVec Ideal Cert.Pre_attention_finite.S16 .f32) (x7 : FVec Ideal Cert.Pre_attention_finite.S1024x1024 .f32)
    (h : Cert.Pre_attention_finite.fn (F := Ideal) x0 x1 x2 x3 x4 x5 x6 x7 = fun _ => 1#1) :
    (∀ i, IsReal (x2 i)) ∧ (∀ i, IsReal (x5 i)) ∧ (∀ i, IsReal (x6 i)) := by
  have e := congrFun h (Shape.Idx.first Cert.Pre_attention_finite.Facts.h_S_)
  unfold Cert.Pre_attention_finite.fn at e
  obtain ⟨e, e6⟩ := (and_one _ _).1 e
  obtain ⟨e2, e5⟩ := (and_one _ _).1 e
  exact ⟨all_real _ _ _ _ _ _ rfl _ e2, all_real _ _ _ _ _ _ rfl _ e5, all_real _ _ _ _ _ _ rfl _ e6⟩

theorem finite (m : (ℓ : Loc Cert.AttKernelIdeal.nD Cert.AttKernelIdeal.τ Cert.AttKernelIdeal.sig) → Buf (Elt Ideal) ℓ)
    (h : Cert.Pre_AttKernelIdeal_attention_finite m) (c : Dev Cert.AttKernelIdeal.nD) : Finite m c := by
  obtain ⟨h2, h5, h6⟩ := finite_of_pre _ _ _ _ _ _ _ _ (h c)
  exact ⟨h2, h5, h6⟩

/-- The reference program's result, by the reference's sections. -/
theorem res_eq (m : (ℓ : Loc Cert.AttReferenceIdeal.nD Cert.AttReferenceIdeal.τ Cert.AttReferenceIdeal.sig) → Buf (Elt Ideal) ℓ) (c : Dev Cert.AttReferenceIdeal.nD) :
    Cert.AttReferenceIdeal.Value.res_main_v134 m c
      = attRef (m ((c.tc : Thread Cert.AttReferenceIdeal.nD Cert.AttReferenceIdeal.τ).loc Cert.AttReferenceIdeal.main_arg0))
        (m ((c.tc : Thread Cert.AttReferenceIdeal.nD Cert.AttReferenceIdeal.τ).loc Cert.AttReferenceIdeal.main_arg1))
        (m ((c.tc : Thread Cert.AttReferenceIdeal.nD Cert.AttReferenceIdeal.τ).loc Cert.AttReferenceIdeal.main_arg2))
        (m ((c.tc : Thread Cert.AttReferenceIdeal.nD Cert.AttReferenceIdeal.τ).loc Cert.AttReferenceIdeal.main_arg3))
        (m ((c.tc : Thread Cert.AttReferenceIdeal.nD Cert.AttReferenceIdeal.τ).loc Cert.AttReferenceIdeal.main_arg4))
        (m ((c.tc : Thread Cert.AttReferenceIdeal.nD Cert.AttReferenceIdeal.τ).loc Cert.AttReferenceIdeal.main_arg5))
        (m ((c.tc : Thread Cert.AttReferenceIdeal.nD Cert.AttReferenceIdeal.τ).loc Cert.AttReferenceIdeal.main_arg6))
        (m ((c.tc : Thread Cert.AttReferenceIdeal.nD Cert.AttReferenceIdeal.τ).loc Cert.AttReferenceIdeal.main_arg7)) := by
  unfold Cert.AttReferenceIdeal.Value.res_main_v134 attRef refAttention refOut refMixed refWeights refExps refMax refLogits refScores refQueries refRotated refGained refNormed
    refBand refSinks refValid refCos refSin
  rfl

/-- The kernel's result is the reference's, entry by entry, where the arguments are finite. -/
theorem algebraic : Cert.algebraic_AttKernelIdeal_AttReferenceIdeal_pre_attention_finite := by
  pair_intro
  · run_from Cert.AttKernelIdeal.Gen.run_main m g & Cert.AttKernelIdeal.Gen.unchanged m g
  · run_from Cert.AttReferenceIdeal.Value.run m' g'
    obtain ⟨h0, h1, h2, h3, h4, h5, h6, h7⟩ := hagree c
    rw [res_eq, h0, h1, h2, h3, h4, h5, h6, h7]
    exact (final m c (finite m hpre c)).symm

/-- The reference runs, leaves its arguments as they were and every counter at zero. -/
theorem reference_frame : Cert.quiescent_AttReferenceIdeal := by
  intro m g _
  exact (θ_run Cert.AttReferenceIdeal.defs _ _).mono (fun r h => ⟨fun c => (h c).2, sem_eq_zero_of_no_sems (by decide) r.2⟩)
    (Cert.AttReferenceIdeal.Value.run m g)

end Cert.Att

end
-- ==== Proof.Kv.Token.lean ====
/- A key and a value of one token. -/
module

public import proofs.«01_k».proof.Proof.Att.Tables
public import proofs.«01_k».proof.Proof.Att.Token
public import proofs.«01_k».proof.Proof.Ffn.Token
public import proofs.«01_k».proof.Proof.Common.Finite

@[expose] public section

set_option maxRecDepth 16384

noncomputable section

open Idealize.ShloMosaic Idealize.ShloMosaic.TcCoe Idealize.SL.Sem
open Idealize.ShloMosaic.Pipeline (Dat)

namespace Cert.Kv
open Cert.Att (col rot gained angle)

/-- Entry `d` of head `h`'s key of the token at position `s`: its projection, normalised and rotated. -/
def key (x g : Fin 1024 → EReal) (w : Fin 1024 → Fin 256 → EReal) (gain : Fin 64 → EReal) (s : ℕ) (h : Fin 2) (d : Fin 64) : EReal :=
  rot (gained (fun e => ∑ k : Fin 1024, (x k * Ffn.rms x * g k) * w k ⟨64 * h + e, by omega⟩) gain)
    (fun i => Ideal.cos (angle s i)) (fun i => Ideal.sin (angle s i)) d

/-- Entry `d` of head `h`'s value of a token. -/
def value (x g : Fin 1024 → EReal) (w : Fin 1024 → Fin 256 → EReal) (h : Fin 2) (d : Fin 64) : EReal :=
  ∑ k : Fin 1024, (x k * Ffn.rms x * g k) * w k ⟨128 + 64 * h + d, by omega⟩

/-- A sum over lanes that hold every entry four times is four times the sum over the entries. -/
theorem sum_lanes (F : Fin 256 → EReal) (f : Fin 64 → EReal) (h : ∀ j d, F (col j d) = f d) : ∑ l, F l = 4 * ∑ d, f d := by
  have e : ∀ l : Fin 256, F l = ∑ j : Fin 4, if (l : ℕ) % 128 / 32 = j then F l else 0 := by
    intro l
    rw [Finset.sum_eq_single ⟨(l : ℕ) % 128 / 32, by omega⟩]
    · rw [if_pos rfl]
    · intro j _ hj
      exact if_neg fun hl => hj (Fin.ext hl.symm)
    · exact fun hn => absurd (Finset.mem_univ _) hn
  rw [Finset.sum_congr rfl fun l _ => e l, Finset.sum_comm]
  simp only [Cert.Att.sum_col, h]
  rw [Finset.sum_const, Finset.card_univ, Fintype.card_fin, EReal.nsmul_eq_mul]
  rfl

/-- The mean of the squares over lanes that hold every entry four times is the mean over the entries. -/
theorem mean_lanes (F : Fin 256 → EReal) (f : Fin 64 → EReal) (h : ∀ j d, F (col j d) = f d) :
    Ideal.div (∑ l, F l * F l) (Ideal.ofBits .f32 0x43800000#32) = Ideal.div (∑ d, f d * f d) (Ideal.ofBits .f32 0x42800000#32) := by
  have h1 : Ideal.ofBits .f32 0x43800000#32 = ((256 : ℝ) : EReal) := by simp [Ideal.ofBits, Ideal.ieee, -EReal.coe_mul]; norm_num
  rw [sum_lanes _ (fun d => f d * f d) fun j d => by rw [h], h1, Cert.Common.n64_val, Ideal.div_coe (by norm_num), Ideal.div_coe (by norm_num),
    mul_comm (4 : EReal), mul_assoc]
  congr 1
  rw [show (4 : EReal) = ((4 : ℝ) : EReal) from rfl, ← EReal.coe_mul]
  norm_num

end Cert.Kv

end
-- ==== Proof.Kv.Tables.lean ====
/- What the host's tables hold at an index. -/
module

public import proofs.«01_k».proof.Proof.Gen.KvKernelIdeal.Value
public import proofs.«01_k».proof.Proof.Att.Tables
public import proofs.«01_k».proof.Proof.Kv.Token
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kv
open Cert.KvKernelIdeal Cert.KvKernelIdeal.Gen
open Cert.Att (col rot gained angle)

variable (m : (ℓ : Loc nD τ sig) → Buf (Elt Ideal) ℓ)

theorem gTable (c : Dev nD) (l : Fin 1024) :
    V m c main_v49 (ix2 0 l) = m ((c : Thread nD τ).loc main_arg1) (ix1 l) := by
  unfold V
  after_reads_at

theorem gainTable (c : Dev nD) (l : Fin 256) :
    V m c main_v59 (ix2 0 l) = m ((c : Thread nD τ).loc main_arg3) (ix1 ⟨32 * (l / 128) + l % 32, by omega⟩) := by
  unfold V
  after_reads_at
  split <;> after_reads_at <;> exact congrArg _ (congrArg ix1 (Fin.ext (by dsimp only; omega)))

theorem wkTable (c : Dev nD) (k : Fin 1024) (l : Fin 512) :
    V m c main_v14 (ix2 k l) = m ((c : Thread nD τ).loc main_arg2) (ix2 k ⟨64 * (l / 256) + 32 * (l % 256 / 128) + l % 32, by omega⟩) := by
  unfold V
  after_reads_at
  split <;> after_reads_at <;> exact congrArg _ (congrArg (ix2 k) (Fin.ext (by dsimp only; omega)))

theorem wvTable (c : Dev nD) (k : Fin 1024) (l : Fin 512) :
    V m c main_v19 (ix2 k l) = m ((c : Thread nD τ).loc main_arg2) (ix2 k ⟨128 + 64 * (l / 256) + l % 64, by omega⟩) := by
  unfold V
  after_reads_at
  exact congrArg _ (congrArg (ix2 k) (Fin.ext (by dsimp only; omega)))

theorem cosTable (c : Dev nD) (s : Fin 2048) (l : Fin 128) :
    V m c main_v42 (ix2 s l) = Ideal.cos (angle s (l % 32)) := by
  unfold V
  after_reads_at
  rfl

theorem sinTable (c : Dev nD) (s : Fin 2048) (l : Fin 128) :
    V m c main_v48 (ix2 s l) = Ideal.sin (angle s (l % 32)) := by
  unfold V
  after_reads_at
  rfl

end Cert.Kv

end
-- ==== Proof.Kv.Reads.lean ====
/- What the body reads of the arguments at a grid point. -/
module

public import proofs.«01_k».proof.Proof.Kv.Tables

@[expose] public section

set_option maxRecDepth 16384

noncomputable section

open Idealize.ShloMosaic Idealize.ShloMosaic.TcCoe Idealize.SL.Sem
open Idealize.ShloMosaic.Pipeline (Dat)

namespace Cert.Kv
open Cert.KvKernelIdeal Cert.KvKernelIdeal.Gen
open Cert.Att (col rot gained angle)

variable (m : (ℓ : Loc nD τ sig) → Buf (Elt Ideal) ℓ)

/-- The block index of every window at grid point `t`: batch `t / 4`, block of 512 tokens `t % 4`. -/
theorem idx : ∀ t : Fin cfg0.N, win0_0.index t = ![t.val / 4, t.val % 4, 0] ∧ win0_1.index t = ![0, 0] ∧ win0_2.index t = ![0, 0]
    ∧ win0_3.index t = ![t.val % 4, 0] ∧ win0_4.index t = ![t.val % 4, 0] ∧ win0_5.index t = ![0, 0] ∧ win0_6.index t = ![0, 0]
    ∧ win0_7.index t = ![t.val / 4, t.val % 4, 0] ∧ win0_8.index t = ![t.val / 4, t.val % 4, 0] :=
  (by decide +kernel : ∀ t : Fin grid0.N, _)

theorem x_at (c : Dev nD) (t : Fin cfg0.N) (r : Fin 512) (k : Fin 1024) (b : Fin 32) (s : Fin 2048) (hb : (b : ℕ) = t.val / 4)
    (hs : (s : ℕ) = 512 * (t.val % 4) + r) :
    iblk m c 0 t (ix3 0 r k) = m ((c : Thread nD τ).loc main_arg0) (ix3 b s k) := by
  blk_ext! [iblk, V, idx t]

theorem g_at (c : Dev nD) (t : Fin cfg0.N) (k : Fin 1024) :
    iblk m c 1 t (ix2 0 k) = m ((c : Thread nD τ).loc main_arg1) (ix1 k) := by
  refine Eq.trans ?_ (gTable m c k)
  unfold iblk
  generalize V m c = W
  blk_ext [idx t]

theorem gain_at (c : Dev nD) (t : Fin cfg0.N) (j : Fin 4) (d : Fin 64) :
    iblk m c 2 t (ix2 0 (col j d)) = m ((c : Thread nD τ).loc main_arg3) (ix1 d) := by
  refine Eq.trans (b := V m c main_v59 (ix2 0 (col j d))) (by unfold iblk; generalize V m c = W; blk_ext [idx t]) ((gainTable m c (col j d)).trans ?_)
  exact congrArg _ (congrArg ix1 (Fin.ext (by dsimp only [col]; omega)))

theorem cos_at (c : Dev nD) (t : Fin cfg0.N) (r : Fin 512) (l : Fin 128) :
    iblk m c 3 t (ix2 r l) = Ideal.cos (angle (512 * (t.val % 4) + r) (l % 32)) := by
  refine Eq.trans ?_ (cosTable m c ⟨512 * (t.val % 4) + r, by omega⟩ l)
  unfold iblk
  generalize V m c = W
  blk_ext [idx t]

theorem sin_at (c : Dev nD) (t : Fin cfg0.N) (r : Fin 512) (l : Fin 128) :
    iblk m c 4 t (ix2 r l) = Ideal.sin (angle (512 * (t.val % 4) + r) (l % 32)) := by
  refine Eq.trans ?_ (sinTable m c ⟨512 * (t.val % 4) + r, by omega⟩ l)
  unfold iblk
  generalize V m c = W
  blk_ext [idx t]

theorem wk_at (c : Dev nD) (t : Fin cfg0.N) (k : Fin 1024) (l : Fin 512) :
    iblk m c 5 t (ix2 k l) = m ((c : Thread nD τ).loc main_arg2) (ix2 k ⟨64 * (l / 256) + 32 * (l % 256 / 128) + l % 32, by omega⟩) := by
  refine Eq.trans ?_ (wkTable m c k l)
  unfold iblk
  generalize V m c = W
  blk_ext [idx t]

theorem wv_at (c : Dev nD) (t : Fin cfg0.N) (k : Fin 1024) (l : Fin 512) :
    iblk m c 6 t (ix2 k l) = m ((c : Thread nD τ).loc main_arg2) (ix2 k ⟨128 + 64 * (l / 256) + l % 64, by omega⟩) := by
  refine Eq.trans ?_ (wvTable m c k l)
  unfold iblk
  generalize V m c = W
  blk_ext [idx t]

/-- The index of a head's column of the weights. -/
theorem head_idx (h : Fin 2) (o : Fin 2 → ℕ) (inb) (ho : o = ![0, 256 * (h : ℕ)]) (k : Fin 1024) (l : Fin 256) :
    (Rect.unit (s := S1024x512) o ![1024, 256] inb).idx (ix2 k l) = ix2 k ⟨256 * h + l, by omega⟩ := by
  subst ho
  funext a
  apply Fin.ext
  rw [Rect.idx_unit_val]
  fin_cases a <;> simp

/-- The head's columns of the keys' weights. -/
theorem wkHead (c : Dev nD) (t : Fin cfg0.N) (h : Fin 2) (o : Fin 2 → ℕ) (inb) (ho : o = ![0, 256 * (h : ℕ)]) (k : Fin 1024) (j : Fin 4) (d : Fin 64) :
    View.ld (iblk m c 5 t) (Rect.unit (s := S1024x512) o ![1024, 256] inb) (ix2 k (col j d)) =
      m ((c : Thread nD τ).loc main_arg2) (ix2 k ⟨64 * h + d, by omega⟩) := by
  refine (congrArg (iblk m c 5 t) (head_idx h o inb ho k _)).trans ((wk_at m c t k _).trans ?_)
  exact congrArg _ (congrArg (ix2 k) (Fin.ext (by dsimp only [col]; omega)))

/-- The head's columns of the values' weights. -/
theorem wvHead (c : Dev nD) (t : Fin cfg0.N) (h : Fin 2) (o : Fin 2 → ℕ) (inb) (ho : o = ![0, 256 * (h : ℕ)]) (k : Fin 1024) (l : Fin 256) :
    View.ld (iblk m c 6 t) (Rect.unit (s := S1024x512) o ![1024, 256] inb) (ix2 k l) =
      m ((c : Thread nD τ).loc main_arg2) (ix2 k ⟨128 + 64 * h + l % 64, by omega⟩) := by
  refine (congrArg (iblk m c 6 t) (head_idx h o inb ho k _)).trans ((wv_at m c t k _).trans ?_)
  exact congrArg _ (congrArg (ix2 k) (Fin.ext (by dsimp only; omega)))

end Cert.Kv

end
-- ==== Proof.Kv.Block.lean ====
/- What the body computes for a block of 512 tokens, at an entry. -/
module

public import proofs.«01_k».proof.Proof.Gen.KvKernelIdeal.Value
public import proofs.«01_k».proof.Proof.Kv.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kv
open Cert.KvKernelIdeal Cert.KvKernelIdeal.Gen
open Cert.Att (col rot gained angle)

/-- The normalised tokens at a row and a column. -/
theorem normed_at (x : FVec Ideal S1x512x1024 .f32) (g : FVec Ideal S1x1024 .f32) (r : Fin 512) (k : Fin 1024) :
    k0_pay3 (F := Ideal) x g (ix2 r k) = x (ix3 0 r k) * Ffn.rms (fun k => x (ix3 0 r k)) * g (ix2 0 k) := by
  pointwise [k0_pay3, Ffn.rms]

/-- The values of a head's lanes. -/
theorem values_at (H : FVec Ideal S512x1024 .bf16) (w : FVec Ideal S1024x256 .bf16) (r : Fin 512) (l : Fin 256) :
    k0_pay2 (F := Ideal) H w (ix3 0 r l) = ∑ k : Fin 1024, H (ix2 r k) * w (ix2 k l) := by
  pointwise [k0_pay2]

/-- A head's normalised keys at its lanes, whose weights and gains hold every entry four times. -/
theorem gainedKeys_at (H : FVec Ideal S512x1024 .bf16) (w : FVec Ideal S1024x256 .bf16) (gain : FVec Ideal S1x256 .f32)
    (r : Fin 512) (q gn : Fin 64 → EReal) (hq : ∀ j d, (∑ k : Fin 1024, H (ix2 r k) * w (ix2 k (col j d))) = q d) (hg : ∀ j d, gain (ix2 0 (col j d)) = gn d)
    (j : Fin 4) (d : Fin 64) : k0_pay9 (F := Ideal) H w gain (ix2 r (col j d)) = gained q gn d := by
  pointwise [k0_pay9]
  have mean := mean_lanes (fun l => ∑ k : Fin 1024, H (ix2 r k) * w (ix2 k l)) q hq
  beta_reduce at mean
  rw [mean, hq, hg]
  rfl

/-- A head's keys rotated, at its lanes. -/
theorem rotatedKeys_at (Q : FVec Ideal S512x256 .f32) (co si : FVec Ideal S512x128 .f32) (r : Fin 512) (j : Fin 4) (d : Fin 64) :
    k0_pay1 (F := Ideal) Q (k0_pay10 co) si (ix3 0 r (col j d)) =
      rot (fun e => Q (ix2 r (col j e))) (fun i => co (ix2 r ⟨32 * j + i, by omega⟩)) (fun i => si (ix2 r ⟨32 * j + i, by omega⟩)) d := by
  pointwise [k0_pay1, k0_pay10]
  have hj := j.isLt
  have hd := d.isLt
  by_cases h : (d : ℕ) < 32
  · have c0 : (col j d : ℕ) < 128 := by simp only [col]; omega
    have e1 : ∀ h', (⟨128 + (col j d : ℕ), h'⟩ : Fin 256) = col j ⟨d + 32, by omega⟩ := fun h' => Fin.ext (by simp only [col]; omega)
    have e2 : ∀ h', (⟨(col j d : ℕ), h'⟩ : Fin 128) = ⟨32 * j + d, by omega⟩ := fun h' => Fin.ext (by simp only [col]; omega)
    rw [dif_pos c0, rot, dif_pos h]
    simp only [e1, e2]
  · have c0 : ¬ (col j d : ℕ) < 128 := by simp only [col]; omega
    have e1 : ∀ h', (⟨128 + ((col j d : ℕ) - 128), h'⟩ : Fin 256) = col j d := fun h' => Fin.ext (by simp only [col]; omega)
    have e2 : ∀ h', (⟨(col j d : ℕ) - 128, h'⟩ : Fin 128) = ⟨32 * j + (d - 32), by omega⟩ := fun h' => Fin.ext (by simp only [col]; omega)
    have e3 : ∀ h', (⟨(col j d : ℕ) - 128, h'⟩ : Fin 256) = col j ⟨d - 32, by omega⟩ := fun h' => Fin.ext (by simp only [col]; omega)
    rw [dif_neg c0, rot, dif_neg h]
    simp only [e1, e2, e3]

/-- A head's keys at its lanes. -/
theorem keys_at (H : FVec Ideal S512x1024 .bf16) (w : FVec Ideal S1024x256 .bf16) (gain : FVec Ideal S1x256 .f32) (co si : FVec Ideal S512x128 .f32)
    (r : Fin 512) (q gn : Fin 64 → EReal) (hq : ∀ j d, (∑ k : Fin 1024, H (ix2 r k) * w (ix2 k (col j d))) = q d) (hg : ∀ j d, gain (ix2 0 (col j d)) = gn d)
    (j : Fin 4) (d : Fin 64) :
    k0_pay1 (F := Ideal) (k0_pay9 H w gain) (k0_pay10 co) si (ix3 0 r (col j d)) =
      rot (gained q gn) (fun i => co (ix2 r ⟨32 * j + i, by omega⟩)) (fun i => si (ix2 r ⟨32 * j + i, by omega⟩)) d := by
  rw [rotatedKeys_at]
  simp only [gainedKeys_at H w gain r q gn hq hg]

end Cert.Kv

end
-- ==== Proof.Kv.Sections.lean ====
/- The sections of the reference, and what they hold at an entry. -/
module

public import proofs.«01_k».proof.Proof.Gen.KvReferenceIdeal.Run
public import proofs.«01_k».proof.Proof.Kv.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kv
open Cert.KvReferenceIdeal Cert.KvReferenceIdeal.Gen
open Cert.Att (rot gained angle)

/-- The tokens, normalised and weighted. -/
def refNormed (X : FVec Ideal S32x2048x1024 .f32) (G : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))

/-- The keys, projected and normalised within every head. -/
def refGained (H : FVec Ideal S32x2048x1024 .f32) (W : FVec Ideal S1024x256 .f32) (gain : FVec Ideal S64 .f32) : FVec Ideal S32x2048x2x64 .f32 :=
  mulf (mulf (shapeCast S32x2048x2x64 (extractStridedSlice S32x2048x128 ![0, 0, 0] (Host.dotGeneral dot_S32x2048x1024_S1024x256_S32x2048x256_2_0_01_1_n_n none H W) slices_S32x2048x256_S32x2048x128_0_0_0) shapeCasts_S32x2048x128_S32x2048x2x64) (broadcastInDim S32x2048x2x64 ![0, 1, 2, 3] bcast_S32x2048x2x1_S32x2048x2x64_0_1_2_3 (Host.rsqrt (addf (Host.divf (broadcastInDim S32x2048x2x1 ![0, 1, 2] bcast_S32x2048x2_S32x2048x2x1_0_1_2 (Host.reduceAdd (mulf (shapeCast S32x2048x2x64 (extractStridedSlice S32x2048x128 ![0, 0, 0] (Host.dotGeneral dot_S32x2048x1024_S1024x256_S32x2048x256_2_0_01_1_n_n none H W) slices_S32x2048x256_S32x2048x128_0_0_0) shapeCasts_S32x2048x128_S32x2048x2x64) (shapeCast S32x2048x2x64 (extractStridedSlice S32x2048x128 ![0, 0, 0] (Host.dotGeneral dot_S32x2048x1024_S1024x256_S32x2048x256_2_0_01_1_n_n none H W) slices_S32x2048x256_S32x2048x128_0_0_0) shapeCasts_S32x2048x128_S32x2048x2x64)) (constant S_ .f32 0x00000000#32) reducesTo_S32x2048x2x64_S32x2048x2_d3 h_S_)) (broadcastInDim S32x2048x2x1 ![] bcast_S_S32x2048x2x1 (constant S_ .f32 0x42800000#32))) (broadcastInDim S32x2048x2x1 ![] bcast_S_S32x2048x2x1 (constant S_ .f32 0x358637BD#32)))))) (broadcastInDim S32x2048x2x64 ![0, 1, 2, 3] bcast_S1x1x1x64_S32x2048x2x64_0_1_2_3 (broadcastInDim S1x1x1x64 ![3] bcast_S64_S1x1x1x64_3 gain))

/-- The cosines of the angles. -/
def refCos : FVec Ideal S1x2048x1x32 .f32 :=
  broadcastInDim S1x2048x1x32 ![1, 3] bcast_S2048x32_S1x2048x1x32_1_3 (Host.cos (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))))

/-- The sines of the angles. -/
def refSin : FVec Ideal S1x2048x1x32 .f32 :=
  broadcastInDim S1x2048x1x32 ![1, 3] bcast_S2048x32_S1x2048x1x32_1_3 (Host.sin (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))))

/-- The keys rotated. -/
def refRotated (Q : FVec Ideal S32x2048x2x64 .f32) (co si : FVec Ideal S1x2048x1x32 .f32) : FVec Ideal S32x2048x2x64 .f32 :=
  concatenate S32x2048x2x64 3 [⟨S32x2048x2x32, (subf (mulf (extractStridedSlice S32x2048x2x32 ![0, 0, 0, 0] Q slices_S32x2048x2x64_S32x2048x2x32_0_0_0_0) (broadcastInDim S32x2048x2x32 ![0, 1, 2, 3] bcast_S1x2048x1x32_S32x2048x2x32_0_1_2_3 co)) (mulf (extractStridedSlice S32x2048x2x32 ![0, 0, 0, 32] Q slices_S32x2048x2x64_S32x2048x2x32_0_0_0_32) (broadcastInDim S32x2048x2x32 ![0, 1, 2, 3] bcast_S1x2048x1x32_S32x2048x2x32_0_1_2_3 si)))⟩, ⟨S32x2048x2x32, (addf (mulf (extractStridedSlice S32x2048x2x32 ![0, 0, 0, 32] Q slices_S32x2048x2x64_S32x2048x2x32_0_0_0_32) (broadcastInDim S32x2048x2x32 ![0, 1, 2, 3] bcast_S1x2048x1x32_S32x2048x2x32_0_1_2_3 co)) (mulf (extractStridedSlice S32x2048x2x32 ![0, 0, 0, 0] Q slices_S32x2048x2x64_S32x2048x2x32_0_0_0_0) (broadcastInDim S32x2048x2x32 ![0, 1, 2, 3] bcast_S1x2048x1x32_S32x2048x2x32_0_1_2_3 si)))⟩] concatenates_S32x2048x2x32_S32x2048x2x32_S32x2048x2x64_d3

/-- Every half of a key four times. -/
def refKeys (R : FVec Ideal S32x2048x2x64 .f32) : FVec Ideal S32x2048x512 .bf16 :=
  truncf .bf16 (shapeCast S32x2048x512 (broadcastInDim S32x2048x2x2x4x32 ![0, 1, 2, 3, 4, 5] bcast_S32x2048x2x2x1x32_S32x2048x2x2x4x32_0_1_2_3_4_5 (shapeCast S32x2048x2x2x1x32 R shapeCasts_S32x2048x2x64_S32x2048x2x2x1x32)) shapeCasts_S32x2048x2x2x4x32_S32x2048x512) bitsLt_bf16_f32

/-- Every value four times. -/
def refValues (H : FVec Ideal S32x2048x1024 .f32) (W : FVec Ideal S1024x256 .f32) : FVec Ideal S32x2048x512 .bf16 :=
  truncf .bf16 (shapeCast S32x2048x512 (broadcastInDim S32x2048x2x4x64 ![0, 1, 2, 3, 4] bcast_S32x2048x2x1x64_S32x2048x2x4x64_0_1_2_3_4 (shapeCast S32x2048x2x1x64 (shapeCast S32x2048x2x64 (extractStridedSlice S32x2048x128 ![0, 0, 128] (Host.dotGeneral dot_S32x2048x1024_S1024x256_S32x2048x256_2_0_01_1_n_n none H W) slices_S32x2048x256_S32x2048x128_0_0_128) shapeCasts_S32x2048x128_S32x2048x2x64) shapeCasts_S32x2048x2x64_S32x2048x2x1x64)) shapeCasts_S32x2048x2x4x64_S32x2048x512) bitsLt_bf16_f32

theorem refNormed_at (X : FVec Ideal S32x2048x1024 .f32) (G : FVec Ideal S1024 .f32) (b : Fin 32) (s : Fin 2048) (k : Fin 1024) :
    refNormed X G (ix3 b s k) = X (ix3 b s k) * Ffn.rms (fun k => X (ix3 b s k)) * G (ix1 k) := by
  pointwise [refNormed, Ffn.rms]

theorem refGained_at (H : FVec Ideal S32x2048x1024 .f32) (W : FVec Ideal S1024x256 .f32) (gain : FVec Ideal S64 .f32)
    (b : Fin 32) (s : Fin 2048) (h : Fin 2) (d : Fin 64) :
    refGained H W gain (ix4 b s h d) = gained (fun e => ∑ k : Fin 1024, H (ix3 b s k) * W (ix2 k ⟨64 * h + e, by omega⟩)) (fun e => gain (ix1 e)) d := by
  pointwise [refGained, gained]
  simp only [Nat.mul_comm h.val 64]

theorem refCos_at (s : Fin 2048) (i : Fin 32) : refCos (ix4 0 s 0 i) = Ideal.cos (angle s i) := by
  pointwise [refCos, angle]

theorem refSin_at (s : Fin 2048) (i : Fin 32) : refSin (ix4 0 s 0 i) = Ideal.sin (angle s i) := by
  pointwise [refSin, angle]

theorem refRotated_at (Q : FVec Ideal S32x2048x2x64 .f32) (co si : FVec Ideal S1x2048x1x32 .f32) (b : Fin 32) (s : Fin 2048) (h : Fin 2) (d : Fin 64) :
    refRotated Q co si (ix4 b s h d) = rot (fun e => Q (ix4 b s h e)) (fun i => co (ix4 0 s 0 i)) (fun i => si (ix4 0 s 0 i)) d := by
  pointwise [refRotated, rot]
  split
  · simp only [Nat.add_comm 32]
  · rename_i hd
    simp only [Nat.add_sub_cancel' (Nat.le_of_not_lt hd)]

theorem refKeys_at (R : FVec Ideal S32x2048x2x64 .f32) (b : Fin 32) (s : Fin 2048) (l : Fin 512) (h : Fin 2) (d : Fin 64) (hh : (h : ℕ) = l / 256)
    (hd : (d : ℕ) = 32 * (l % 256 / 128) + l % 32) : refKeys R (ix3 b s l) = R (ix4 b s h d) := by
  pointwise [refKeys]
  exact congrArg R (congrArg₂ (ix4 b s) (Fin.ext (by dsimp only; omega)) (Fin.ext (by dsimp only; omega)))

theorem refValues_at (H : FVec Ideal S32x2048x1024 .f32) (W : FVec Ideal S1024x256 .f32) (b : Fin 32) (s : Fin 2048) (l : Fin 512) (h : Fin 2) (d : Fin 64)
    (hh : (h : ℕ) = l / 256) (hd : (d : ℕ) = l % 64) :
    refValues H W (ix3 b s l) = ∑ k : Fin 1024, H (ix3 b s k) * W (ix2 k ⟨128 + 64 * h + d, by omega⟩) := by
  pointwise [refValues]
  refine Finset.sum_congr rfl fun k _ => congrArg (H (ix3 b s k) * ·) (congrArg W (congrArg (ix2 k) (Fin.ext ?_)))
  dsimp only
  omega

end Cert.Kv

end
-- ==== Proof.Kv.Value.lean ====
/- The shared key/value call's results are the reference's, entry by entry. -/
module

public import proofs.«01_k».proof.Proof.Kv.Reads
public import proofs.«01_k».proof.Proof.Kv.Block
public import proofs.«01_k».proof.Proof.Kv.Sections

@[expose] public section

set_option maxRecDepth 16384

noncomputable section

open Idealize.ShloMosaic Idealize.ShloMosaic.TcCoe Idealize.SL.Sem
open Idealize.ShloMosaic.Pipeline (Dat)

namespace Cert.Kv
open Cert.KvKernelIdeal Cert.KvKernelIdeal.Gen
open Cert.Att (col rot gained angle)

variable (m : (ℓ : Loc nD τ sig) → Buf (Elt Ideal) ℓ)

/-- The reference's keys over the call's arguments. -/
abbrev KEYS (c : Dev nD) : FVec Ideal S32x2048x512 .bf16 :=
  refKeys (refRotated (refGained (refNormed (m ((c : Thread nD τ).loc main_arg0)) (m ((c : Thread nD τ).loc main_arg1))) (m ((c : Thread nD τ).loc main_arg2))
    (m ((c : Thread nD τ).loc main_arg3))) refCos refSin)

/-- The reference's values over the call's arguments. -/
abbrev VALUES (c : Dev nD) : FVec Ideal S32x2048x512 .bf16 :=
  refValues (refNormed (m ((c : Thread nD τ).loc main_arg0)) (m ((c : Thread nD τ).loc main_arg1))) (m ((c : Thread nD τ).loc main_arg2))

/-- The reference's keys at an entry. -/
theorem KEYS_at (c : Dev nD) (b : Fin 32) (s : Fin 2048) (l : Fin 512) (h : Fin 2) (d : Fin 64) (hh : (h : ℕ) = l / 256)
    (hd : (d : ℕ) = 32 * (l % 256 / 128) + l % 32) :
    KEYS m c (ix3 b s l) = key (fun k => m ((c : Thread nD τ).loc main_arg0) (ix3 b s k)) (fun k => m ((c : Thread nD τ).loc main_arg1) (ix1 k)) (fun k l => m ((c : Thread nD τ).loc main_arg2) (ix2 k l))
      (fun e => m ((c : Thread nD τ).loc main_arg3) (ix1 e)) s h d := by
  unfold KEYS
  rw [refKeys_at _ b s l h d hh hd, refRotated_at]
  simp only [refGained_at, refNormed_at, refCos_at, refSin_at]
  rfl

/-- The reference's values at an entry. -/
theorem VALUES_at (c : Dev nD) (b : Fin 32) (s : Fin 2048) (l : Fin 512) (h : Fin 2) (d : Fin 64) (hh : (h : ℕ) = l / 256) (hd : (d : ℕ) = l % 64) :
    VALUES m c (ix3 b s l) = value (fun k => m ((c : Thread nD τ).loc main_arg0) (ix3 b s k)) (fun k => m ((c : Thread nD τ).loc main_arg1) (ix1 k)) (fun k l => m ((c : Thread nD τ).loc main_arg2) (ix2 k l)) h d := by
  unfold VALUES
  rw [refValues_at _ _ b s l h d hh hd]
  simp only [refNormed_at]
  rfl

/-- The keys that a grid point computes for a head. -/
theorem key_head (c : Dev nD) (t : Fin cfg0.N) (h : Fin 2) (o : Fin 2 → ℕ) (inb) (ho : o = ![0, 256 * (h : ℕ)]) (r : Fin 512) (l : Fin 256)
    (b : Fin 32) (s : Fin 2048) (hb : (b : ℕ) = t.val / 4) (hs : (s : ℕ) = 512 * (t.val % 4) + r) (n : Fin 512) (hn : (n : ℕ) = 256 * h + l) :
    k0_pay1 (F := Ideal) (k0_pay9 (k0_pay3 (iblk m c 0 t) (iblk m c 1 t)) (View.ld (iblk m c 5 t) (Rect.unit (s := S1024x512) o ![1024, 256] inb)) (iblk m c 2 t))
      (k0_pay10 (iblk m c 3 t)) (iblk m c 4 t) (ix3 0 r l) = KEYS m c (ix3 b s n) := by
  have hl := l.isLt
  rw [KEYS_at m c b s n h ⟨32 * (l / 128) + l % 32, by omega⟩ (by omega) (by dsimp only; omega)]
  have el : l = col ⟨l % 128 / 32, by omega⟩ ⟨32 * (l / 128) + l % 32, by omega⟩ := Fin.ext (by simp only [col]; omega)
  conv_lhs => rw [el]
  rw [keys_at (q := fun e => Ffn.proj (fun k => m ((c : Thread nD τ).loc main_arg0) (ix3 b s k)) (fun k => m ((c : Thread nD τ).loc main_arg1) (ix1 k))
      (fun k => m ((c : Thread nD τ).loc main_arg2) (ix2 k ⟨64 * h + e, by omega⟩)))
    (gn := fun e => m ((c : Thread nD τ).loc main_arg3) (ix1 e)) (hq := ?_) (hg := gain_at m c t)]
  · unfold key
    simp only [cos_at, sin_at, hs]
    have hi : ∀ (j : ℕ) (i : Fin 32), (32 * j + (i : ℕ)) % 32 = i := fun j i => by omega
    simp only [hi]
    rfl
  · intro j d
    simp only [normed_at, wkHead m c t h o inb ho, x_at m c t r _ b s hb hs, g_at]
    rfl

/-- The values that a grid point computes for a head. -/
theorem value_head (c : Dev nD) (t : Fin cfg0.N) (h : Fin 2) (o : Fin 2 → ℕ) (inb) (ho : o = ![0, 256 * (h : ℕ)]) (r : Fin 512) (l : Fin 256)
    (b : Fin 32) (s : Fin 2048) (hb : (b : ℕ) = t.val / 4) (hs : (s : ℕ) = 512 * (t.val % 4) + r) (n : Fin 512) (hn : (n : ℕ) = 256 * h + l) :
    k0_pay2 (F := Ideal) (k0_pay3 (iblk m c 0 t) (iblk m c 1 t)) (View.ld (iblk m c 6 t) (Rect.unit (s := S1024x512) o ![1024, 256] inb)) (ix3 0 r l)
      = VALUES m c (ix3 b s n) := by
  have hl := l.isLt
  rw [VALUES_at m c b s n h ⟨l % 64, by omega⟩ (by omega) (by dsimp only; omega), values_at]
  simp only [normed_at, wvHead m c t h o inb ho, x_at m c t r _ b s hb hs, g_at]
  rfl

/-- An index of a block whose coordinates are known. -/
theorem idx_eq (y : S1x512x512.Idx) (r n : Fin 512) (h1 : (y 1 : ℕ) = r) (h2 : (y 2 : ℕ) = n) : y = ix3 0 r n := by
  funext a
  match a with
  | 0 => exact Subsingleton.elim (α := Fin 1) _ _
  | 1 => exact Fin.ext h1
  | 2 => exact Fin.ext h2

/-- A block of the keys is what its two heads' pieces are. -/
theorem out0_7_eq (x0 : FVec Ideal S1x512x1024 .f32) (x1 : FVec Ideal S1x1024 .f32) (x2 : FVec Ideal S1x256 .f32) (x3 x4 : FVec Ideal S512x128 .f32)
    (x5 x6 : FVec Ideal S1024x512 .bf16) (T : FVec Ideal S1x512x512 .bf16)
    (hi : ∀ (r : Fin 512) (l : Fin 256), k0_pay1 (F := Ideal) (k0_pay9 (k0_pay3 x0 x1) (View.ld x5 r0_6) x2) (k0_pay10 x3) x4 (ix3 0 r l) = T (ix3 0 r ⟨256 + l, by omega⟩))
    (lo : ∀ (r : Fin 512) (l : Fin 256), k0_pay1 (F := Ideal) (k0_pay9 (k0_pay3 x0 x1) (View.ld x5 r0_2) x2) (k0_pay10 x3) x4 (ix3 0 r l) = T (ix3 0 r ⟨l, by omega⟩))
    (y : S1x512x512.Idx) : out0_7 (F := Ideal) x0 x1 x2 x3 x4 x5 x6 y = T y := by
  unfold out0_7 k0_pay11
  simp (disch := decide) only [View.ld_unit_zero]
  canon_tiles x h
  all_goals
    obtain ⟨z, r, l, rfl⟩ : ∃ (z : Fin 1) (r : Fin 512) (l : Fin 256), x = ix3 z r l := ⟨x 0, x 1, x 2, by funext a; match a with | 0 => rfl | 1 => rfl | 2 => rfl⟩
    obtain rfl : z = 0 := Subsingleton.elim _ _
  case piece0 =>
    rw [idx_eq y r ⟨256 + l, by omega⟩ h1 h2]
    exact hi r l
  case piece1 =>
    rw [idx_eq y r ⟨l, by omega⟩ h1 h2]
    exact lo r l

/-- Where a block of the keys stands. -/
theorem emb_7 (t : Fin cfg0.N) (r n : Fin 512) : ((cfg0.win 7).blk t).view.emb (ix3 0 r n)
    = (ix3 ⟨t / 4, by have : t.val < 128 := lt_of_lt_of_eq t.isLt N_0; omega⟩ ⟨512 * (t % 4) + r, by omega⟩ n : S32x2048x512.Idx) := by
  have ht : t.val < 128 := lt_of_lt_of_eq t.isLt N_0
  funext a
  apply Fin.ext
  match a with
  | 0 => blk_simp [idx t] <;> dsimp only <;> omega
  | 1 => blk_simp [idx t] <;> dsimp only <;> omega
  | 2 => blk_simp [idx t] <;> dsimp only <;> omega

/-- What grid point `t` writes of the keys is the reference's. -/
theorem point_7 (c : Dev nD) (t : Fin cfg0.N) (y : S1x512x512.Idx) :
    out0_7 (iblk m c 0 t) (iblk m c 1 t) (iblk m c 2 t) (iblk m c 3 t) (iblk m c 4 t) (iblk m c 5 t) (iblk m c 6 t) y
      = KEYS m c (((cfg0.win 7).blk t).view.emb y) := by
  refine out0_7_eq _ _ _ _ _ _ _ (fun y => KEYS m c (((cfg0.win 7).blk t).view.emb y)) (fun r l => ?_) (fun r l => ?_) y
  · dsimp only
    rw [emb_7]
    exact key_head m c t 1 _ _ rfl r l _ _ rfl rfl _ rfl
  · dsimp only
    rw [emb_7]
    exact key_head m c t 0 _ _ rfl r l _ _ rfl rfl _ (Nat.zero_add _).symm

/-- The array of the keys after the run is the reference's term over the arguments. -/
theorem final_7 (c : Dev nD) : (dats m 0 c).arrAt 7 (cfgs 0).N = KEYS m c := by
  refine (dats m 0 c).arrAt_eq_of_covers 7 _ (by decide +kernel) fun t _ y => ?_
  blk_simp
  rw [after0_7]
  exact point_7 m c t y

/-- A block of the values is what its two heads' pieces are. -/
theorem out0_8_eq (x0 : FVec Ideal S1x512x1024 .f32) (x1 : FVec Ideal S1x1024 .f32) (x2 : FVec Ideal S1x256 .f32) (x3 x4 : FVec Ideal S512x128 .f32)
    (x5 x6 : FVec Ideal S1024x512 .bf16) (T : FVec Ideal S1x512x512 .bf16)
    (hi : ∀ (r : Fin 512) (l : Fin 256), k0_pay2 (F := Ideal) (k0_pay3 x0 x1) (View.ld x6 r0_6) (ix3 0 r l) = T (ix3 0 r ⟨256 + l, by omega⟩))
    (lo : ∀ (r : Fin 512) (l : Fin 256), k0_pay2 (F := Ideal) (k0_pay3 x0 x1) (View.ld x6 r0_2) (ix3 0 r l) = T (ix3 0 r ⟨l, by omega⟩))
    (y : S1x512x512.Idx) : out0_8 (F := Ideal) x0 x1 x2 x3 x4 x5 x6 y = T y := by
  unfold out0_8 k0_pay11
  simp (disch := decide) only [View.ld_unit_zero]
  canon_tiles x h
  all_goals
    obtain ⟨z, r, l, rfl⟩ : ∃ (z : Fin 1) (r : Fin 512) (l : Fin 256), x = ix3 z r l := ⟨x 0, x 1, x 2, by funext a; match a with | 0 => rfl | 1 => rfl | 2 => rfl⟩
    obtain rfl : z = 0 := Subsingleton.elim _ _
  case piece0 =>
    rw [idx_eq y r ⟨256 + l, by omega⟩ h1 h2]
    exact hi r l
  case piece1 =>
    rw [idx_eq y r ⟨l, by omega⟩ h1 h2]
    exact lo r l

/-- Where a block of the values stands. -/
theorem emb_8 (t : Fin cfg0.N) (r n : Fin 512) : ((cfg0.win 8).blk t).view.emb (ix3 0 r n)
    = (ix3 ⟨t / 4, by have : t.val < 128 := lt_of_lt_of_eq t.isLt N_0; omega⟩ ⟨512 * (t % 4) + r, by omega⟩ n : S32x2048x512.Idx) := by
  have ht : t.val < 128 := lt_of_lt_of_eq t.isLt N_0
  funext a
  apply Fin.ext
  match a with
  | 0 => blk_simp [idx t] <;> dsimp only <;> omega
  | 1 => blk_simp [idx t] <;> dsimp only <;> omega
  | 2 => blk_simp [idx t] <;> dsimp only <;> omega

/-- What grid point `t` writes of the values is the reference's. -/
theorem point_8 (c : Dev nD) (t : Fin cfg0.N) (y : S1x512x512.Idx) :
    out0_8 (iblk m c 0 t) (iblk m c 1 t) (iblk m c 2 t) (iblk m c 3 t) (iblk m c 4 t) (iblk m c 5 t) (iblk m c 6 t) y
      = VALUES m c (((cfg0.win 8).blk t).view.emb y) := by
  refine out0_8_eq _ _ _ _ _ _ _ (fun y => VALUES m c (((cfg0.win 8).blk t).view.emb y)) (fun r l => ?_) (fun r l => ?_) y
  · dsimp only
    rw [emb_8]
    exact value_head m c t 1 _ _ rfl r l _ _ rfl rfl _ rfl
  · dsimp only
    rw [emb_8]
    exact value_head m c t 0 _ _ rfl r l _ _ rfl rfl _ (Nat.zero_add _).symm

/-- The array of the values after the run is the reference's term over the arguments. -/
theorem final_8 (c : Dev nD) : (dats m 0 c).arrAt 8 (cfgs 0).N = VALUES m c := by
  refine (dats m 0 c).arrAt_eq_of_covers 8 _ (by decide +kernel) fun t _ y => ?_
  blk_simp
  rw [after0_8]
  exact point_8 m c t y

end Cert.Kv

end
-- ==== Proof.Kv.Claims.lean ====
/- The claims about the shared key/value call: its results are the reference's over the reals, and the reference's own frame. -/
module

public import proofs.«01_k».proof.Defs
public import proofs.«01_k».proof.Proof.Kv.Value
public import proofs.«01_k».proof.Proof.Gen.KvReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kv

/-- The reference program's keys, by the reference's sections. -/
theorem keys_eq (m : (ℓ : Loc Cert.KvReferenceIdeal.nD Cert.KvReferenceIdeal.τ Cert.KvReferenceIdeal.sig) → Buf (Elt Ideal) ℓ) (c : Dev Cert.KvReferenceIdeal.nD) :
    Cert.KvReferenceIdeal.Value.res_main_v70 m c
      = refKeys (refRotated (refGained (refNormed (m ((c.tc : Thread Cert.KvReferenceIdeal.nD Cert.KvReferenceIdeal.τ).loc Cert.KvReferenceIdeal.main_arg0))
        (m ((c.tc : Thread Cert.KvReferenceIdeal.nD Cert.KvReferenceIdeal.τ).loc Cert.KvReferenceIdeal.main_arg1))) (m ((c.tc : Thread Cert.KvReferenceIdeal.nD Cert.KvReferenceIdeal.τ).loc Cert.KvReferenceIdeal.main_arg2))
        (m ((c.tc : Thread Cert.KvReferenceIdeal.nD Cert.KvReferenceIdeal.τ).loc Cert.KvReferenceIdeal.main_arg3))) refCos refSin) := by
  unfold Cert.KvReferenceIdeal.Value.res_main_v70 refKeys refRotated refGained refNormed refCos refSin
  rfl

/-- The reference program's values, by the reference's sections. -/
theorem values_eq (X : FVec Ideal Cert.KvReferenceIdeal.S32x2048x1024 .f32) (G : FVec Ideal Cert.KvReferenceIdeal.S1024 .f32) (W : FVec Ideal Cert.KvReferenceIdeal.S1024x256 .f32) :
    truncf .bf16 (shapeCast Cert.KvReferenceIdeal.S32x2048x512 (broadcastInDim Cert.KvReferenceIdeal.S32x2048x2x4x64 ![0, 1, 2, 3, 4] Cert.KvReferenceIdeal.Gen.bcast_S32x2048x2x1x64_S32x2048x2x4x64_0_1_2_3_4 (shapeCast Cert.KvReferenceIdeal.S32x2048x2x1x64 (shapeCast Cert.KvReferenceIdeal.S32x2048x2x64 (extractStridedSlice Cert.KvReferenceIdeal.S32x2048x128 ![0, 0, 128] (Host.dotGeneral Cert.KvReferenceIdeal.dot_S32x2048x1024_S1024x256_S32x2048x256_2_0_01_1_n_n none (mulf (mulf X (broadcastInDim Cert.KvReferenceIdeal.S32x2048x1024 ![0, 1, 2] Cert.KvReferenceIdeal.Gen.bcast_S32x2048x1_S32x2048x1024_0_1_2 (Host.rsqrt (addf (Host.divf (broadcastInDim Cert.KvReferenceIdeal.S32x2048x1 ![0, 1] Cert.KvReferenceIdeal.Gen.bcast_S32x2048_S32x2048x1_0_1 (Host.reduceAdd (mulf X X) (constant Cert.KvReferenceIdeal.S_ .f32 0x00000000#32) Cert.KvReferenceIdeal.Gen.reducesTo_S32x2048x1024_S32x2048_d2 Cert.KvReferenceIdeal.Gen.h_S_)) (broadcastInDim Cert.KvReferenceIdeal.S32x2048x1 ![] Cert.KvReferenceIdeal.Gen.bcast_S_S32x2048x1 (constant Cert.KvReferenceIdeal.S_ .f32 0x44800000#32))) (broadcastInDim Cert.KvReferenceIdeal.S32x2048x1 ![] Cert.KvReferenceIdeal.Gen.bcast_S_S32x2048x1 (constant Cert.KvReferenceIdeal.S_ .f32 0x358637BD#32)))))) (broadcastInDim Cert.KvReferenceIdeal.S32x2048x1024 ![0, 1, 2] Cert.KvReferenceIdeal.Gen.bcast_S1x1x1024_S32x2048x1024_0_1_2 (broadcastInDim Cert.KvReferenceIdeal.S1x1x1024 ![2] Cert.KvReferenceIdeal.Gen.bcast_S1024_S1x1x1024_2 G))) W) Cert.KvReferenceIdeal.Gen.slices_S32x2048x256_S32x2048x128_0_0_128) Cert.KvReferenceIdeal.Gen.shapeCasts_S32x2048x128_S32x2048x2x64) Cert.KvReferenceIdeal.Gen.shapeCasts_S32x2048x2x64_S32x2048x2x1x64)) Cert.KvReferenceIdeal.Gen.shapeCasts_S32x2048x2x4x64_S32x2048x512) Cert.KvReferenceIdeal.Gen.bitsLt_bf16_f32 = refValues (refNormed X G) W := by
  unfold refValues refNormed
  rfl

/-- The reference's run, its results by the reference's sections. -/
theorem reference_run (m : (ℓ : Loc Cert.KvReferenceIdeal.nD Cert.KvReferenceIdeal.τ Cert.KvReferenceIdeal.sig) → Buf (Elt Ideal) ℓ) (g : Dev Cert.KvReferenceIdeal.nD → PrngReg) :
    θ_run (Cert.KvReferenceIdeal.defs (F := Ideal)) (onTc (τ := Cert.KvReferenceIdeal.τ) (Cert.KvReferenceIdeal.main (F := Ideal))) ⟨m, fun _ => 0, g⟩ fun r => ∀ c : Dev Cert.KvReferenceIdeal.nD,
      r.2.mem ((c.tc : Thread Cert.KvReferenceIdeal.nD Cert.KvReferenceIdeal.τ).loc Cert.KvReferenceIdeal.main_v70)
        = refKeys (refRotated (refGained (refNormed (m ((c.tc : Thread Cert.KvReferenceIdeal.nD Cert.KvReferenceIdeal.τ).loc Cert.KvReferenceIdeal.main_arg0))
          (m ((c.tc : Thread Cert.KvReferenceIdeal.nD Cert.KvReferenceIdeal.τ).loc Cert.KvReferenceIdeal.main_arg1))) (m ((c.tc : Thread Cert.KvReferenceIdeal.nD Cert.KvReferenceIdeal.τ).loc Cert.KvReferenceIdeal.main_arg2))
          (m ((c.tc : Thread Cert.KvReferenceIdeal.nD Cert.KvReferenceIdeal.τ).loc Cert.KvReferenceIdeal.main_arg3))) refCos refSin)
      ∧ r.2.mem ((c.tc : Thread Cert.KvReferenceIdeal.nD Cert.KvReferenceIdeal.τ).loc Cert.KvReferenceIdeal.main_v72)
        = refValues (refNormed (m ((c.tc : Thread Cert.KvReferenceIdeal.nD Cert.KvReferenceIdeal.τ).loc Cert.KvReferenceIdeal.main_arg0))
          (m ((c.tc : Thread Cert.KvReferenceIdeal.nD Cert.KvReferenceIdeal.τ).loc Cert.KvReferenceIdeal.main_arg1))) (m ((c.tc : Thread Cert.KvReferenceIdeal.nD Cert.KvReferenceIdeal.τ).loc Cert.KvReferenceIdeal.main_arg2))
      ∧ r.2.mem ((c.tc : Thread Cert.KvReferenceIdeal.nD Cert.KvReferenceIdeal.τ).loc Cert.KvReferenceIdeal.main_arg0)
        = (m ((c.tc : Thread Cert.KvReferenceIdeal.nD Cert.KvReferenceIdeal.τ).loc Cert.KvReferenceIdeal.main_arg0))
      ∧ r.2.mem ((c.tc : Thread Cert.KvReferenceIdeal.nD Cert.KvReferenceIdeal.τ).loc Cert.KvReferenceIdeal.main_arg1)
        = (m ((c.tc : Thread Cert.KvReferenceIdeal.nD Cert.KvReferenceIdeal.τ).loc Cert.KvReferenceIdeal.main_arg1))
      ∧ r.2.mem ((c.tc : Thread Cert.KvReferenceIdeal.nD Cert.KvReferenceIdeal.τ).loc Cert.KvReferenceIdeal.main_arg2)
        = (m ((c.tc : Thread Cert.KvReferenceIdeal.nD Cert.KvReferenceIdeal.τ).loc Cert.KvReferenceIdeal.main_arg2))
      ∧ r.2.mem ((c.tc : Thread Cert.KvReferenceIdeal.nD Cert.KvReferenceIdeal.τ).loc Cert.KvReferenceIdeal.main_arg3)
        = (m ((c.tc : Thread Cert.KvReferenceIdeal.nD Cert.KvReferenceIdeal.τ).loc Cert.KvReferenceIdeal.main_arg3)) :=
  (θ_run Cert.KvReferenceIdeal.defs _ _).mono (fun r h c => ⟨(h c).1.trans (keys_eq m c), (h c).2.1.trans (values_eq _ _ _), (h c).2.2⟩)
    (Cert.KvReferenceIdeal.Value.run m g)

/-- The kernel's keys and values are the reference's, entry by entry. -/
theorem algebraic : Cert.algebraic_KvKernelIdeal_KvReferenceIdeal := by
  pair_intro
  · run_from Cert.KvKernelIdeal.Gen.run_main m g & Cert.KvKernelIdeal.Gen.unchanged m g
  · run_from reference_run m' g'
    · exact (final_7 m c).symm
    · exact (final_8 m c).symm

/-- The reference runs, leaves its arguments as they were and every counter at zero. -/
theorem reference_frame : Cert.quiescent_KvReferenceIdeal := by
  intro m g _
  exact (θ_run Cert.KvReferenceIdeal.defs _ _).mono (fun r h => ⟨fun c => (h c).2.2, sem_eq_zero_of_no_sems (by decide) r.2⟩)
    (Cert.KvReferenceIdeal.Value.run m g)

end Cert.Kv

end
-- ==== Proof.Ret.Recur.lean ====
/- The retention's recurrence over blocks of tokens, over the reals: what a block takes from the state before it and from
itself is the decayed sum over all the tokens so far. -/
module

public import proofs.«01_k».proof.Proof.Common.Finite

@[expose] public section

noncomputable section

namespace Cert.Ret

/-- The state after `n` tokens: every token's key entry times its value entry, decayed once for every token after it. -/
def past (γ : ℝ) (k v : ℕ → ℝ) (n : ℕ) : ℝ := ∑ m ∈ Finset.range n, γ ^ (n - 1 - m) * (k m * v m)

/-- What token `n` retains of the tokens up to itself: their values, weighted by the decayed products of the query with their keys. -/
def retained (γ : ℝ) (q : Fin 256 → ℝ) (k : ℕ → Fin 256 → ℝ) (v : ℕ → ℝ) (n : ℕ) : ℝ :=
  ∑ m ∈ Finset.range (n + 1), γ ^ (n - m) * (∑ d, q d * k m d) * v m

theorem past_zero (γ : ℝ) (k v : ℕ → ℝ) : past γ k v 0 = 0 := by simp [past]

/-- One block of `C` tokens carries the state from `n` to `n + C` tokens. -/
theorem past_block (γ : ℝ) (k v : ℕ → ℝ) (n C : ℕ) :
    past γ k v n * γ ^ C + ∑ r : Fin C, k (n + r) * γ ^ (C - 1 - r) * v (n + r) = past γ k v (n + C) := by
  unfold past
  rw [Finset.sum_range_add, Finset.sum_mul, Finset.sum_range fun x => γ ^ (n + C - 1 - (n + x)) * (k (n + x) * v (n + x))]
  congr 1
  · refine Finset.sum_congr rfl fun m hm => ?_
    have hm := Finset.mem_range.1 hm
    rw [show n + C - 1 - m = (n - 1 - m) + C by omega, pow_add]
    ring
  · refine Finset.sum_congr rfl fun r _ => ?_
    rw [show n + C - 1 - (n + r) = C - 1 - r by omega]
    ring

/-- What token `r` of a block takes from its own block and from the state before the block is all that it retains. -/
theorem retained_block (γ : ℝ) (q : Fin 256 → ℝ) (k : ℕ → Fin 256 → ℝ) (v : ℕ → ℝ) (n C r : ℕ) (hr : r < C) :
    (∑ x : Fin C, ((∑ d, q d * k (n + x) d) * (if (x : ℕ) ≤ r then γ ^ (r - x) else 0)) * v (n + x))
      + ∑ d, (q d * γ ^ (r + 1)) * past γ (fun m => k m d) v n = retained γ q k v (n + r) := by
  unfold retained
  rw [add_assoc n r 1, Finset.sum_range_add, add_comm]
  congr 1
  · unfold past
    simp only [Finset.mul_sum, Finset.sum_mul]
    rw [Finset.sum_comm]
    refine Finset.sum_congr rfl fun m hm => Finset.sum_congr rfl fun d _ => ?_
    have hm := Finset.mem_range.1 hm
    rw [show n + r - m = (r + 1) + (n - 1 - m) by omega, pow_add]
    ring
  · rw [← Finset.sum_range fun x => ((∑ d, q d * k (n + x) d) * (if x ≤ r then γ ^ (r - x) else 0)) * v (n + x)]
    symm
    refine (Finset.sum_congr rfl fun x hx => ?_).trans (Finset.sum_subset (Finset.range_subset_range.2 (by omega)) fun x _ hx => ?_)
    · have hx := Finset.mem_range.1 hx
      rw [if_pos (by omega), show n + r - (n + x) = r - x by omega]
      ring
    · have hx : ¬ x < r + 1 := fun h => hx (Finset.mem_range.2 h)
      rw [if_neg (by omega)]
      ring

/-- The sum over all the tokens at once, the later ones masked. -/
theorem retained_all (γ : ℝ) (q : Fin 256 → ℝ) (k : ℕ → Fin 256 → ℝ) (v : ℕ → ℝ) (C n : ℕ) (hn : n < C) :
    ∑ x : Fin C, ((∑ d, q d * k x d) * (if (x : ℕ) ≤ n then γ ^ (n - x) else 0)) * v x = retained γ q k v n := by
  have h := retained_block γ q k v 0 C n hn
  simpa [past_zero] using h

end Cert.Ret

end
-- ==== Proof.Ret.Token.lean ====
/- The retention's decays and angles, and one token's projections, as plain functions. -/
module

public import proofs.«01_k».proof.Proof.Common.Finite
public import proofs.«01_k».proof.Proof.Ffn.Token
public import proofs.«01_k».proof.Proof.Ret.Recur
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.Common

/-- The position of frequency `i` between 0 and 1: the `i`-th of 128 equally spaced numbers. -/
def grid (i : ℕ) : EReal :=
  if i < 127 then Ideal.ofBits .f32 0x00000000#32 * (Ideal.ofBits .f32 0x3F800000#32 - Ideal.div (FloatOps.sitofp (F := Ideal) FTy.f32 (BitVec.ofNat 32 i)) (Ideal.ofBits .f32 0x42FE0000#32))
    + Ideal.ofBits .f32 0x3F800000#32 * Ideal.div (FloatOps.sitofp (F := Ideal) FTy.f32 (BitVec.ofNat 32 i)) (Ideal.ofBits .f32 0x42FE0000#32)
  else Ideal.ofBits .f32 0x3F800000#32

/-- The rotation angle of position `s` and frequency `i`. -/
def angle (s i : ℕ) : EReal :=
  FloatOps.sitofp (F := Ideal) FTy.f32 (BitVec.ofNat 32 s) * Ideal.div (Ideal.ofBits .f32 0x3F800000#32) (Ideal.pow (Ideal.ofBits .f32 0x461C4000#32) (grid i))

/-- The logarithm of head `h`'s decay. -/
def logDecay (h : ℕ) : EReal :=
  Ideal.log (Ideal.ofBits .f32 0x3F800000#32 - Ideal.pow (Ideal.ofBits .f32 0x40000000#32)
    (Ideal.ofBits .f32 0xC0A00000#32 - FloatOps.sitofp (F := Ideal) FTy.f32 (BitVec.ofNat 32 h)))

/-- Head `h`'s decay over one token. -/
def decay (h : ℕ) : ℝ := 1 - 1 / 2 ^ (5 + h)

theorem zero_val : Ideal.ofBits .f32 0x00000000#32 = ((0 : ℝ) : EReal) := by simp [Ideal.ofBits, Ideal.ieee]
theorem one_val : Ideal.ofBits .f32 0x3F800000#32 = ((1 : ℝ) : EReal) := by simp [Ideal.ofBits, Ideal.ieee, -EReal.coe_mul]; norm_num
theorem two_val : Ideal.ofBits .f32 0x40000000#32 = ((2 : ℝ) : EReal) := by simp [Ideal.ofBits, Ideal.ieee, -EReal.coe_mul]; norm_num
theorem n127_val : Ideal.ofBits .f32 0x42FE0000#32 = ((127 : ℝ) : EReal) := by simp [Ideal.ofBits, Ideal.ieee, -EReal.coe_mul]; norm_num
theorem n255_val : Ideal.ofBits .f32 0x437F0000#32 = ((255 : ℝ) : EReal) := by simp [Ideal.ofBits, Ideal.ieee, -EReal.coe_mul]; norm_num
theorem base_val : Ideal.ofBits .f32 0x461C4000#32 = ((10000 : ℝ) : EReal) := by simp [Ideal.ofBits, Ideal.ieee, -EReal.coe_mul]; norm_num
theorem minus5_val : Ideal.ofBits .f32 0xC0A00000#32 = ((-5 : ℝ) : EReal) := by simp [Ideal.ofBits, Ideal.ieee, -EReal.coe_mul, -EReal.coe_neg]; norm_num
theorem sixteenth_val : Ideal.ofBits .f32 0x3D800000#32 = ((1 / 16 : ℝ) : EReal) := by simp [Ideal.ofBits, Ideal.ieee, -EReal.coe_mul]; norm_num

/-- A small number counted by the host is itself. -/
theorem count_val (n : ℕ) (h : n < 2 ^ 31) : FloatOps.sitofp (F := Ideal) FTy.f32 (BitVec.ofNat 32 n) = ((n : ℝ) : EReal) := by
  have e : (BitVec.ofNat 32 n).toInt = (n : ℤ) := by
    rw [BitVec.toInt_ofNat']
    rw [Int.bmod_eq_of_le] <;> omega
  have : FloatOps.sitofp (F := Ideal) FTy.f32 (BitVec.ofNat 32 n) = (((BitVec.ofNat 32 n).toInt : ℝ) : EReal) := rfl
  rw [this, e]
  norm_cast

theorem grid_real (i : ℕ) : IsReal (grid i) := by
  obtain ⟨e, he⟩ : ∃ r : ℝ, FloatOps.sitofp (F := Ideal) FTy.f32 (BitVec.ofNat 32 i) = (r : EReal) := ⟨_, rfl⟩
  unfold grid
  split
  · rw [he, zero_val, one_val, n127_val, Ideal.div_coe (by norm_num)]
    exact ((IsReal.coe _).mul ((IsReal.coe _).sub ((IsReal.coe _).mul (IsReal.coe _)))).add ((IsReal.coe _).mul ((IsReal.coe _).mul (IsReal.coe _)))
  · exact ⟨1, one_val⟩

theorem angle_real (s i : ℕ) : IsReal (angle s i) := by
  obtain ⟨a, ha⟩ : ∃ r : ℝ, FloatOps.sitofp (F := Ideal) FTy.f32 (BitVec.ofNat 32 s) = (r : EReal) := ⟨_, rfl⟩
  obtain ⟨e, he⟩ := grid_real i
  have hp : (0 : ℝ) < Real.rpow 10000 e := Real.rpow_pos_of_pos (by norm_num) _
  unfold angle
  rw [ha, he, base_val, one_val, Ideal.pow_coe_coe, Ideal.div_coe hp.ne']
  exact (IsReal.coe _).mul ((IsReal.coe _).mul (IsReal.coe _))

theorem cos_real (s i : ℕ) : IsReal (Ideal.cos (angle s i)) := by
  obtain ⟨r, h⟩ := angle_real s i
  exact ⟨_, by rw [h, Ideal.cos_coe]⟩

theorem sin_real (s i : ℕ) : IsReal (Ideal.sin (angle s i)) := by
  obtain ⟨r, h⟩ := angle_real s i
  exact ⟨_, by rw [h, Ideal.sin_coe]⟩

theorem decay_pos (h : ℕ) : 0 < decay h := by
  have : (1 : ℝ) < 2 ^ (5 + h) := one_lt_pow₀ (by norm_num) (by omega)
  unfold decay
  rw [sub_pos, div_lt_one (by linarith)]
  exact this

theorem logDecay_val (h : ℕ) (hh : h < 4) : logDecay h = ((Real.log (decay h) : ℝ) : EReal) := by
  have e : (1 : ℝ) - Real.rpow 2 (-5 - (h : ℝ)) = decay h := by
    have : (-5 - (h : ℝ)) = -((5 + h : ℕ) : ℝ) := by push_cast; ring
    unfold decay
    rw [this]
    show 1 - (2 : ℝ) ^ (-((5 + h : ℕ) : ℝ)) = _
    rw [Real.rpow_neg (by norm_num), Real.rpow_natCast, one_div]
  unfold logDecay
  rw [count_val h (by omega), one_val, two_val, minus5_val, ← EReal.coe_sub, Ideal.pow_coe_coe, ← EReal.coe_sub, e, Ideal.log_coe,
    if_neg (not_le.2 (decay_pos h))]

/-- The exponential of a whole number of a head's log-decays is that power of the decay. -/
theorem exp_logDecay (h n : ℕ) (hh : h < 4) : Ideal.exp (((n : ℝ) : EReal) * logDecay h) = ((decay h ^ n : ℝ) : EReal) := by
  rw [logDecay_val h hh, ← EReal.coe_mul, Ideal.exp_coe, ← Real.rpow_natCast, Real.rpow_def_of_pos (decay_pos h), mul_comm]

/-- The entry of the mask for a token at position `i` and a token at position `j`, as the host computes it. -/
def maskEntry (h i j : ℕ) : EReal :=
  Scalar.select (Ideal.cmp .oge (FloatOps.sitofp (F := Ideal) FTy.f32 (BitVec.ofNat 32 i) - FloatOps.sitofp (F := Ideal) FTy.f32 (BitVec.ofNat 32 j)) (Ideal.ofBits .f32 0x00000000#32))
    (Ideal.exp (max (FloatOps.sitofp (F := Ideal) FTy.f32 (BitVec.ofNat 32 i) - FloatOps.sitofp (F := Ideal) FTy.f32 (BitVec.ofNat 32 j)) (Ideal.ofBits .f32 0x00000000#32) * logDecay h))
    (Ideal.ofBits .f32 0x00000000#32)

/-- The mask is the decay between the two tokens, and zero for a later token. -/
theorem maskEntry_val (h i j : ℕ) (hh : h < 4) (hi : i < 2 ^ 31) (hj : j < 2 ^ 31) :
    maskEntry h i j = ((if j ≤ i then decay h ^ (i - j) else 0 : ℝ) : EReal) := by
  unfold maskEntry
  rw [count_val i hi, count_val j hj, zero_val, ← EReal.coe_sub]
  by_cases hle : j ≤ i
  · have e : (i : ℝ) - (j : ℝ) = ((i - j : ℕ) : ℝ) := by rw [Nat.cast_sub hle]
    rw [if_pos hle, e, max_eq_left (by exact_mod_cast Nat.zero_le (i - j)), exp_logDecay h _ hh]
    have : Ideal.cmp .oge ((((i - j : ℕ) : ℝ)) : EReal) ((0 : ℝ) : EReal) = 1 := by
      simp [Ideal.cmp]
    rw [this]
    rfl
  · have : Ideal.cmp .oge ((((i : ℝ) - (j : ℝ) : ℝ)) : EReal) ((0 : ℝ) : EReal) = 0 := by
      have : ¬ ((0 : ℝ) : EReal) ≤ (((i : ℝ) - (j : ℝ) : ℝ) : EReal) := by
        rw [EReal.coe_le_coe_iff, sub_nonneg, Nat.cast_le]
        exact hle
      unfold Ideal.cmp
      dsimp only
      rw [decide_eq_false this]
      rfl
    rw [if_neg hle, this]
    rfl

/-- A head's entry over the head's root mean square, with the problem's epsilon. -/
def groupNorm (o : Fin 512 → EReal) (e : Fin 512) : EReal :=
  o e * Ideal.rsqrt (Ideal.div (∑ e : Fin 512, o e * o e) (Ideal.ofBits .f32 0x44000000#32) + Ideal.ofBits .f32 0x358637BD#32)

end Cert.Ret

end
-- ==== Proof.Ret.Block.lean ====
/- The kernel's payloads at an index. -/
module

public import proofs.«01_k».proof.Proof.Gen.RetKernelIdeal.Value
public import proofs.«01_k».proof.Proof.Ret.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

/-- The normalised tokens of a block. -/
theorem normed_at (X : FVec Ideal S1x256x1024 .f32) (G : FVec Ideal S1x1024 .f32) (r : Fin 256) (k : Fin 1024) :
    k0_pay4 (F := Ideal) X G (ix2 r k) = X (ix3 0 r k) * Ffn.rms (fun k => X (ix3 0 r k)) * G (ix2 0 k) := by
  pointwise [k0_pay4, Ffn.rms]

/-- The first half of a head's rotated entries. -/
theorem turned_low (H : FVec Ideal S256x1024 .bf16) (W : FVec Ideal S1024x256 .bf16) (co si : FVec Ideal S256x128 .f32) (r : Fin 256) (i : Fin 128) :
    k0_pay20 (F := Ideal) H W co si (ix2 r ⟨i, by omega⟩)
      = (∑ k : Fin 1024, H (ix2 r k) * W (ix2 k ⟨i, by omega⟩)) * co (ix2 r i) - (∑ k : Fin 1024, H (ix2 r k) * W (ix2 k ⟨128 + i, by omega⟩)) * si (ix2 r i) := by
  pointwise [k0_pay20]

/-- The second half of a head's rotated entries. -/
theorem turned_high (H : FVec Ideal S256x1024 .bf16) (W : FVec Ideal S1024x256 .bf16) (co si : FVec Ideal S256x128 .f32) (r : Fin 256) (i : Fin 128) :
    k0_pay20 (F := Ideal) H W co si (ix2 r ⟨128 + i, by omega⟩)
      = (∑ k : Fin 1024, H (ix2 r k) * W (ix2 k ⟨128 + i, by omega⟩)) * co (ix2 r i) + (∑ k : Fin 1024, H (ix2 r k) * W (ix2 k ⟨i, by omega⟩)) * si (ix2 r i) := by
  pointwise [k0_pay20]

/-- A head's values. -/
theorem values_at (H : FVec Ideal S256x1024 .bf16) (W : FVec Ideal S1024x512 .bf16) (r : Fin 256) (e : Fin 512) :
    k0_pay22 (F := Ideal) H W (ix2 r e) = ∑ k : Fin 1024, H (ix2 r k) * W (ix2 k e) := by
  pointwise [k0_pay22]

/-- A head's retention of a block: the block's own tokens under the mask, and the carried state. -/
theorem retention_at (q k : FVec Ideal S256x256 .f32) (H : FVec Ideal S256x1024 .bf16) (W : FVec Ideal S1024x512 .bf16) (M : FVec Ideal S1x256x256 .f32)
    (S : FVec Ideal S1x256x512 .f32) (xi : FVec Ideal S1x256x256 .f32) (r : Fin 256) (e : Fin 512) :
    k0_pay24 (F := Ideal) q k H W M S xi (ix2 r e)
      = (∑ x : Fin 256, ((∑ d : Fin 256, q (ix2 r d) * k (ix2 x d)) * M (ix3 0 r x)) * k0_pay22 (F := Ideal) H W (ix2 x e))
        + ∑ d : Fin 256, (q (ix2 r d) * xi (ix3 0 r d)) * S (ix3 0 d e) := by
  generalize hV : k0_pay22 (F := Ideal) H W = V
  pointwise [k0_pay24, k0_pay23, hV]

/-- A head's entry, normalised over the head and gated. -/
theorem gated_at (O : FVec Ideal S256x512 .f32) (H : FVec Ideal S256x1024 .bf16) (W : FVec Ideal S1024x512 .bf16) (r : Fin 256) (e : Fin 512) :
    k0_pay35 (F := Ideal) O H W (ix2 r e)
      = groupNorm (fun e => O (ix2 r e)) e * ((∑ k : Fin 1024, H (ix2 r k) * W (ix2 k e)) * Ideal.logistic (∑ k : Fin 1024, H (ix2 r k) * W (ix2 k e))) := by
  pointwise [k0_pay35, groupNorm]

/-- The block's result. -/
theorem payload_at (A : FVec Ideal S256x2048 .bf16) (Wo : FVec Ideal S2048x1024 .bf16) (X : FVec Ideal S1x256x1024 .f32) (r : Fin 256) (d : Fin 1024) :
    k0_pay2 (F := Ideal) A Wo X (ix3 0 r d) = X (ix3 0 r d) + ∑ f : Fin 2048, A (ix2 r f) * Wo (ix2 f d) := by
  pointwise [k0_pay2]

/-- The empty state. -/
theorem empty_at (h : Fin 4) (d : Fin 256) (e : Fin 512) : k0_pay3 (F := Ideal) (ix3 h d e) = ((0 : ℝ) : EReal) := by
  pointwise [k0_pay3]
  exact EReal.coe_zero.symm

end Cert.Ret

end
-- ==== Proof.Ret.Heads.lean ====
/- The four heads are computed alike. -/
module

public import proofs.«01_k».proof.Proof.Ret.Block
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

/-- A head's retention of a block, normalised and gated. -/
def gatedHead (H : FVec Ideal S256x1024 .bf16) (Wq Wk : FVec Ideal S1024x256 .bf16) (Wv Wg : FVec Ideal S1024x512 .bf16) (cq sq ck sk : FVec Ideal S256x128 .f32) (M z : FVec Ideal S1x256x256 .f32) (S : FVec Ideal S1x256x512 .f32) : FVec Ideal S256x512 .bf16 :=
  k0_pay35 (F := Ideal) (k0_pay24 (k0_pay20 H Wq cq sq) (k0_pay20 H Wk ck sk) H Wv M S z) H Wg

/-- Head 0 is computed as the other heads are. -/
theorem head_0 (H : FVec Ideal S256x1024 .bf16) (Wq Wk : FVec Ideal S1024x256 .bf16) (Wv Wg : FVec Ideal S1024x512 .bf16) (cq sq ck sk : FVec Ideal S256x128 .f32) (M z : FVec Ideal S1x256x256 .f32) (S : FVec Ideal S1x256x512 .f32) :
    (k0_pay19 (k0_pay18 (k0_pay12 (k0_pay6 cq) (k0_pay7 sq) (k0_pay8 H Wq) (k0_pay9 H Wq) (k0_pay10 H Wq cq) (k0_pay11 H Wq sq)) (k0_pay15 S) (k0_pay16 (k0_pay6 cq) (k0_pay7 sq) (k0_pay8 H Wq) (k0_pay9 H Wq) (k0_pay10 H Wq cq) (k0_pay11 H Wq sq) H Wk ck sk H Wv M) z H Wg) : FVec Ideal S256x512 .bf16) = gatedHead H Wq Wk Wv Wg cq sq ck sk M z S := rfl

/-- Head 1 is computed as the other heads are. -/
theorem head_1 (H : FVec Ideal S256x1024 .bf16) (Wq Wk : FVec Ideal S1024x256 .bf16) (Wv Wg : FVec Ideal S1024x512 .bf16) (cq sq ck sk : FVec Ideal S256x128 .f32) (M z : FVec Ideal S1x256x256 .f32) (S : FVec Ideal S1x256x512 .f32) :
    (k0_pay27 (k0_pay24 (k0_pay20 H Wq cq sq) (k0_pay21 H Wk ck sk) H Wv M S z) (k0_pay26 (k0_pay20 H Wq cq sq) (k0_pay21 H Wk ck sk) H Wv M S z) H Wg : FVec Ideal S256x512 .bf16) = gatedHead H Wq Wk Wv Wg cq sq ck sk M z S := rfl

/-- Head 2 is computed as the other heads are. -/
theorem head_2 (H : FVec Ideal S256x1024 .bf16) (Wq Wk : FVec Ideal S1024x256 .bf16) (Wv Wg : FVec Ideal S1024x512 .bf16) (cq sq ck sk : FVec Ideal S256x128 .f32) (M z : FVec Ideal S1x256x256 .f32) (S : FVec Ideal S1x256x512 .f32) :
    (k0_pay35 (k0_pay33 (k0_pay28 H Wq cq sq) (k0_pay29 H Wk) ck sk H Wv M S z) H Wg : FVec Ideal S256x512 .bf16) = gatedHead H Wq Wk Wv Wg cq sq ck sk M z S := rfl

/-- Head 3 is computed as the other heads are. -/
theorem head_3 (H : FVec Ideal S256x1024 .bf16) (Wq Wk : FVec Ideal S1024x256 .bf16) (Wv Wg : FVec Ideal S1024x512 .bf16) (cq sq ck sk : FVec Ideal S256x128 .f32) (M z : FVec Ideal S1x256x256 .f32) (S : FVec Ideal S1x256x512 .f32) :
    (k0_pay1 (k0_pay43 (k0_pay37 (k0_pay36 H Wq) cq sq) (k0_pay39 H Wv) (k0_pay40 (k0_pay36 H Wq) cq sq H Wk ck sk M) S z) H (k0_pay44 Wg) (constant S256x512 .f32 0x00000000#32) : FVec Ideal S256x512 .bf16) = gatedHead H Wq Wk Wv Wg cq sq ck sk M z S := rfl

/-- The heads' projections are computed alike. -/
theorem rotated_21 : k0_pay21 (F := Ideal) = k0_pay20 := rfl

/-- The heads' projections are computed alike. -/
theorem rotated_38 : k0_pay38 (F := Ideal) = k0_pay20 := rfl

/-- The heads' projections are computed alike. -/
theorem rotated_13 : k0_pay13 (F := Ideal) = k0_pay20 := rfl

/-- The heads' projections are computed alike. -/
theorem values_39 : k0_pay39 (F := Ideal) = k0_pay22 := rfl

/-- The heads' projections are computed alike. -/
theorem values_14 : k0_pay14 (F := Ideal) = k0_pay22 := rfl

/-- The heads' projections are computed alike. -/
theorem values_31 : k0_pay31 (F := Ideal) = k0_pay22 := rfl

/-- The heads' projections are computed alike. -/
theorem rotated_30 (H : FVec Ideal S256x1024 .bf16) (W : FVec Ideal S1024x256 .bf16) (co si : FVec Ideal S256x128 .f32) :
    k0_pay30 (F := Ideal) (k0_pay29 H W) co si = k0_pay20 H W co si := rfl

end Cert.Ret

end
-- ==== Proof.Ret.Tables.lean ====
/- What the host's tables hold at an index. -/
module

public import proofs.«01_k».proof.Proof.Gen.RetKernelIdeal.Value
public import proofs.«01_k».proof.Proof.Ret.Token
public import Idealize.ShloMosaic.Lib.StableHlo.ReadAt
public import Idealize.ShloMosaic.Lib.WordCmp
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

open WordCmp

variable (m : (ℓ : Loc nD τ sig) → Buf (Elt Ideal) ℓ)

/-- The number that the host spreads over an array. -/
theorem splat_at (b : BitVec 32) : constant (F := Ideal) S_ .f32 b ix0 = Ideal.ofBits .f32 b := rfl

/-- The weights of the norm. -/
theorem gTable (c : Dev nD) (l : Fin 1024) : V m c main_v74 (ix2 0 l) = m ((c : Thread nD τ).loc main_arg1) (ix1 l) := by
  unfold V
  after_reads_at

/-- The cosines. -/
theorem cosTable (c : Dev nD) (s : Fin 2048) (i : Fin 128) : V m c main_v22 (ix2 s i) = Ideal.cos (angle s i) := by
  unfold V
  after_reads_at
  split
  · rename_i h
    after_reads_at
    simp only [angle, grid, if_pos h, one_val, zero_val, EReal.coe_one, EReal.coe_zero, id_eq, splat_at]
  · rename_i h
    after_reads_at
    simp only [angle, grid, if_neg h, one_val, zero_val, EReal.coe_one, EReal.coe_zero, id_eq, splat_at]

/-- The sines. -/
theorem sinTable (c : Dev nD) (s : Fin 2048) (i : Fin 128) : V m c main_v23 (ix2 s i) = Ideal.sin (angle s i) := by
  unfold V
  after_reads_at
  split
  · rename_i h
    after_reads_at
    simp only [angle, grid, if_pos h, one_val, zero_val, EReal.coe_one, EReal.coe_zero, id_eq, splat_at]
  · rename_i h
    after_reads_at
    simp only [angle, grid, if_neg h, one_val, zero_val, EReal.coe_one, EReal.coe_zero, id_eq, splat_at]

/-- The cosines, scaled. -/
theorem cosKTable (c : Dev nD) (s : Fin 2048) (i : Fin 128) : V m c main_v67 (ix2 s i) = Ideal.cos (angle s i) * Ideal.ofBits .f32 0x3D800000#32 := by
  unfold V
  after_reads_at
  split
  · rename_i h
    after_reads_at
    simp only [angle, grid, if_pos h, one_val, zero_val, EReal.coe_one, EReal.coe_zero, id_eq, splat_at]
  · rename_i h
    after_reads_at
    simp only [angle, grid, if_neg h, one_val, zero_val, EReal.coe_one, EReal.coe_zero, id_eq, splat_at]

/-- The sines, scaled. -/
theorem sinKTable (c : Dev nD) (s : Fin 2048) (i : Fin 128) : V m c main_v69 (ix2 s i) = Ideal.sin (angle s i) * Ideal.ofBits .f32 0x3D800000#32 := by
  unfold V
  after_reads_at
  split
  · rename_i h
    after_reads_at
    simp only [angle, grid, if_pos h, one_val, zero_val, EReal.coe_one, EReal.coe_zero, id_eq, splat_at]
  · rename_i h
    after_reads_at
    simp only [angle, grid, if_neg h, one_val, zero_val, EReal.coe_one, EReal.coe_zero, id_eq, splat_at]

/-- The decays of the carried state. -/
theorem xiTable (c : Dev nD) (h : Fin 4) (r d : Fin 256) : V m c main_v71 (ix3 h r d) = Ideal.exp ((FloatOps.sitofp (F := Ideal) FTy.f32 (BitVec.ofNat 32 r) + Ideal.ofBits .f32 0x3F800000#32) * logDecay h) := by
  unfold V
  after_reads_at
  simp only [logDecay, one_val, EReal.coe_one]

/-- The decays up to the block's last token. -/
theorem zetaTable (c : Dev nD) (h : Fin 4) (r d : Fin 256) : V m c main_v73 (ix3 h r d) = Ideal.exp ((Ideal.ofBits .f32 0x437F0000#32 - FloatOps.sitofp (F := Ideal) FTy.f32 (BitVec.ofNat 32 r)) * logDecay h) := by
  unfold V
  after_reads_at
  simp only [logDecay, one_val, EReal.coe_one]

/-- The mask. -/
theorem maskTable (c : Dev nD) (h : Fin 4) (i j : Fin 256) : V m c main_v49 (ix3 h i j) = maskEntry h i j := by
  unfold V
  after_reads_at
  simp only [maskEntry, logDecay, one_val, zero_val, EReal.coe_one, EReal.coe_zero, Ideal.cmp]
  split
  · rename_i h
    rw [decide_eq_true h]
    rfl
  · rename_i h
    rw [decide_eq_false h]
    exact zero_val

/-- The output weights. -/
theorem woTable (c : Dev nD) (f : Fin 2048) (d : Fin 1024) : V m c main_v75 (ix2 f d) = m ((c : Thread nD τ).loc main_arg3) (ix2 f d) := by
  unfold V
  after_reads_at

/-- The weights of the queries and keys, the two entries of every pair 128 columns apart. -/
theorem wqTable (c : Dev nD) (k : Fin 1024) (l : Fin 6144) (hl : (l : ℕ) < 2048) : V m c main_v10 (ix2 k l) = m ((c : Thread nD τ).loc main_arg2) (ix2 k ⟨256 * (l / 256) + 2 * (l % 128) + l % 256 / 128, by omega⟩) := by
  unfold V
  after_reads_at
  split
  · after_reads_at
    exact congrArg _ (congrArg (ix2 k) (Fin.ext (by dsimp only; omega)))
  · split
    · after_reads_at
      exact congrArg _ (congrArg (ix2 k) (Fin.ext (by dsimp only; omega)))
    · after_reads_at
      exact congrArg _ (congrArg (ix2 k) (Fin.ext (by dsimp only; omega)))

/-- The weights of the values and gates. -/
theorem wvTable (c : Dev nD) (k : Fin 1024) (l : Fin 6144) (hl : 2048 ≤ (l : ℕ)) : V m c main_v10 (ix2 k l) = m ((c : Thread nD τ).loc main_arg2) (ix2 k l) := by
  unfold V
  after_reads_at
  split
  · after_reads_at
    exact congrArg _ (congrArg (ix2 k) (Fin.ext (by dsimp only; omega)))
  · split
    · after_reads_at
      exact congrArg _ (congrArg (ix2 k) (Fin.ext (by dsimp only; omega)))
    · after_reads_at
      exact congrArg _ (congrArg (ix2 k) (Fin.ext (by dsimp only; omega)))

end Cert.Ret

end
-- ==== Proof.Ret.Reads.lean ====
/- What the retention's grid points read: every window's block as entries of the arguments or of the host's tables. -/
module

public import proofs.«01_k».proof.Proof.Ret.Tables
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

variable (m : (ℓ : Loc nD τ sig) → Buf (Elt Ideal) ℓ)

/-- The block index of every window at grid point `t`: batch `t / 8`, block of 256 tokens `t % 8`. -/
theorem idx : ∀ t : Fin cfg0.N, win0_0.index t = ![t.val / 8, t.val % 8, 0] ∧ win0_1.index t = ![0, 0] ∧ win0_2.index t = ![t.val % 8, 0]
    ∧ win0_3.index t = ![t.val % 8, 0] ∧ win0_4.index t = ![t.val % 8, 0] ∧ win0_5.index t = ![t.val % 8, 0] ∧ win0_6.index t = ![0, 0, 0]
    ∧ win0_7.index t = ![0, 0, 0] ∧ win0_8.index t = ![0, 0, 0] ∧ win0_9.index t = ![0, 0]
    ∧ win0_10.index t = ![0, 0] ∧ win0_11.index t = ![t.val / 8, t.val % 8, 0] :=
  (by decide +kernel : ∀ t : Fin grid0.N, _)

/-- The block of tokens. -/
theorem x_at (c : Dev nD) (t : Fin cfg0.N) (r : Fin 256) (k : Fin 1024) (b : Fin 32) (s : Fin 2048) (hb : (b : ℕ) = t.val / 8)
    (hs : (s : ℕ) = 256 * (t.val % 8) + r) :
    iblk m c 0 t (ix3 0 r k) = m ((c : Thread nD τ).loc main_arg0) (ix3 b s k) := by
  blk_ext! [iblk, V, idx t]

/-- The weights of the norm. -/
theorem g_at (c : Dev nD) (t : Fin cfg0.N) (k : Fin 1024) : iblk m c 1 t (ix2 0 k) = m ((c : Thread nD τ).loc main_arg1) (ix1 k) := by
  refine Eq.trans (b := V m c main_v74 (ix2 0 k)) (by unfold iblk; generalize V m c = W; blk_ext [idx t]) ((gTable m c k).trans ?_)
  rfl

/-- The rotation's cosines and sines at the block's tokens. -/
theorem cq_at (c : Dev nD) (t : Fin cfg0.N) (r : Fin 256) (i : Fin 128) : iblk m c 2 t (ix2 r i) = Ideal.cos (angle (256 * (t.val % 8) + r) i) := by
  refine Eq.trans (b := V m c main_v22 (ix2 ⟨256 * (t.val % 8) + r, by omega⟩ i)) (by unfold iblk; generalize V m c = W; blk_ext [idx t]) ((cosTable m c ⟨256 * (t.val % 8) + r, by omega⟩ i).trans ?_)
  rfl

/-- The rotation's cosines and sines at the block's tokens. -/
theorem sq_at (c : Dev nD) (t : Fin cfg0.N) (r : Fin 256) (i : Fin 128) : iblk m c 3 t (ix2 r i) = Ideal.sin (angle (256 * (t.val % 8) + r) i) := by
  refine Eq.trans (b := V m c main_v23 (ix2 ⟨256 * (t.val % 8) + r, by omega⟩ i)) (by unfold iblk; generalize V m c = W; blk_ext [idx t]) ((sinTable m c ⟨256 * (t.val % 8) + r, by omega⟩ i).trans ?_)
  rfl

/-- The rotation's cosines and sines at the block's tokens. -/
theorem ck_at (c : Dev nD) (t : Fin cfg0.N) (r : Fin 256) (i : Fin 128) : iblk m c 4 t (ix2 r i) = Ideal.cos (angle (256 * (t.val % 8) + r) i) * Ideal.ofBits .f32 0x3D800000#32 := by
  refine Eq.trans (b := V m c main_v67 (ix2 ⟨256 * (t.val % 8) + r, by omega⟩ i)) (by unfold iblk; generalize V m c = W; blk_ext [idx t]) ((cosKTable m c ⟨256 * (t.val % 8) + r, by omega⟩ i).trans ?_)
  rfl

/-- The rotation's cosines and sines at the block's tokens. -/
theorem sk_at (c : Dev nD) (t : Fin cfg0.N) (r : Fin 256) (i : Fin 128) : iblk m c 5 t (ix2 r i) = Ideal.sin (angle (256 * (t.val % 8) + r) i) * Ideal.ofBits .f32 0x3D800000#32 := by
  refine Eq.trans (b := V m c main_v69 (ix2 ⟨256 * (t.val % 8) + r, by omega⟩ i)) (by unfold iblk; generalize V m c = W; blk_ext [idx t]) ((sinKTable m c ⟨256 * (t.val % 8) + r, by omega⟩ i).trans ?_)
  rfl

/-- The decay from the state before the block to a token. -/
theorem xi_at (c : Dev nD) (t : Fin cfg0.N) (h : Fin 4) (r d : Fin 256) : iblk m c 6 t (ix3 h r d) = ((decay h ^ ((r : ℕ) + 1) : ℝ) : EReal) := by
  refine Eq.trans (b := V m c main_v71 (ix3 h r d)) (by unfold iblk; generalize V m c = W; blk_ext [idx t]) ((xiTable m c h r d).trans ?_)
  rw [count_val _ (by omega), one_val, ← EReal.coe_add, show (((r : ℕ) : ℝ) + 1) = (((r : ℕ) + 1 : ℕ) : ℝ) by push_cast; rfl]
  exact exp_logDecay h _ h.isLt

/-- The decay from a token to the block's last one. -/
theorem zeta_at (c : Dev nD) (t : Fin cfg0.N) (h : Fin 4) (r d : Fin 256) : iblk m c 7 t (ix3 h r d) = ((decay h ^ (256 - 1 - (r : ℕ)) : ℝ) : EReal) := by
  refine Eq.trans (b := V m c main_v73 (ix3 h r d)) (by unfold iblk; generalize V m c = W; blk_ext [idx t]) ((zetaTable m c h r d).trans ?_)
  have e : (255 : ℝ) - ((r : ℕ) : ℝ) = ((256 - 1 - (r : ℕ) : ℕ) : ℝ) := by
    rw [Nat.cast_sub (by omega)]
    norm_num
  rw [count_val _ (by omega), n255_val, ← EReal.coe_sub, e]
  exact exp_logDecay h _ h.isLt

/-- The decay between two tokens of the block. -/
theorem mask_at (c : Dev nD) (t : Fin cfg0.N) (h : Fin 4) (r x : Fin 256) : iblk m c 8 t (ix3 h r x) = ((if (x : ℕ) ≤ r then decay h ^ ((r : ℕ) - x) else 0 : ℝ) : EReal) := by
  refine Eq.trans (b := V m c main_v49 (ix3 h r x)) (by unfold iblk; generalize V m c = W; blk_ext [idx t]) ((maskTable m c h r x).trans ?_)
  exact maskEntry_val h r x h.isLt (by omega) (by omega)

/-- The output weights. -/
theorem wo_at (c : Dev nD) (t : Fin cfg0.N) (f : Fin 2048) (d : Fin 1024) : iblk m c 10 t (ix2 f d) = m ((c : Thread nD τ).loc main_arg3) (ix2 f d) := by
  refine Eq.trans (b := V m c main_v75 (ix2 f d)) (by unfold iblk; generalize V m c = W; blk_ext [idx t]) ((woTable m c f d).trans ?_)
  rfl

/-- The weights of the queries and keys. -/
theorem wq_at (c : Dev nD) (t : Fin cfg0.N) (k : Fin 1024) (l : Fin 6144) (hl : (l : ℕ) < 2048) : iblk m c 9 t (ix2 k l) = m ((c : Thread nD τ).loc main_arg2) (ix2 k ⟨256 * (l / 256) + 2 * (l % 128) + l % 256 / 128, by omega⟩) := by
  refine Eq.trans (b := V m c main_v10 (ix2 k l)) (by unfold iblk; generalize V m c = W; blk_ext [idx t]) ((wqTable m c k l hl).trans ?_)
  rfl

/-- The weights of the values and gates. -/
theorem wv_at (c : Dev nD) (t : Fin cfg0.N) (k : Fin 1024) (l : Fin 6144) (hl : 2048 ≤ (l : ℕ)) : iblk m c 9 t (ix2 k l) = m ((c : Thread nD τ).loc main_arg2) (ix2 k l) := by
  refine Eq.trans (b := V m c main_v10 (ix2 k l)) (by unfold iblk; generalize V m c = W; blk_ext [idx t]) ((wvTable m c k l hl).trans ?_)
  rfl

/-- A head's part of a table. -/
theorem tableSlab (X : FVec Ideal S4x256x256 .f32) (h : Fin 4) (o : Fin 3 → ℕ) (inb) (ho : o = ![(h : ℕ), 0, 0]) (r d : Fin 256) :
    View.ld (Val := Elt Ideal) (e' := .f32) X (Rect.unit (s := S4x256x256) o ![1, 256, 256] inb) (ix3 0 r d) = X (ix3 h r d) := by
  have e : (Rect.unit (s := S4x256x256) o ![1, 256, 256] inb).idx (ix3 0 r d) = ix3 h r d := by
    subst ho
    funext a
    apply Fin.ext
    rw [Rect.idx_unit_val]
    fin_cases a <;> simp
  exact congrArg X e

/-- A head's part of the carried state. -/
theorem stateSlab (X : FVec Ideal S4x256x512 .f32) (h : Fin 4) (o : Fin 3 → ℕ) (inb) (ho : o = ![(h : ℕ), 0, 0]) (d : Fin 256) (e : Fin 512) :
    View.ld (Val := Elt Ideal) (e' := .f32) X (Rect.unit (s := S4x256x512) o ![1, 256, 512] inb) (ix3 0 d e) = X (ix3 h d e) := by
  have i : (Rect.unit (s := S4x256x512) o ![1, 256, 512] inb).idx (ix3 0 d e) = ix3 h d e := by
    subst ho
    funext a
    apply Fin.ext
    rw [Rect.idx_unit_val]
    fin_cases a <;> simp
  exact congrArg X i

/-- A head's columns of the weights of the queries or keys. -/
theorem narrowSlab (X : FVec Ideal S1024x6144 .bf16) (a : ℕ) (ha : a < 24) (o : Fin 2 → ℕ) (inb) (ho : o = ![0, 256 * a]) (k : Fin 1024) (l : Fin 256) :
    View.ld (Val := Elt Ideal) (e' := .bf16) X (Rect.unit (s := S1024x6144) o ![1024, 256] inb) (ix2 k l) = X (ix2 k ⟨256 * a + l, by omega⟩) := by
  have e : (Rect.unit (s := S1024x6144) o ![1024, 256] inb).idx (ix2 k l) = ix2 k ⟨256 * a + l, by omega⟩ := by
    subst ho
    funext a
    apply Fin.ext
    rw [Rect.idx_unit_val]
    fin_cases a <;> simp
  exact congrArg X e

/-- A head's columns of the weights of the values or gates. -/
theorem wideSlab (X : FVec Ideal S1024x6144 .bf16) (a : ℕ) (ha : a < 12) (o : Fin 2 → ℕ) (inb) (ho : o = ![0, 512 * a]) (k : Fin 1024) (l : Fin 512) :
    View.ld (Val := Elt Ideal) (e' := .bf16) X (Rect.unit (s := S1024x6144) o ![1024, 512] inb) (ix2 k l) = X (ix2 k ⟨512 * a + l, by omega⟩) := by
  have e : (Rect.unit (s := S1024x6144) o ![1024, 512] inb).idx (ix2 k l) = ix2 k ⟨512 * a + l, by omega⟩ := by
    subst ho
    funext a
    apply Fin.ext
    rw [Rect.idx_unit_val]
    fin_cases a <;> simp
  exact congrArg X e

end Cert.Ret

end
-- ==== Proof.Ret.Lanes.lean ====
/- What the retention computes for one token, and that a block of tokens and the carried state give it. -/
module

public import proofs.«01_k».proof.Proof.Ret.Token
public import proofs.«01_k».proof.Proof.Ret.Recur
public import proofs.«01_k».proof.Proof.Ffn.Token
public import proofs.«01_k».proof.Proof.Common.Normed
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.Common

/-- Entry `l` of a rotated head: the first entries of the pairs fill the first half, the second ones the second half. -/
def turned (p : Fin 256 → EReal) (co si : ℕ → EReal) (l : Fin 256) : EReal :=
  if (l : ℕ) < 128 then p ⟨2 * (l % 128), by omega⟩ * co (l % 128) - p ⟨2 * (l % 128) + 1, by omega⟩ * si (l % 128)
  else p ⟨2 * (l % 128) + 1, by omega⟩ * co (l % 128) + p ⟨2 * (l % 128), by omega⟩ * si (l % 128)

/-- The column at which entry `l` of a rotated head stood. -/
def lane (l : Fin 256) : Fin 256 := ⟨2 * (l % 128) + l / 128, by omega⟩

/-- The columns as a reordering of a head's entries. -/
def lanes : Fin 256 ≃ Fin 256 where
  toFun := lane
  invFun l := ⟨l / 2 + 128 * (l % 2), by omega⟩
  left_inv l := Fin.ext (by dsimp only [lane]; omega)
  right_inv l := Fin.ext (by dsimp only [lane]; omega)

section
variable (X : Fin 2048 → Fin 1024 → EReal) (G : Fin 1024 → EReal) (W : Fin 1024 → Fin 6144 → EReal)

/-- A column of the projections of token `s`. -/
def column (s : ℕ) (l : Fin 6144) : EReal := Ffn.proj (X ⟨s % 2048, by omega⟩) G (fun k => W k l)

/-- Entry `l` of head `h`'s query at token `s`. -/
def query (h : Fin 4) (s : ℕ) (l : Fin 256) : EReal :=
  turned (fun d => column X G W s ⟨256 * h + d, by omega⟩) (fun i => Ideal.cos (angle s i)) (fun i => Ideal.sin (angle s i)) l

/-- Entry `l` of head `h`'s key at token `s`. -/
def key (h : Fin 4) (s : ℕ) (l : Fin 256) : EReal :=
  turned (fun d => column X G W s ⟨1024 + 256 * h + d, by omega⟩) (fun i => Ideal.cos (angle s i)) (fun i => Ideal.sin (angle s i)) l
    * Ideal.ofBits .f32 0x3D800000#32

/-- Entry `e` of head `h`'s value at token `s`. -/
def value (h : Fin 4) (s : ℕ) (e : Fin 512) : EReal := column X G W s ⟨2048 + 512 * h + e, by omega⟩

/-- The gate of entry `f` at token `s`. -/
def gate (s : ℕ) (f : Fin 2048) : EReal := column X G W s ⟨4096 + f, by omega⟩ * Ideal.logistic (column X G W s ⟨4096 + f, by omega⟩)

/-- What token `s` retains in entry `e` of head `h`. -/
def kept (h : Fin 4) (s : ℕ) (e : Fin 512) : EReal :=
  ((retained (decay h) (fun d => (query X G W h s d).toReal) (fun n d => (key X G W h n d).toReal) (fun n => (value X G W h n e).toReal) s : ℝ) : EReal)

/-- The state of head `h` after `n` tokens, at an entry of the keys and one of the values. -/
def carried (h : Fin 4) (n : ℕ) (d : Fin 256) (e : Fin 512) : EReal :=
  ((past (decay h) (fun n => (key X G W h n d).toReal) (fun n => (value X G W h n e).toReal) n : ℝ) : EReal)

/-- One entry of the result. -/
def token (Wo : Fin 2048 → EReal) (s : ℕ) (x₀ : EReal) : EReal :=
  x₀ + ∑ f : Fin 2048, groupNorm (fun e => kept X G W ⟨f / 512, by omega⟩ s e) ⟨f % 512, by omega⟩ * gate X G W s f * Wo f

end

/-- A real number is its real part. -/
theorem real_eq {x : EReal} (h : IsReal x) : x = ((x.toReal : ℝ) : EReal) := by
  obtain ⟨r, rfl⟩ := h
  rw [EReal.toReal_coe]

theorem turned_real {p : Fin 256 → EReal} {co si : ℕ → EReal} (hp : ∀ d, IsReal (p d)) (hc : ∀ i, IsReal (co i)) (hs : ∀ i, IsReal (si i)) (l : Fin 256) :
    IsReal (turned p co si l) := by
  unfold turned
  split
  · exact ((hp _).mul (hc _)).sub ((hp _).mul (hs _))
  · exact ((hp _).mul (hc _)).add ((hp _).mul (hs _))

/-- Scaled cosines and sines scale the rotated entry. -/
theorem turned_scaled {p : Fin 256 → EReal} {co si : ℕ → EReal} (hp : ∀ d, IsReal (p d)) (hc : ∀ i, IsReal (co i)) (hs : ∀ i, IsReal (si i)) {z : EReal}
    (hz : IsReal z) (l : Fin 256) : turned p (fun i => co i * z) (fun i => si i * z) l = turned p co si l * z := by
  choose p' hp using hp
  choose c' hc using hc
  choose s' hs using hs
  obtain ⟨z', rfl⟩ := hz
  unfold turned
  simp only [hp, hc, hs, ← EReal.coe_mul, ← EReal.coe_sub, ← EReal.coe_add]
  split
  · exact congrArg _ (by ring)
  · exact congrArg _ (by ring)

section
variable {X : Fin 2048 → Fin 1024 → EReal} {G : Fin 1024 → EReal} {W : Fin 1024 → Fin 6144 → EReal}

/-- A normalised token's projection is real, whatever the token. -/
theorem proj_real {x g w : Fin 1024 → EReal} (hg : ∀ k, IsReal (g k)) (hw : ∀ k, IsReal (w k)) : IsReal (Ffn.proj x g w) := by
  unfold Ffn.proj Ffn.rms
  exact IsReal.sum _ fun k => ((normalised_real x (by norm_num) (by norm_num) n1024_val eps_val k).mul (hg k)).mul (hw k)

theorem column_real (hG : ∀ k, IsReal (G k)) (hW : ∀ k l, IsReal (W k l)) (s : ℕ) (l : Fin 6144) : IsReal (column X G W s l) :=
  proj_real hG fun k => hW k l

theorem query_real (hG : ∀ k, IsReal (G k)) (hW : ∀ k l, IsReal (W k l)) (h : Fin 4) (s : ℕ) (l : Fin 256) : IsReal (query X G W h s l) :=
  turned_real (fun _ => column_real hG hW _ _) (fun i => cos_real s i) (fun i => sin_real s i) l

theorem key_real (hG : ∀ k, IsReal (G k)) (hW : ∀ k l, IsReal (W k l)) (h : Fin 4) (s : ℕ) (l : Fin 256) : IsReal (key X G W h s l) :=
  (turned_real (fun _ => column_real hG hW _ _) (fun i => cos_real s i) (fun i => sin_real s i) l).mul ⟨_, sixteenth_val⟩

theorem value_real (hG : ∀ k, IsReal (G k)) (hW : ∀ k l, IsReal (W k l)) (h : Fin 4) (s : ℕ) (e : Fin 512) : IsReal (value X G W h s e) :=
  column_real hG hW _ _

/-- Before the first token the state is zero. -/
theorem carried_zero (h : Fin 4) (d : Fin 256) (e : Fin 512) : carried X G W h 0 d e = ((0 : ℝ) : EReal) := by
  unfold carried
  rw [past_zero]

/-- A block of 256 tokens carries the state on. -/
theorem carried_block (hG : ∀ k, IsReal (G k)) (hW : ∀ k l, IsReal (W k l)) (h : Fin 4) (n : ℕ) (d : Fin 256) (e : Fin 512) :
    carried X G W h n d e * ((decay h ^ 256 : ℝ) : EReal)
      + ∑ r : Fin 256, (key X G W h (n + r) d * ((decay h ^ (256 - 1 - (r : ℕ)) : ℝ) : EReal)) * value X G W h (n + r) e = carried X G W h (n + 256) d e := by
  unfold carried
  rw [← past_block, EReal.coe_add, EReal.coe_mul, coe_sum]
  congr 1
  refine Finset.sum_congr rfl fun r _ => ?_
  rw [EReal.coe_mul, EReal.coe_mul, ← real_eq (key_real hG hW h _ d), ← real_eq (value_real hG hW h _ e)]

/-- What a block's token takes from its block and from the state before it is all that it retains. -/
theorem kept_block (hG : ∀ k, IsReal (G k)) (hW : ∀ k l, IsReal (W k l)) (h : Fin 4) (n : ℕ) (r : Fin 256) (e : Fin 512) :
    (∑ x : Fin 256, ((∑ d : Fin 256, query X G W h (n + r) d * key X G W h (n + x) d) * ((if (x : ℕ) ≤ r then decay h ^ ((r : ℕ) - x) else 0 : ℝ) : EReal))
        * value X G W h (n + x) e)
      + ∑ d : Fin 256, (query X G W h (n + r) d * ((decay h ^ ((r : ℕ) + 1) : ℝ) : EReal)) * carried X G W h n d e = kept X G W h (n + r) e := by
  unfold kept carried
  rw [← retained_block _ _ _ _ n 256 r r.isLt, EReal.coe_add, coe_sum, coe_sum]
  congr 1
  · refine Finset.sum_congr rfl fun x _ => ?_
    rw [EReal.coe_mul, EReal.coe_mul, coe_sum, ← real_eq (value_real hG hW h _ e)]
    congr 2
    refine Finset.sum_congr rfl fun d _ => ?_
    rw [EReal.coe_mul, ← real_eq (query_real hG hW h _ d), ← real_eq (key_real hG hW h _ d)]
  · refine Finset.sum_congr rfl fun d _ => ?_
    rw [EReal.coe_mul, EReal.coe_mul, ← real_eq (query_real hG hW h _ d)]

/-- The sum over all the tokens at once, the later ones masked, is what a token retains. -/
theorem kept_all (hG : ∀ k, IsReal (G k)) (hW : ∀ k l, IsReal (W k l)) (h : Fin 4) (s : Fin 2048) (e : Fin 512) :
    ∑ x : Fin 2048, value X G W h x e * ((∑ d : Fin 256, query X G W h s d * key X G W h x d) * ((if (x : ℕ) ≤ s then decay h ^ ((s : ℕ) - x) else 0 : ℝ) : EReal))
      = kept X G W h s e := by
  unfold kept
  rw [← retained_all _ _ _ _ 2048 s s.isLt, coe_sum]
  refine Finset.sum_congr rfl fun x _ => ?_
  rw [EReal.coe_mul, EReal.coe_mul, coe_sum, ← real_eq (value_real hG hW h _ e), mul_comm]
  congr 2
  refine Finset.sum_congr rfl fun d _ => ?_
  rw [EReal.coe_mul, ← real_eq (query_real hG hW h _ d), ← real_eq (key_real hG hW h _ d)]

end

end Cert.Ret

end
-- ==== Proof.Ret.Head.lean ====
/- A head's gated retention and new state at a grid point, as entries of the tokens' mathematics. -/
module

public import proofs.«01_k».proof.Proof.Ret.Heads
public import proofs.«01_k».proof.Proof.Ret.Reads
public import proofs.«01_k».proof.Proof.Ret.Lanes
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

variable (m : (ℓ : Loc nD τ sig) → Buf (Elt Ideal) ℓ)

/-- The arguments that the retention reads are finite. -/
structure Finite (c : Dev nD) : Prop where
  g : ∀ i, IsReal (m ((c : Thread nD τ).loc main_arg1) i)
  w : ∀ i, IsReal (m ((c : Thread nD τ).loc main_arg2) i)

/-- The tokens of sequence `b`. -/
def tokens (c : Dev nD) (b : Fin 32) (s : Fin 2048) (k : Fin 1024) : EReal := m ((c : Thread nD τ).loc main_arg0) (ix3 b s k)

/-- The weights of the norm. -/
def gains (c : Dev nD) (k : Fin 1024) : EReal := m ((c : Thread nD τ).loc main_arg1) (ix1 k)

/-- The weights of the projections. -/
def weights (c : Dev nD) (k : Fin 1024) (l : Fin 6144) : EReal := m ((c : Thread nD τ).loc main_arg2) (ix2 k l)

/-- The normalised tokens of a grid point. -/
abbrev normedBlock (c : Dev nD) (t : Fin cfg0.N) : FVec Ideal S256x1024 .bf16 := k0_pay4 (iblk m c 0 t) (iblk m c 1 t)

/-- A head's columns of the weights of the queries or keys. -/
abbrev narrow (c : Dev nD) (t : Fin cfg0.N) (o : Fin 2 → ℕ) (inb : ∀ a : Fin S1024x6144.rank, o a + ![1024, 256] a ≤ S1024x6144.size a) : FVec Ideal S1024x256 .bf16 :=
  View.ld (Val := Elt Ideal) (e' := .bf16) (iblk m c 9 t) (Rect.unit (s := S1024x6144) o ![1024, 256] inb)

/-- A head's columns of the weights of the values or gates. -/
abbrev wide (c : Dev nD) (t : Fin cfg0.N) (o : Fin 2 → ℕ) (inb : ∀ a : Fin S1024x6144.rank, o a + ![1024, 512] a ≤ S1024x6144.size a) : FVec Ideal S1024x512 .bf16 :=
  View.ld (Val := Elt Ideal) (e' := .bf16) (iblk m c 9 t) (Rect.unit (s := S1024x6144) o ![1024, 512] inb)

/-- A head's part of a table. -/
abbrev part (X : FVec Ideal S4x256x256 .f32) (o : Fin 3 → ℕ) (inb : ∀ a : Fin S4x256x256.rank, o a + ![1, 256, 256] a ≤ S4x256x256.size a) : FVec Ideal S1x256x256 .f32 :=
  View.ld (Val := Elt Ideal) (e' := .f32) X (Rect.unit (s := S4x256x256) o ![1, 256, 256] inb)

/-- A head's part of the carried state. -/
abbrev statePart (X : FVec Ideal S4x256x512 .f32) (o : Fin 3 → ℕ) (inb : ∀ a : Fin S4x256x512.rank, o a + ![1, 256, 512] a ≤ S4x256x512.size a) : FVec Ideal S1x256x512 .f32 :=
  View.ld (Val := Elt Ideal) (e' := .f32) X (Rect.unit (s := S4x256x512) o ![1, 256, 512] inb)

/-- A column of the block's projections of the queries or keys. -/
theorem narrow_at (c : Dev nD) (t : Fin cfg0.N) (b : Fin 32) (hb : (b : ℕ) = t.val / 8) (a : ℕ) (ha : a < 8) (o : Fin 2 → ℕ) (inb) (ho : o = ![0, 256 * a])
    (r l : Fin 256) (f : Fin 6144) (hf : (f : ℕ) = 256 * a + lane l) :
    ∑ k : Fin 1024, normedBlock m c t (ix2 r k) * narrow m c t o inb (ix2 k l)
      = column (tokens m c b) (gains m c) (weights m c) (256 * (t.val % 8) + r) f := by
  have hs : (256 * (t.val % 8) + r) % 2048 = 256 * (t.val % 8) + r := by omega
  unfold normedBlock narrow column Ffn.proj
  refine Finset.sum_congr rfl fun k _ => ?_
  rw [normed_at, narrowSlab _ a (by omega) o inb ho, wq_at m c t k _ (by dsimp only; omega), g_at]
  simp only [x_at m c t r _ b ⟨(256 * (t.val % 8) + r) % 2048, by omega⟩ hb hs]
  refine congrArg (_ * ·) (congrArg _ (congrArg (ix2 k) (Fin.ext ?_)))
  have hl := l.isLt
  rw [hf]
  dsimp only [lane]
  omega

/-- A column of the block's projections of the values or gates. -/
theorem wide_at (c : Dev nD) (t : Fin cfg0.N) (b : Fin 32) (hb : (b : ℕ) = t.val / 8) (a : ℕ) (ha : 4 ≤ a ∧ a < 12) (o : Fin 2 → ℕ) (inb) (ho : o = ![0, 512 * a])
    (r : Fin 256) (e : Fin 512) (f : Fin 6144) (hf : (f : ℕ) = 512 * a + e) :
    ∑ k : Fin 1024, normedBlock m c t (ix2 r k) * wide m c t o inb (ix2 k e)
      = column (tokens m c b) (gains m c) (weights m c) (256 * (t.val % 8) + r) f := by
  have hs : (256 * (t.val % 8) + r) % 2048 = 256 * (t.val % 8) + r := by omega
  unfold normedBlock wide column Ffn.proj
  refine Finset.sum_congr rfl fun k _ => ?_
  rw [normed_at, wideSlab _ a (by omega) o inb ho, wv_at m c t k _ (by dsimp only; omega), g_at]
  simp only [x_at m c t r _ b ⟨(256 * (t.val % 8) + r) % 2048, by omega⟩ hb hs]
  exact congrArg (_ * ·) (congrArg _ (congrArg (ix2 k) (Fin.ext hf.symm)))

/-- The block's rotated entries of a head. -/
theorem rotated_at (c : Dev nD) (t : Fin cfg0.N) (b : Fin 32) (hb : (b : ℕ) = t.val / 8) (a : ℕ) (ha : a < 8) (o : Fin 2 → ℕ) (inb) (ho : o = ![0, 256 * a])
    (co si : FVec Ideal S256x128 .f32) (r l : Fin 256) (C D : ℕ → EReal) (hc : ∀ i : Fin 128, co (ix2 r i) = C i) (hd : ∀ i : Fin 128, si (ix2 r i) = D i)
    (f : Fin 256 → Fin 6144) (hf : ∀ d, (f d : ℕ) = 256 * a + d) :
    k0_pay20 (F := Ideal) (normedBlock m c t) (narrow m c t o inb) co si (ix2 r l)
      = turned (fun d => column (tokens m c b) (gains m c) (weights m c) (256 * (t.val % 8) + r) (f d)) C D l := by
  have hl := l.isLt
  unfold turned
  by_cases h : (l : ℕ) < 128
  · obtain ⟨i, rfl⟩ : ∃ i : Fin 128, l = ⟨i, i.isLt.trans (by decide)⟩ := ⟨⟨l, h⟩, rfl⟩
    have e : (i : ℕ) % 128 = i := Nat.mod_eq_of_lt i.isLt
    rw [if_pos h, turned_low, hc, hd,
      narrow_at m c t b hb a ha o inb ho r _ (f ⟨2 * ((i : ℕ) % 128), by omega⟩) (by rw [hf]; dsimp only [lane]; omega),
      narrow_at m c t b hb a ha o inb ho r _ (f ⟨2 * ((i : ℕ) % 128) + 1, by omega⟩) (by rw [hf]; dsimp only [lane]; omega)]
    simp only [e]
  · obtain ⟨i, rfl⟩ : ∃ i : Fin 128, l = ⟨128 + i, Nat.add_lt_add_left i.isLt 128⟩ := ⟨⟨l - 128, by omega⟩, Fin.ext (by dsimp only; omega)⟩
    have e : (128 + (i : ℕ)) % 128 = i := by omega
    rw [if_neg h, turned_high, hc, hd,
      narrow_at m c t b hb a ha o inb ho r _ (f ⟨2 * ((128 + (i : ℕ)) % 128) + 1, by omega⟩) (by rw [hf]; dsimp only [lane]; omega),
      narrow_at m c t b hb a ha o inb ho r _ (f ⟨2 * ((128 + (i : ℕ)) % 128), by omega⟩) (by rw [hf]; dsimp only [lane]; omega)]
    simp only [e]

theorem gains_real (c : Dev nD) (N : Finite m c) (k : Fin 1024) : IsReal (gains m c k) := N.g _
theorem weights_real (c : Dev nD) (N : Finite m c) (k : Fin 1024) (l : Fin 6144) : IsReal (weights m c k l) := N.w _

/-- The block's queries of a head. -/
theorem query_at (c : Dev nD) (t : Fin cfg0.N) (b : Fin 32) (hb : (b : ℕ) = t.val / 8) (h : Fin 4) (o : Fin 2 → ℕ) (inb) (ho : o = ![0, 256 * (h : ℕ)]) (r l : Fin 256) :
    k0_pay20 (F := Ideal) (normedBlock m c t) (narrow m c t o inb) (iblk m c 2 t) (iblk m c 3 t) (ix2 r l)
      = query (tokens m c b) (gains m c) (weights m c) h (256 * (t.val % 8) + r) l :=
  rotated_at m c t b hb h (by omega) o inb ho _ _ r l _ _ (fun i => cq_at m c t r i) (fun i => sq_at m c t r i) _ fun d => rfl

/-- The block's keys of a head. -/
theorem key_at (c : Dev nD) (N : Finite m c) (t : Fin cfg0.N) (b : Fin 32) (hb : (b : ℕ) = t.val / 8) (h : Fin 4) (o : Fin 2 → ℕ) (inb) (ho : o = ![0, 256 * (4 + (h : ℕ))]) (r l : Fin 256) :
    k0_pay20 (F := Ideal) (normedBlock m c t) (narrow m c t o inb) (iblk m c 4 t) (iblk m c 5 t) (ix2 r l)
      = key (tokens m c b) (gains m c) (weights m c) h (256 * (t.val % 8) + r) l := by
  refine (rotated_at m c t b hb (4 + h) (by omega) o inb ho _ _ r l
    (fun i => Ideal.cos (angle (256 * (t.val % 8) + r) i) * Ideal.ofBits .f32 0x3D800000#32) (fun i => Ideal.sin (angle (256 * (t.val % 8) + r) i) * Ideal.ofBits .f32 0x3D800000#32)
    (fun i => ck_at m c t r i) (fun i => sk_at m c t r i) (fun d => ⟨1024 + 256 * h + d, by omega⟩) (fun d => by dsimp only; omega)).trans ?_
  exact turned_scaled (fun d => column_real (gains_real m c N) (weights_real m c N) _ _) (fun i => cos_real _ i) (fun i => sin_real _ i) ⟨_, sixteenth_val⟩ l

/-- The block's values of a head. -/
theorem value_at (c : Dev nD) (t : Fin cfg0.N) (b : Fin 32) (hb : (b : ℕ) = t.val / 8) (h : Fin 4) (o : Fin 2 → ℕ) (inb) (ho : o = ![0, 512 * (4 + (h : ℕ))]) (r : Fin 256) (e : Fin 512) :
    k0_pay22 (F := Ideal) (normedBlock m c t) (wide m c t o inb) (ix2 r e) = value (tokens m c b) (gains m c) (weights m c) h (256 * (t.val % 8) + r) e := by
  rw [values_at]
  exact wide_at m c t b hb (4 + h) (by omega) o inb ho r e _ (by dsimp only; omega)

/-- A head's gated retention at a row and an entry, from the state carried to the block. -/
theorem gatedHead_at (c : Dev nD) (N : Finite m c) (t : Fin cfg0.N) (b : Fin 32) (hb : (b : ℕ) = t.val / 8) (h : Fin 4) (S : FVec Ideal S4x256x512 .f32)
    (hS : ∀ d e, S (ix3 h d e) = carried (tokens m c b) (gains m c) (weights m c) h (256 * (t.val % 8)) d e)
    (oq ok : Fin 2 → ℕ) (iq ik) (hq : oq = ![0, 256 * (h : ℕ)]) (hk : ok = ![0, 256 * (4 + (h : ℕ))])
    (ov og : Fin 2 → ℕ) (iv ig) (hv : ov = ![0, 512 * (4 + (h : ℕ))]) (hg : og = ![0, 512 * (8 + (h : ℕ))])
    (o : Fin 3 → ℕ) (it is) (ho : o = ![(h : ℕ), 0, 0]) (r : Fin 256) (e : Fin 512) (f : Fin 2048) (hf : (f : ℕ) = 512 * h + e) :
    gatedHead (normedBlock m c t) (narrow m c t oq iq) (narrow m c t ok ik) (wide m c t ov iv) (wide m c t og ig) (iblk m c 2 t) (iblk m c 3 t) (iblk m c 4 t)
        (iblk m c 5 t) (part (iblk m c 8 t) o it) (part (iblk m c 6 t) o it) (statePart S o is) (ix2 r e)
      = groupNorm (fun e => kept (tokens m c b) (gains m c) (weights m c) h (256 * (t.val % 8) + r) e) e
        * gate (tokens m c b) (gains m c) (weights m c) (256 * (t.val % 8) + r) f := by
  unfold gatedHead
  rw [gated_at, wide_at m c t b hb (8 + h) (by omega) og ig hg r e ⟨4096 + f, by omega⟩ (by dsimp only; omega)]
  refine congrArg₂ (· * ·) (congrArg (fun o => groupNorm o e) (funext fun e => ?_)) rfl
  rw [retention_at]
  have hQ := fun l => query_at m c t b hb h oq iq hq r l
  generalize k0_pay20 (F := Ideal) (normedBlock m c t) (narrow m c t oq iq) (iblk m c 2 t) (iblk m c 3 t) = Qb at hQ ⊢
  have hK := fun x l => key_at m c N t b hb h ok ik hk x l
  have hV := fun x e => value_at m c t b hb h ov iv hv x e
  generalize k0_pay20 (F := Ideal) (normedBlock m c t) (narrow m c t ok ik) (iblk m c 4 t) (iblk m c 5 t) = Kb at hK ⊢
  generalize k0_pay22 (F := Ideal) (normedBlock m c t) (wide m c t ov iv) = Vb at hV ⊢
  simp only [hQ, hK, hV]
  rw [← kept_block (gains_real m c N) (weights_real m c N) h (256 * (t.val % 8)) r e]
  have hM : ∀ x, part (iblk m c 8 t) o it (ix3 0 r x) = _ := fun x => (tableSlab _ h o it ho r x).trans (mask_at m c t h r x)
  have hX : ∀ d, part (iblk m c 6 t) o it (ix3 0 r d) = _ := fun d => (tableSlab _ h o it ho r d).trans (xi_at m c t h r d)
  have hP : ∀ d, statePart S o is (ix3 0 d e) = _ := fun d => (stateSlab _ h o is ho d e).trans (hS d e)
  generalize part (iblk m c 8 t) o it = Mb at hM ⊢
  generalize part (iblk m c 6 t) o it = Zb at hX ⊢
  generalize statePart S o is = Sb at hP ⊢
  simp only [hM, hX, hP]

/-- The state that a block leaves in a head, from the state carried to the block. -/
theorem newState_at (c : Dev nD) (N : Finite m c) (t : Fin cfg0.N) (b : Fin 32) (hb : (b : ℕ) = t.val / 8) (h : Fin 4) (S : FVec Ideal S4x256x512 .f32)
    (hS : ∀ d e, S (ix3 h d e) = carried (tokens m c b) (gains m c) (weights m c) h (256 * (t.val % 8)) d e)
    (ok : Fin 2 → ℕ) (ik) (hk : ok = ![0, 256 * (4 + (h : ℕ))]) (ov : Fin 2 → ℕ) (iv) (hv : ov = ![0, 512 * (4 + (h : ℕ))])
    (o : Fin 3 → ℕ) (it is) (ho : o = ![(h : ℕ), 0, 0]) (d : Fin 256) (e : Fin 512) :
    statePart S o is (ix3 0 d e) * ((decay h ^ 256 : ℝ) : EReal)
        + ∑ x : Fin 256, (k0_pay20 (F := Ideal) (normedBlock m c t) (narrow m c t ok ik) (iblk m c 4 t) (iblk m c 5 t) (ix2 x d) * part (iblk m c 7 t) o it (ix3 0 x d))
          * k0_pay22 (F := Ideal) (normedBlock m c t) (wide m c t ov iv) (ix2 x e)
      = carried (tokens m c b) (gains m c) (weights m c) h (256 * (t.val % 8) + 256) d e := by
  have hK := fun x l => key_at m c N t b hb h ok ik hk x l
  have hV := fun x e => value_at m c t b hb h ov iv hv x e
  generalize k0_pay20 (F := Ideal) (normedBlock m c t) (narrow m c t ok ik) (iblk m c 4 t) (iblk m c 5 t) = Kb at hK ⊢
  generalize k0_pay22 (F := Ideal) (normedBlock m c t) (wide m c t ov iv) = Vb at hV ⊢
  simp only [hK, hV]
  rw [← carried_block (gains_real m c N) (weights_real m c N) h (256 * (t.val % 8)) d e]
  have hZ : ∀ x, part (iblk m c 7 t) o it (ix3 0 x d) = _ := fun x => (tableSlab _ h o it ho x d).trans (zeta_at m c t h x d)
  have hP : statePart S o is (ix3 0 d e) = _ := (stateSlab _ h o is ho d e).trans (hS d e)
  generalize part (iblk m c 7 t) o it = Zb at hZ ⊢
  generalize statePart S o is = Sb at hP ⊢
  simp only [hZ, hP]

end Cert.Ret

end
-- ==== Proof.Ret.Blocks.lean ====
/- A block's gated retention, and the state after a number of tokens. -/
module

public import proofs.«01_k».proof.Proof.Ret.Head
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

variable (m : (ℓ : Loc nD τ sig) → Buf (Elt Ideal) ℓ)

/-- The sequence of a grid point. -/
def seqOf (t : Fin cfg0.N) : Fin 32 := ⟨t.val / 8, by have : t.val < 256 := t.isLt; omega⟩

/-- The gated retention of the 256 tokens of grid point `t`, the heads side by side. -/
def gatedBlock (c : Dev nD) (t : Fin cfg0.N) : FVec Ideal S256x2048 .bf16 := fun y =>
  groupNorm (fun e => kept (tokens m c (seqOf t)) (gains m c) (weights m c) ⟨(y 1 : ℕ) / 512, by have : (y 1).val < 2048 := (y 1).isLt; omega⟩
      (256 * (t.val % 8) + (y 0 : ℕ)) e) ⟨(y 1 : ℕ) % 512, by omega⟩
    * gate (tokens m c (seqOf t)) (gains m c) (weights m c) (256 * (t.val % 8) + (y 0 : ℕ)) ⟨(y 1 : ℕ), (y 1).isLt⟩

/-- The state of every head after `n` tokens of sequence `b`. -/
def stateAfter (c : Dev nD) (b : Fin 32) (n : ℕ) : FVec Ideal S4x256x512 .f32 := fun z =>
  carried (tokens m c b) (gains m c) (weights m c) (z 0) n (z 1) (z 2)

/-- The block's entry of head `h` at row `r` and entry `l`. -/
theorem gatedBlock_at (c : Dev nD) (t : Fin cfg0.N) (y : S256x2048.Idx) (h : Fin 4) (r : Fin 256) (l : Fin 512) (f : Fin 2048) (h0 : (y 0 : ℕ) = r)
    (h1 : (y 1 : ℕ) = 512 * h + l) (hf : (f : ℕ) = 512 * h + l) :
    groupNorm (fun e => kept (tokens m c (seqOf t)) (gains m c) (weights m c) h (256 * (t.val % 8) + r) e) l
      * gate (tokens m c (seqOf t)) (gains m c) (weights m c) (256 * (t.val % 8) + r) f = gatedBlock m c t y := by
  have hl := l.isLt
  unfold gatedBlock
  have eh : (⟨(y 1 : ℕ) / 512, by have : (y 1).val < 2048 := (y 1).isLt; omega⟩ : Fin 4) = h := Fin.ext (by dsimp only; omega)
  have el : (⟨(y 1 : ℕ) % 512, by omega⟩ : Fin 512) = l := Fin.ext (by dsimp only; omega)
  have ef : (⟨(y 1 : ℕ), (y 1).isLt⟩ : Fin 2048) = f := Fin.ext (h1.trans hf.symm)
  rw [eh, el, h0]
  exact congrArg (_ * ·) (congrArg _ ef.symm)

/-- The state's entry at an index whose coordinates are known. -/
theorem stateAfter_at (c : Dev nD) (b : Fin 32) (n : ℕ) (y : S4x256x512.Idx) (h : Fin 4) (d : Fin 256) (e : Fin 512) (h0 : (y 0 : ℕ) = h)
    (h1 : (y 1 : ℕ) = d) (h2 : (y 2 : ℕ) = e) :
    carried (tokens m c b) (gains m c) (weights m c) h n d e = stateAfter m c b n y := by
  obtain rfl : y 0 = h := Fin.ext h0
  obtain rfl : y 1 = d := Fin.ext h1
  obtain rfl : y 2 = e := Fin.ext h2
  rfl

/-- A store over the whole of a buffer is not seen through four later ones that cover the index. -/
theorem canon_covered {Val : EltTy → Type} [∀ e, Nonempty (Val e)] {S : Shape} {e : EltTy} (p q r s z : View.Piece Val S e) (y : S.Idx)
    (hc : ∃ u ∈ [p, q, r, s], y ∈ u.1.set) : View.canon [p, q, r, s, z] y = View.canon [p, q, r, s] y := by
  by_cases hp : y ∈ p.1.set
  · obtain ⟨x, rfl⟩ := p.1.exists_idx_of_mem hp
    exact (View.canon_cons_emb _ _ _ x).trans (View.canon_cons_emb _ _ _ x).symm
  rw [View.canon_cons_of_not_mem _ _ hp, View.canon_cons_of_not_mem _ _ hp]
  by_cases hq : y ∈ q.1.set
  · obtain ⟨x, rfl⟩ := q.1.exists_idx_of_mem hq
    exact (View.canon_cons_emb _ _ _ x).trans (View.canon_cons_emb _ _ _ x).symm
  rw [View.canon_cons_of_not_mem _ _ hq, View.canon_cons_of_not_mem _ _ hq]
  by_cases hr : y ∈ r.1.set
  · obtain ⟨x, rfl⟩ := r.1.exists_idx_of_mem hr
    exact (View.canon_cons_emb _ _ _ x).trans (View.canon_cons_emb _ _ _ x).symm
  rw [View.canon_cons_of_not_mem _ _ hr, View.canon_cons_of_not_mem _ _ hr]
  have hs : y ∈ s.1.set := by
    obtain ⟨u, hu, hy⟩ := hc
    simp only [List.mem_cons, List.not_mem_nil, or_false] at hu
    rcases hu with rfl | rfl | rfl | rfl <;> first | exact hy | exact absurd hy ‹_›
  obtain ⟨x, rfl⟩ := s.1.exists_idx_of_mem hs
  exact (View.canon_cons_emb _ _ _ x).trans (View.canon_cons_emb _ _ _ x).symm

end Cert.Ret

end
-- ==== Proof.Ret.Decays.lean ====
/- What the four heads leave in the carried state, at an index. -/
module

public import proofs.«01_k».proof.Proof.Gen.RetKernelIdeal.Value
public import proofs.«01_k».proof.Proof.Ret.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

/-- The decay of head 0 over a block. -/
theorem named_0 (b : BitVec 32) : Named.named (F := Ideal) (φ := .f32) κ "decay0" b = ((decay 0 ^ 256 : ℝ) : EReal) :=
  (IdealRules.named_const.ideal_named_scalar _ _ _ _ rfl).trans (congrArg _ (by norm_num [decay]))

/-- The decay of head 1 over a block. -/
theorem named_1 (b : BitVec 32) : Named.named (F := Ideal) (φ := .f32) κ "decay1" b = ((decay 1 ^ 256 : ℝ) : EReal) :=
  (IdealRules.named_const.ideal_named_scalar _ _ _ _ rfl).trans (congrArg _ (by norm_num [decay]))

/-- The decay of head 2 over a block. -/
theorem named_2 (b : BitVec 32) : Named.named (F := Ideal) (φ := .f32) κ "decay2" b = ((decay 2 ^ 256 : ℝ) : EReal) :=
  (IdealRules.named_const.ideal_named_scalar _ _ _ _ rfl).trans (congrArg _ (by norm_num [decay]))

/-- The decay of head 3 over a block. -/
theorem named_3 (b : BitVec 32) : Named.named (F := Ideal) (φ := .f32) κ "decay3" b = ((decay 3 ^ 256 : ℝ) : EReal) :=
  (IdealRules.named_const.ideal_named_scalar _ _ _ _ rfl).trans (congrArg _ (by norm_num [decay]))

/-- The state that head 0 leaves: the carried one decayed, and the block's tokens. -/
theorem state_0 (k : FVec Ideal S256x256 .f32) (v : FVec Ideal S256x512 .bf16) (S : FVec Ideal S256x512 .f32) (z : FVec Ideal S1x256x256 .f32) (d : Fin 256) (e : Fin 512) :
    k0_pay17 (F := Ideal) k v S z (ix3 0 d e) = S (ix2 d e) * ((decay 0 ^ 256 : ℝ) : EReal) + ∑ x : Fin 256, (k (ix2 x d) * z (ix3 0 x d)) * v (ix2 x e) := by
  pointwise [k0_pay17, named_0]

/-- The state that head 1 leaves: the carried one decayed, and the block's tokens. -/
theorem state_1 (k : FVec Ideal S256x256 .f32) (H : FVec Ideal S256x1024 .bf16) (W : FVec Ideal S1024x512 .bf16) (S : FVec Ideal S1x256x512 .f32) (z : FVec Ideal S1x256x256 .f32) (d : Fin 256) (e : Fin 512) :
    k0_pay25 (F := Ideal) k H W S z (ix3 0 d e) = S (ix3 0 d e) * ((decay 1 ^ 256 : ℝ) : EReal) + ∑ x : Fin 256, (k (ix2 x d) * z (ix3 0 x d)) * k0_pay22 (F := Ideal) H W (ix2 x e) := by
  generalize hV : k0_pay22 (F := Ideal) H W = v
  pointwise [k0_pay25, k0_pay23, hV, named_1]

/-- The state that head 2 leaves: the carried one decayed, and the block's tokens. -/
theorem state_2 (k : FVec Ideal S256x256 .f32) (v : FVec Ideal S256x512 .bf16) (S : FVec Ideal S256x512 .f32) (z : FVec Ideal S1x256x256 .f32) (d : Fin 256) (e : Fin 512) :
    k0_pay34 (F := Ideal) k v S z (ix3 0 d e) = S (ix2 d e) * ((decay 2 ^ 256 : ℝ) : EReal) + ∑ x : Fin 256, (k (ix2 x d) * z (ix3 0 x d)) * v (ix2 x e) := by
  pointwise [k0_pay34, named_2]

/-- The state that head 3 leaves: the carried one decayed, and the block's tokens. -/
theorem state_3 (k : FVec Ideal S256x256 .f32) (v : FVec Ideal S256x512 .bf16) (S : FVec Ideal S1x256x512 .f32) (z : FVec Ideal S1x256x256 .f32) (d : Fin 256) (e : Fin 512) :
    k0_pay42 (F := Ideal) k v S z (ix3 0 d e) = S (ix3 0 d e) * ((decay 3 ^ 256 : ℝ) : EReal) + ∑ x : Fin 256, (k (ix2 x d) * z (ix3 0 x d)) * v (ix2 x e) := by
  pointwise [k0_pay42, k0_pay41, named_3]

/-- A head's carried state without its first axis. -/
theorem carried_0 (S : FVec Ideal S1x256x512 .f32) (d : Fin 256) (e : Fin 512) : k0_pay15 (F := Ideal) S (ix2 d e) = S (ix3 0 d e) := by
  pointwise [k0_pay15]

/-- A head's carried state without its first axis. -/
theorem carried_2 (S : FVec Ideal S1x256x512 .f32) (d : Fin 256) (e : Fin 512) : k0_pay32 (F := Ideal) S (ix2 d e) = S (ix3 0 d e) := by
  pointwise [k0_pay32]

end Cert.Ret

end
-- ==== Proof.Ret.ResultA.lean ====
/- What a sequence's first grid point stores and leaves. -/
module

public import proofs.«01_k».proof.Proof.Ret.Blocks
public import proofs.«01_k».proof.Proof.Ret.Decays
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

variable (m : (ℓ : Loc nD τ sig) → Buf (Elt Ideal) ℓ)

/-- At a sequence's first block the state is empty. -/
theorem empty_carried (c : Dev nD) (t : Fin cfg0.N) (hc : t.val % 8 = 0) (h : Fin 4) (d : Fin 256) (e : Fin 512) :
    k0_pay3 (F := Ideal) (ix3 h d e) = carried (tokens m c (seqOf t)) (gains m c) (weights m c) h (256 * (t.val % 8)) d e := by
  rw [empty_at, hc]
  exact (carried_zero h d e).symm

/-- What a grid point stores: the gated retention times the output weights, added to the block of tokens. -/
theorem out_A (c : Dev nD) (N : Finite m c) (t : Fin cfg0.N) (hc : t.val % 8 = 0) :
    (outsAt0 m c t.val t.isLt).1 = k0_pay2 (gatedBlock m c t) (iblk m c 10 t) (iblk m c 0 t) := by
  rw [outsAt0_A m c t hc]
  dsimp only
  unfold out0_A_11
  frame_open
  simp (disch := decide) only [↓ View.readCov_skip, ↓ View.readCov_cons_toLoadRect, ↓ View.readCov_fill]
  frame_out
  refine congrArg (fun a => k0_pay2 a (iblk m c 10 t) (iblk m c 0 t)) (funext fun y => ?_)
  rw [View.readCov_eq_canon']
  have e0 : ((Rect.unit (s := S256x2048) ![0, 0] ![256, 2048] inb_S256x2048_S256x2048_0_0).idx y 0 : ℕ) = y 0 := by
    rw [Rect.idx_unit_val]; simp
  have e1 : ((Rect.unit (s := S256x2048) ![0, 0] ![256, 2048] inb_S256x2048_S256x2048_0_0).idx y 1 : ℕ) = y 1 := by
    rw [Rect.idx_unit_val]; simp
  canon_tiles x h
  all_goals
    rw [e0] at h0
    rw [e1] at h1
    obtain ⟨r, l, rfl⟩ : ∃ r l, x = ix2 r l := ⟨x 0, x 1, by funext a; match a with | 0 => rfl | 1 => rfl⟩
  case piece0 =>
    have g0 : (y 0 : ℕ) = r := h0
    have g1 : (y 1 : ℕ) = 512 * ((3 : Fin 4) : ℕ) + l := h1
    refine ((congrFun (head_3 _ _ _ _ _ _ _ _ _ _ _ _) _).trans (gatedHead_at m c N t (seqOf t) rfl 3 k0_pay3 (empty_carried m c t hc _) _ _ _ _ rfl rfl _ _ _ _ rfl rfl _ _ _ rfl r l
      ⟨(y 1 : ℕ), (y 1).isLt⟩ g1)).trans (gatedBlock_at m c t y 3 r l _ g0 g1 g1)
  case piece1 =>
    have g0 : (y 0 : ℕ) = r := h0
    have g1 : (y 1 : ℕ) = 512 * ((2 : Fin 4) : ℕ) + l := h1
    refine ((congrFun (head_2 _ _ _ _ _ _ _ _ _ _ _ _) _).trans (gatedHead_at m c N t (seqOf t) rfl 2 k0_pay3 (empty_carried m c t hc _) _ _ _ _ rfl rfl _ _ _ _ rfl rfl _ _ _ rfl r l
      ⟨(y 1 : ℕ), (y 1).isLt⟩ g1)).trans (gatedBlock_at m c t y 2 r l _ g0 g1 g1)
  case piece2 =>
    have g0 : (y 0 : ℕ) = r := h0
    have g1 : (y 1 : ℕ) = 512 * ((1 : Fin 4) : ℕ) + l := h1
    refine ((congrFun (head_1 _ _ _ _ _ _ _ _ _ _ _ _) _).trans (gatedHead_at m c N t (seqOf t) rfl 1 k0_pay3 (empty_carried m c t hc _) _ _ _ _ rfl rfl _ _ _ _ rfl rfl _ _ _ rfl r l
      ⟨(y 1 : ℕ), (y 1).isLt⟩ g1)).trans (gatedBlock_at m c t y 1 r l _ g0 g1 g1)
  case piece3 =>
    have g0 : (y 0 : ℕ) = r := h0
    have g1 : (y 1 : ℕ) = 512 * ((0 : Fin 4) : ℕ) + l := h1.trans (Nat.zero_add _).symm
    refine ((congrFun (head_0 _ _ _ _ _ _ _ _ _ _ _ _) _).trans (gatedHead_at m c N t (seqOf t) rfl 0 k0_pay3 (empty_carried m c t hc _) _ _ _ _ rfl rfl _ _ _ _ rfl rfl _ _ _ rfl r l
      ⟨(y 1 : ℕ), (y 1).isLt⟩ g1)).trans (gatedBlock_at m c t y 0 r l _ g0 g1 g1)

/-- The state that a grid point leaves is that after its last token. -/
theorem state_A (c : Dev nD) (N : Finite m c) (t : Fin cfg0.N) (hc : t.val % 8 = 0) :
    (outsAt0 m c t.val t.isLt).2 = stateAfter m c (seqOf t) (256 * (t.val % 8) + 256) := by
  rw [outsAt0_A m c t hc]
  dsimp only
  unfold sout0_A_2
  frame_open
  simp (disch := decide) only [↓ View.readCov_skip, ↓ View.readCov_cons_toLoadRect, ↓ View.readCov_fill]
  frame_out
  refine funext fun y => ?_
  refine (canon_covered _ _ _ _ _ _ (View.cover_of_tiled_head _ _ _ rfl _)).trans ?_
  canon_tiles x h
  all_goals
    try obtain ⟨z, d, e, rfl⟩ : ∃ (z : Fin 1) (d : Fin 256) (e : Fin 512), x = ix3 z d e := ⟨x 0, x 1, x 2, by funext a; match a with | 0 => rfl | 1 => rfl | 2 => rfl⟩
    try obtain rfl : z = 0 := Subsingleton.elim _ _
  case piece0 =>
    refine ((state_3 _ _ _ _ d e).trans (newState_at m c N t (seqOf t) rfl 3 k0_pay3 (empty_carried m c t hc _) _ _ rfl _ _ rfl _ _ _ rfl d e)).trans ?_
    exact stateAfter_at m c (seqOf t) _ y 3 d e h0 h1 h2
  case piece1 =>
    refine (((state_2 _ _ _ _ d e).trans (congrArg (· * _ + _) (carried_2 _ d e))).trans (newState_at m c N t (seqOf t) rfl 2 k0_pay3 (empty_carried m c t hc _) _ _ rfl _ _ rfl _ _ _ rfl d e)).trans ?_
    exact stateAfter_at m c (seqOf t) _ y 2 d e h0 h1 h2
  case piece2 =>
    refine ((state_1 _ _ _ _ _ d e).trans (newState_at m c N t (seqOf t) rfl 1 k0_pay3 (empty_carried m c t hc _) _ _ rfl _ _ rfl _ _ _ rfl d e)).trans ?_
    exact stateAfter_at m c (seqOf t) _ y 1 d e h0 h1 h2
  case piece3 =>
    refine (((state_0 _ _ _ _ d e).trans (congrArg (· * _ + _) (carried_0 _ d e))).trans (newState_at m c N t (seqOf t) rfl 0 k0_pay3 (empty_carried m c t hc _) _ _ rfl _ _ rfl _ _ _ rfl d e)).trans ?_
    exact stateAfter_at m c (seqOf t) _ y 0 d e h0 h1 h2

end Cert.Ret

end
-- ==== Proof.Ret.ResultB.lean ====
/- What a sequence's later grid points store and leave. -/
module

public import proofs.«01_k».proof.Proof.Ret.Blocks
public import proofs.«01_k».proof.Proof.Ret.Decays
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

variable (m : (ℓ : Loc nD τ sig) → Buf (Elt Ideal) ℓ)

/-- What a grid point stores: the gated retention times the output weights, added to the block of tokens. -/
theorem out_B (c : Dev nD) (N : Finite m c) (t : Fin cfg0.N) (hc : ¬ t.val % 8 = 0)
    (hp : (outsAt0 m c (t.val - 1) (lt_of_le_of_lt (Nat.sub_le _ _) t.isLt)).2 = stateAfter m c (seqOf t) (256 * (t.val % 8))) :
    (outsAt0 m c t.val t.isLt).1 = k0_pay2 (gatedBlock m c t) (iblk m c 10 t) (iblk m c 0 t) := by
  rw [outsAt0_B m c t hc]
  dsimp only
  unfold out0_B_11
  frame_open
  simp (disch := decide) only [↓ View.readCov_skip, ↓ View.readCov_cons_toLoadRect, ↓ View.readCov_fill]
  frame_out
  simp only [read_unread_whole]
  refine congrArg (fun a => k0_pay2 a (iblk m c 10 t) (iblk m c 0 t)) (funext fun y => ?_)
  rw [View.readCov_eq_canon']
  have e0 : ((Rect.unit (s := S256x2048) ![0, 0] ![256, 2048] inb_S256x2048_S256x2048_0_0).idx y 0 : ℕ) = y 0 := by
    rw [Rect.idx_unit_val]; simp
  have e1 : ((Rect.unit (s := S256x2048) ![0, 0] ![256, 2048] inb_S256x2048_S256x2048_0_0).idx y 1 : ℕ) = y 1 := by
    rw [Rect.idx_unit_val]; simp
  canon_tiles x h
  all_goals
    rw [e0] at h0
    rw [e1] at h1
    obtain ⟨r, l, rfl⟩ : ∃ r l, x = ix2 r l := ⟨x 0, x 1, by funext a; match a with | 0 => rfl | 1 => rfl⟩
  case piece0 =>
    have g0 : (y 0 : ℕ) = r := h0
    have g1 : (y 1 : ℕ) = 512 * ((3 : Fin 4) : ℕ) + l := h1
    refine ((congrFun (head_3 _ _ _ _ _ _ _ _ _ _ _ _) _).trans (gatedHead_at m c N t (seqOf t) rfl 3 _ (fun d e => congrFun hp (ix3 _ d e)) _ _ _ _ rfl rfl _ _ _ _ rfl rfl _ _ _ rfl r l
      ⟨(y 1 : ℕ), (y 1).isLt⟩ g1)).trans (gatedBlock_at m c t y 3 r l _ g0 g1 g1)
  case piece1 =>
    have g0 : (y 0 : ℕ) = r := h0
    have g1 : (y 1 : ℕ) = 512 * ((2 : Fin 4) : ℕ) + l := h1
    refine ((congrFun (head_2 _ _ _ _ _ _ _ _ _ _ _ _) _).trans (gatedHead_at m c N t (seqOf t) rfl 2 _ (fun d e => congrFun hp (ix3 _ d e)) _ _ _ _ rfl rfl _ _ _ _ rfl rfl _ _ _ rfl r l
      ⟨(y 1 : ℕ), (y 1).isLt⟩ g1)).trans (gatedBlock_at m c t y 2 r l _ g0 g1 g1)
  case piece2 =>
    have g0 : (y 0 : ℕ) = r := h0
    have g1 : (y 1 : ℕ) = 512 * ((1 : Fin 4) : ℕ) + l := h1
    refine ((congrFun (head_1 _ _ _ _ _ _ _ _ _ _ _ _) _).trans (gatedHead_at m c N t (seqOf t) rfl 1 _ (fun d e => congrFun hp (ix3 _ d e)) _ _ _ _ rfl rfl _ _ _ _ rfl rfl _ _ _ rfl r l
      ⟨(y 1 : ℕ), (y 1).isLt⟩ g1)).trans (gatedBlock_at m c t y 1 r l _ g0 g1 g1)
  case piece3 =>
    have g0 : (y 0 : ℕ) = r := h0
    have g1 : (y 1 : ℕ) = 512 * ((0 : Fin 4) : ℕ) + l := h1.trans (Nat.zero_add _).symm
    refine ((congrFun (head_0 _ _ _ _ _ _ _ _ _ _ _ _) _).trans (gatedHead_at m c N t (seqOf t) rfl 0 _ (fun d e => congrFun hp (ix3 _ d e)) _ _ _ _ rfl rfl _ _ _ _ rfl rfl _ _ _ rfl r l
      ⟨(y 1 : ℕ), (y 1).isLt⟩ g1)).trans (gatedBlock_at m c t y 0 r l _ g0 g1 g1)

/-- The state that a grid point leaves is that after its last token. -/
theorem state_B (c : Dev nD) (N : Finite m c) (t : Fin cfg0.N) (hc : ¬ t.val % 8 = 0)
    (hp : (outsAt0 m c (t.val - 1) (lt_of_le_of_lt (Nat.sub_le _ _) t.isLt)).2 = stateAfter m c (seqOf t) (256 * (t.val % 8))) :
    (outsAt0 m c t.val t.isLt).2 = stateAfter m c (seqOf t) (256 * (t.val % 8) + 256) := by
  rw [outsAt0_B m c t hc]
  dsimp only
  unfold sout0_B_2
  frame_open
  simp (disch := decide) only [↓ View.readCov_skip, ↓ View.readCov_cons_toLoadRect, ↓ View.readCov_fill]
  frame_out
  simp only [read_unread_whole]
  refine funext fun y => ?_
  canon_tiles x h
  all_goals
    try obtain ⟨z, d, e, rfl⟩ : ∃ (z : Fin 1) (d : Fin 256) (e : Fin 512), x = ix3 z d e := ⟨x 0, x 1, x 2, by funext a; match a with | 0 => rfl | 1 => rfl | 2 => rfl⟩
    try obtain rfl : z = 0 := Subsingleton.elim _ _
  case piece0 =>
    refine ((state_3 _ _ _ _ d e).trans (newState_at m c N t (seqOf t) rfl 3 _ (fun d e => congrFun hp (ix3 _ d e)) _ _ rfl _ _ rfl _ _ _ rfl d e)).trans ?_
    exact stateAfter_at m c (seqOf t) _ y 3 d e h0 h1 h2
  case piece1 =>
    refine (((state_2 _ _ _ _ d e).trans (congrArg (· * _ + _) (carried_2 _ d e))).trans (newState_at m c N t (seqOf t) rfl 2 _ (fun d e => congrFun hp (ix3 _ d e)) _ _ rfl _ _ rfl _ _ _ rfl d e)).trans ?_
    exact stateAfter_at m c (seqOf t) _ y 2 d e h0 h1 h2
  case piece2 =>
    refine ((state_1 _ _ _ _ _ d e).trans (newState_at m c N t (seqOf t) rfl 1 _ (fun d e => congrFun hp (ix3 _ d e)) _ _ rfl _ _ rfl _ _ _ rfl d e)).trans ?_
    exact stateAfter_at m c (seqOf t) _ y 1 d e h0 h1 h2
  case piece3 =>
    refine (((state_0 _ _ _ _ d e).trans (congrArg (· * _ + _) (carried_0 _ d e))).trans (newState_at m c N t (seqOf t) rfl 0 _ (fun d e => congrFun hp (ix3 _ d e)) _ _ rfl _ _ rfl _ _ _ rfl d e)).trans ?_
    exact stateAfter_at m c (seqOf t) _ y 0 d e h0 h1 h2

end Cert.Ret

end
-- ==== Proof.Ret.State.lean ====
/- The state along a sequence, and what every grid point stores. -/
module

public import proofs.«01_k».proof.Proof.Ret.ResultA
public import proofs.«01_k».proof.Proof.Ret.ResultB
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

variable (m : (ℓ : Loc nD τ sig) → Buf (Elt Ideal) ℓ)

/-- Every grid point leaves the state after its last token: the first of a sequence from the empty state, a later one from its predecessor's. -/
theorem state_eq (c : Dev nD) (N : Finite m c) (n : ℕ) : ∀ (hn : n < cfg0.N),
    (outsAt0 m c n hn).2 = stateAfter m c (seqOf ⟨n, hn⟩) (256 * (n % 8) + 256) := by
  induction n using Nat.strong_induction_on with
  | _ n ih =>
    intro hn
    by_cases hc : n % 8 = 0
    · exact state_A m c N ⟨n, hn⟩ hc
    · refine state_B m c N ⟨n, hn⟩ hc ?_
      refine (ih (n - 1) (by omega) _).trans ?_
      have e : seqOf ⟨n - 1, lt_of_le_of_lt (Nat.sub_le _ _) hn⟩ = seqOf ⟨n, hn⟩ := Fin.ext (show (n - 1) / 8 = n / 8 by omega)
      have e' : 256 * ((n - 1) % 8) + 256 = 256 * (n % 8) := by omega
      rw [e, e']

/-- What a grid point stores. -/
theorem stored (c : Dev nD) (N : Finite m c) (t : Fin cfg0.N) :
    (outsAt0 m c t.val t.isLt).1 = k0_pay2 (gatedBlock m c t) (iblk m c 10 t) (iblk m c 0 t) := by
  by_cases hc : t.val % 8 = 0
  · exact out_A m c N t hc
  · refine out_B m c N t hc ?_
    refine (state_eq m c N (t.val - 1) _).trans ?_
    have e : seqOf ⟨t.val - 1, lt_of_le_of_lt (Nat.sub_le _ _) t.isLt⟩ = seqOf t := Fin.ext (show (t.val - 1) / 8 = t.val / 8 by omega)
    have e' : 256 * ((t.val - 1) % 8) + 256 = 256 * (t.val % 8) := by omega
    rw [e, e']

end Cert.Ret

end
-- ==== Proof.Ret.RefProj.lean ====
/- The reference's projections at an entry. -/
module

public import proofs.«01_k».proof.Proof.Gen.RetReferenceIdeal
public import proofs.«01_k».proof.Proof.Ret.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetReferenceIdeal Cert.RetReferenceIdeal.Gen
open Cert.Common

/-- The tokens, normalised and weighted. -/
def refNormed (X : FVec Ideal S32x2048x1024 .f32) (G : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))

/-- The queries, keys, values and gates of every token, side by side. -/
def refProj (N : FVec Ideal S32x2048x1024 .f32) (W : FVec Ideal S1024x6144 .f32) : FVec Ideal S32x2048x6144 .f32 :=
  Host.dotGeneral dot_S32x2048x1024_S1024x6144_S32x2048x6144_2_0_01_1_n_n none N W

/-- The queries of every head. -/
def refQ (P : FVec Ideal S32x2048x6144 .f32) : FVec Ideal S32x2048x4x256 .f32 :=
  shapeCast S32x2048x4x256 (extractStridedSlice S32x2048x1024 ![0, 0, 0] P slices_S32x2048x6144_S32x2048x1024_0_0_0) shapeCasts_S32x2048x1024_S32x2048x4x256

/-- The keys of every head. -/
def refK (P : FVec Ideal S32x2048x6144 .f32) : FVec Ideal S32x2048x4x256 .f32 :=
  shapeCast S32x2048x4x256 (extractStridedSlice S32x2048x1024 ![0, 0, 1024] P slices_S32x2048x6144_S32x2048x1024_0_0_1024) shapeCasts_S32x2048x1024_S32x2048x4x256

/-- The values of every head. -/
def refV (P : FVec Ideal S32x2048x6144 .f32) : FVec Ideal S32x2048x4x512 .f32 :=
  shapeCast S32x2048x4x512 (extractStridedSlice S32x2048x2048 ![0, 0, 2048] P slices_S32x2048x6144_S32x2048x2048_0_0_2048) shapeCasts_S32x2048x2048_S32x2048x4x512

/-- The gates. -/
def refGate (P : FVec Ideal S32x2048x6144 .f32) : FVec Ideal S32x2048x2048 .f32 :=
  mulf (extractStridedSlice S32x2048x2048 ![0, 0, 4096] P slices_S32x2048x6144_S32x2048x2048_0_0_4096) (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf (extractStridedSlice S32x2048x2048 ![0, 0, 4096] P slices_S32x2048x6144_S32x2048x2048_0_0_4096)))))

/-- The normalised tokens at a token and a column. -/
theorem refNormed_at (X : FVec Ideal S32x2048x1024 .f32) (G : FVec Ideal S1024 .f32) (b : Fin 32) (s : Fin 2048) (k : Fin 1024) :
    refNormed X G (ix3 b s k) = X (ix3 b s k) * Ffn.rms (fun k => X (ix3 b s k)) * G (ix1 k) := by
  pointwise [refNormed, Ffn.rms]

/-- The projections at a token and a column. -/
theorem refProj_at (N : FVec Ideal S32x2048x1024 .f32) (W : FVec Ideal S1024x6144 .f32) (b : Fin 32) (s : Fin 2048) (l : Fin 6144) :
    refProj N W (ix3 b s l) = ∑ k : Fin 1024, N (ix3 b s k) * W (ix2 k l) := by
  pointwise [refProj]

/-- The queries at a head's entry. -/
theorem refQ_at (P : FVec Ideal S32x2048x6144 .f32) (b : Fin 32) (s : Fin 2048) (h : Fin 4) (d : Fin 256) (l : Fin 6144) (hl : (l : ℕ) = 256 * h + d) :
    refQ P (ix4 b s h d) = P (ix3 b s l) := by
  pointwise [refQ]
  exact congrArg (fun l => P (ix3 b s l)) (Fin.ext (by dsimp only; omega))

/-- The keys at a head's entry. -/
theorem refK_at (P : FVec Ideal S32x2048x6144 .f32) (b : Fin 32) (s : Fin 2048) (h : Fin 4) (d : Fin 256) (l : Fin 6144) (hl : (l : ℕ) = 1024 + 256 * h + d) :
    refK P (ix4 b s h d) = P (ix3 b s l) := by
  pointwise [refK]
  exact congrArg (fun l => P (ix3 b s l)) (Fin.ext (by dsimp only; omega))

/-- The values at a head's entry. -/
theorem refV_at (P : FVec Ideal S32x2048x6144 .f32) (b : Fin 32) (s : Fin 2048) (h : Fin 4) (e : Fin 512) (l : Fin 6144) (hl : (l : ℕ) = 2048 + 512 * h + e) :
    refV P (ix4 b s h e) = P (ix3 b s l) := by
  pointwise [refV]
  exact congrArg (fun l => P (ix3 b s l)) (Fin.ext (by dsimp only; omega))

/-- The gates at a column. -/
theorem refGate_at (P : FVec Ideal S32x2048x6144 .f32) (b : Fin 32) (s : Fin 2048) (f : Fin 2048) (l : Fin 6144) (hl : (l : ℕ) = 4096 + f) :
    refGate P (ix3 b s f) = P (ix3 b s l) * Ideal.logistic (P (ix3 b s l)) := by
  have e : (⟨4096 + f, by omega⟩ : Fin 6144) = l := Fin.ext hl.symm
  pointwise [refGate, Ideal.logistic, e]

end Cert.Ret

end
-- ==== Proof.Ret.RefRot.lean ====
/- The reference's rotation of the queries and keys at an entry. -/
module

public import proofs.«01_k».proof.Proof.Gen.RetReferenceIdeal
public import proofs.«01_k».proof.Proof.Ret.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetReferenceIdeal Cert.RetReferenceIdeal.Gen
open Cert.Common

/-- The angle of every position and frequency. -/
def refAngles : FVec Ideal S2048x128 .f32 :=
  mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.divf (broadcastInDim S128 ![] bcast_S_S128 (constant S_ .f32 0x3F800000#32)) (Host.powf (broadcastInDim S128 ![] bcast_S_S128 (constant S_ .f32 0x461C4000#32)) (concatenate S128 0 [⟨S127, (addf (mulf (broadcastInDim S127 ![0] bcast_S1_S127_0 (shapeCast S1 (constant S_ .f32 0x00000000#32) shapeCasts_S_S1)) (subf (broadcastInDim S127 ![] bcast_S_S127 (constant S_ .f32 0x3F800000#32)) (Host.divf (sitofp .f32 (iotaInDim S127 32 0)) (broadcastInDim S127 ![] bcast_S_S127 (constant S_ .f32 0x42FE0000#32))))) (mulf (broadcastInDim S127 ![0] bcast_S1_S127_0 (shapeCast S1 (constant S_ .f32 0x3F800000#32) shapeCasts_S_S1)) (Host.divf (sitofp .f32 (iotaInDim S127 32 0)) (broadcastInDim S127 ![] bcast_S_S127 (constant S_ .f32 0x42FE0000#32)))))⟩, ⟨S1, (broadcastInDim S1 ![] bcast_S_S1 (constant S_ .f32 0x3F800000#32))⟩] concatenates_S127_S1_S128_d0)))))

/-- The cosines of the angles. -/
def refCos (A : FVec Ideal S2048x128 .f32) : FVec Ideal S1x2048x1x128 .f32 :=
  broadcastInDim S1x2048x1x128 ![1, 3] bcast_S2048x128_S1x2048x1x128_1_3 (Host.cos A)

/-- The sines of the angles. -/
def refSin (A : FVec Ideal S2048x128 .f32) : FVec Ideal S1x2048x1x128 .f32 :=
  broadcastInDim S1x2048x1x128 ![1, 3] bcast_S2048x128_S1x2048x1x128_1_3 (Host.sin A)

/-- Pairs of neighbouring entries rotated. -/
def refRotated (Q : FVec Ideal S32x2048x4x256 .f32) (co : FVec Ideal S1x2048x1x128 .f32) (si : FVec Ideal S1x2048x1x128 .f32) : FVec Ideal S32x2048x4x256 .f32 :=
  shapeCast S32x2048x4x256 (concatenate S32x2048x4x128x2 4 [⟨S32x2048x4x128x1, (broadcastInDim S32x2048x4x128x1 ![0, 1, 2, 3] bcast_S32x2048x4x128_S32x2048x4x128x1_0_1_2_3 (subf (mulf (shapeCast S32x2048x4x128 (extractStridedSlice S32x2048x4x128x1 ![0, 0, 0, 0, 0] (shapeCast S32x2048x4x128x2 Q shapeCasts_S32x2048x4x256_S32x2048x4x128x2) slices_S32x2048x4x128x2_S32x2048x4x128x1_0_0_0_0_0) shapeCasts_S32x2048x4x128x1_S32x2048x4x128) (broadcastInDim S32x2048x4x128 ![0, 1, 2, 3] bcast_S1x2048x1x128_S32x2048x4x128_0_1_2_3 co)) (mulf (shapeCast S32x2048x4x128 (extractStridedSlice S32x2048x4x128x1 ![0, 0, 0, 0, 1] (shapeCast S32x2048x4x128x2 Q shapeCasts_S32x2048x4x256_S32x2048x4x128x2) slices_S32x2048x4x128x2_S32x2048x4x128x1_0_0_0_0_1) shapeCasts_S32x2048x4x128x1_S32x2048x4x128) (broadcastInDim S32x2048x4x128 ![0, 1, 2, 3] bcast_S1x2048x1x128_S32x2048x4x128_0_1_2_3 si))))⟩, ⟨S32x2048x4x128x1, (broadcastInDim S32x2048x4x128x1 ![0, 1, 2, 3] bcast_S32x2048x4x128_S32x2048x4x128x1_0_1_2_3 (addf (mulf (shapeCast S32x2048x4x128 (extractStridedSlice S32x2048x4x128x1 ![0, 0, 0, 0, 1] (shapeCast S32x2048x4x128x2 Q shapeCasts_S32x2048x4x256_S32x2048x4x128x2) slices_S32x2048x4x128x2_S32x2048x4x128x1_0_0_0_0_1) shapeCasts_S32x2048x4x128x1_S32x2048x4x128) (broadcastInDim S32x2048x4x128 ![0, 1, 2, 3] bcast_S1x2048x1x128_S32x2048x4x128_0_1_2_3 co)) (mulf (shapeCast S32x2048x4x128 (extractStridedSlice S32x2048x4x128x1 ![0, 0, 0, 0, 0] (shapeCast S32x2048x4x128x2 Q shapeCasts_S32x2048x4x256_S32x2048x4x128x2) slices_S32x2048x4x128x2_S32x2048x4x128x1_0_0_0_0_0) shapeCasts_S32x2048x4x128x1_S32x2048x4x128) (broadcastInDim S32x2048x4x128 ![0, 1, 2, 3] bcast_S1x2048x1x128_S32x2048x4x128_0_1_2_3 si))))⟩] concatenates_S32x2048x4x128x1_S32x2048x4x128x1_S32x2048x4x128x2_d4) shapeCasts_S32x2048x4x128x2_S32x2048x4x256

/-- The rotated keys, scaled. -/
def refKeys (R : FVec Ideal S32x2048x4x256 .f32) : FVec Ideal S32x2048x4x256 .f32 :=
  mulf R (broadcastInDim S32x2048x4x256 ![] bcast_S_S32x2048x4x256 (constant S_ .f32 0x3D800000#32))

/-- The angle of a position and a frequency. -/
theorem refAngles_at (s : Fin 2048) (i : Fin 128) : refAngles (ix2 s i) = angle s i := by
  pointwise [refAngles, angle, grid]
  split <;> rfl

/-- The cosine of an angle. -/
theorem refCos_at (A : FVec Ideal S2048x128 .f32) (s : Fin 2048) (i : Fin 128) : refCos A (ix4 0 s 0 i) = Ideal.cos (A (ix2 s i)) := by
  pointwise [refCos]

/-- The sine of an angle. -/
theorem refSin_at (A : FVec Ideal S2048x128 .f32) (s : Fin 2048) (i : Fin 128) : refSin A (ix4 0 s 0 i) = Ideal.sin (A (ix2 s i)) := by
  pointwise [refSin]

/-- The first entry of a rotated pair. -/
theorem refRotated_even (Q : FVec Ideal S32x2048x4x256 .f32) (co si : FVec Ideal S1x2048x1x128 .f32) (b : Fin 32) (s : Fin 2048) (h : Fin 4) (i : Fin 128) :
    refRotated Q co si (ix4 b s h ⟨2 * i, by omega⟩)
      = Q (ix4 b s h ⟨2 * i, by omega⟩) * co (ix4 0 s 0 i) - Q (ix4 b s h ⟨2 * i + 1, by omega⟩) * si (ix4 0 s 0 i) := by
  pointwise [refRotated]
  rw [dif_pos (by omega)]
  simp only [Nat.mul_comm i.val 2]

/-- The second entry of a rotated pair. -/
theorem refRotated_odd (Q : FVec Ideal S32x2048x4x256 .f32) (co si : FVec Ideal S1x2048x1x128 .f32) (b : Fin 32) (s : Fin 2048) (h : Fin 4) (i : Fin 128) :
    refRotated Q co si (ix4 b s h ⟨2 * i + 1, by omega⟩)
      = Q (ix4 b s h ⟨2 * i + 1, by omega⟩) * co (ix4 0 s 0 i) + Q (ix4 b s h ⟨2 * i, by omega⟩) * si (ix4 0 s 0 i) := by
  pointwise [refRotated]
  rw [dif_neg (by omega)]
  simp only [Nat.mul_comm i.val 2]

/-- A scaled key's entry. -/
theorem refKeys_at (R : FVec Ideal S32x2048x4x256 .f32) (b : Fin 32) (s : Fin 2048) (h : Fin 4) (d : Fin 256) :
    refKeys R (ix4 b s h d) = R (ix4 b s h d) * Ideal.ofBits .f32 0x3D800000#32 := by
  pointwise [refKeys]

end Cert.Ret

end
-- ==== Proof.Ret.RefMix.lean ====
/- The reference's masked products, and its values weighted by them, at an entry. -/
module

public import proofs.«01_k».proof.Proof.Gen.RetReferenceIdeal
public import proofs.«01_k».proof.Proof.Ret.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetReferenceIdeal Cert.RetReferenceIdeal.Gen
open Cert.Common

/-- The decay between two positions, and zero for a later one. -/
def refMask : FVec Ideal S4x2048x2048 .f32 :=
  select (broadcastInDim S4x2048x2048 ![0, 1, 2] bcast_S1x2048x2048_S4x2048x2048_0_1_2 (cmpf (F := Ideal) (φ := .f32) .oge (broadcastInDim S1x2048x2048 ![1, 2] bcast_S2048x2048_S1x2048x2048_1_2 (subf (broadcastInDim S2048x2048 ![0, 1] bcast_S2048x1_S2048x2048_0_1 (broadcastInDim S2048x1 ![0] bcast_S2048_S2048x1_0 (sitofp (F := Ideal) .f32 (iotaInDim S2048 32 0)))) (broadcastInDim S2048x2048 ![0, 1] bcast_S1x2048_S2048x2048_0_1 (broadcastInDim S1x2048 ![1] bcast_S2048_S1x2048_1 (sitofp (F := Ideal) .f32 (iotaInDim S2048 32 0)))))) (broadcastInDim S1x2048x2048 ![] bcast_S_S1x2048x2048 (constant S_ .f32 0x00000000#32)))) (Host.exp (mulf (broadcastInDim S4x2048x2048 ![0, 1, 2] bcast_S1x2048x2048_S4x2048x2048_0_1_2 (broadcastInDim S1x2048x2048 ![1, 2] bcast_S2048x2048_S1x2048x2048_1_2 (maximumf (subf (broadcastInDim S2048x2048 ![0, 1] bcast_S2048x1_S2048x2048_0_1 (broadcastInDim S2048x1 ![0] bcast_S2048_S2048x1_0 (sitofp (F := Ideal) .f32 (iotaInDim S2048 32 0)))) (broadcastInDim S2048x2048 ![0, 1] bcast_S1x2048_S2048x2048_0_1 (broadcastInDim S1x2048 ![1] bcast_S2048_S1x2048_1 (sitofp (F := Ideal) .f32 (iotaInDim S2048 32 0))))) (broadcastInDim S2048x2048 ![] bcast_S_S2048x2048 (constant S_ .f32 0x00000000#32))))) (broadcastInDim S4x2048x2048 ![0, 1, 2] bcast_S4x1x1_S4x2048x2048_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp (F := Ideal) .f32 (iotaInDim S4 32 0)))))))))) (broadcastInDim S4x2048x2048 ![] bcast_S_S4x2048x2048 (constant S_ .f32 0x00000000#32))

/-- The products of queries and keys under the mask. -/
def refMasked (Q : FVec Ideal S32x2048x4x256 .f32) (K : FVec Ideal S32x2048x4x256 .f32) (M : FVec Ideal S4x2048x2048 .f32) : FVec Ideal S32x4x2048x2048 .f32 :=
  mulf (Host.dotGeneral dot_S32x2048x4x256_S32x2048x4x256_S32x4x2048x2048_3_3_1_1_02_02 none Q K) (broadcastInDim S32x4x2048x2048 ![0, 1, 2, 3] bcast_S1x4x2048x2048_S32x4x2048x2048_0_1_2_3 (broadcastInDim S1x4x2048x2048 ![1, 2, 3] bcast_S4x2048x2048_S1x4x2048x2048_1_2_3 M))

/-- The values weighted. -/
def refMixed (V : FVec Ideal S32x2048x4x512 .f32) (P : FVec Ideal S32x4x2048x2048 .f32) : FVec Ideal S32x2048x4x512 .f32 :=
  transpose S32x2048x4x512 [0, 3, 1, 2] (Host.dotGeneral dot_S32x2048x4x512_S32x4x2048x2048_S32x4x512x2048_1_3_3_2_02_01 none V P) transposes_S32x4x512x2048_S32x2048x4x512_0_3_1_2

/-- The mask at two positions. -/
theorem refMask_at (h : Fin 4) (i j : Fin 2048) : refMask (ix3 h i j) = maskEntry h i j := by
  pointwise [refMask, maskEntry, logDecay]

/-- The masked product of a query and a key. -/
theorem refMasked_at (Q K : FVec Ideal S32x2048x4x256 .f32) (M : FVec Ideal S4x2048x2048 .f32) (b : Fin 32) (h : Fin 4) (i j : Fin 2048) :
    refMasked Q K M (ix4 b h i j) = (∑ d : Fin 256, Q (ix4 b i h d) * K (ix4 b j h d)) * M (ix3 h i j) := by
  pointwise [refMasked]

/-- A head's weighted values. -/
theorem refMixed_at (V : FVec Ideal S32x2048x4x512 .f32) (P : FVec Ideal S32x4x2048x2048 .f32) (b : Fin 32) (s : Fin 2048) (h : Fin 4) (e : Fin 512) :
    refMixed V P (ix4 b s h e) = ∑ j : Fin 2048, V (ix4 b j h e) * P (ix4 b h s j) := by
  pointwise [refMixed]

end Cert.Ret

end
-- ==== Proof.Ret.RefOut.lean ====
/- The reference's normalised heads and its result at an entry. -/
module

public import proofs.«01_k».proof.Proof.Gen.RetReferenceIdeal
public import proofs.«01_k».proof.Proof.Ret.Token
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetReferenceIdeal Cert.RetReferenceIdeal.Gen
open Cert.Common

/-- Every head normalised, the heads side by side. -/
def refGroup (O : FVec Ideal S32x2048x4x512 .f32) : FVec Ideal S32x2048x2048 .f32 :=
  shapeCast S32x2048x2048 (mulf O (broadcastInDim S32x2048x4x512 ![0, 1, 2, 3] bcast_S32x2048x4x1_S32x2048x4x512_0_1_2_3 (Host.rsqrt (addf (Host.divf (broadcastInDim S32x2048x4x1 ![0, 1, 2] bcast_S32x2048x4_S32x2048x4x1_0_1_2 (Host.reduceAdd (mulf O O) (constant S_ .f32 0x00000000#32) reducesTo_S32x2048x4x512_S32x2048x4_d3 h_S_)) (broadcastInDim S32x2048x4x1 ![] bcast_S_S32x2048x4x1 (constant S_ .f32 0x44000000#32))) (broadcastInDim S32x2048x4x1 ![] bcast_S_S32x2048x4x1 (constant S_ .f32 0x358637BD#32)))))) shapeCasts_S32x2048x4x512_S32x2048x2048

/-- The gated retention through the output weights, added to the tokens. -/
def refOut (X : FVec Ideal S32x2048x1024 .f32) (O : FVec Ideal S32x2048x2048 .f32) (g : FVec Ideal S32x2048x2048 .f32) (Wo : FVec Ideal S2048x1024 .f32) : FVec Ideal S32x2048x1024 .f32 :=
  addf X (Host.dotGeneral dot_S32x2048x2048_S2048x1024_S32x2048x1024_2_0_01_1_n_n none (mulf O g) Wo)

/-- A head's normalised entry. -/
theorem refGroup_at (O : FVec Ideal S32x2048x4x512 .f32) (b : Fin 32) (s : Fin 2048) (f : Fin 2048) (h : Fin 4) (e : Fin 512) (hh : (h : ℕ) = f / 512) (he : (e : ℕ) = f % 512) :
    refGroup O (ix3 b s f) = groupNorm (fun e => O (ix4 b s h e)) e := by
  obtain rfl : h = ⟨f / 512, Nat.div_lt_of_lt_mul f.isLt⟩ := Fin.ext hh
  obtain rfl : e = ⟨f % 512, Nat.mod_lt _ (by decide)⟩ := Fin.ext he
  pointwise [refGroup, groupNorm]

/-- The result at an entry. -/
theorem refOut_at (X : FVec Ideal S32x2048x1024 .f32) (O g : FVec Ideal S32x2048x2048 .f32) (Wo : FVec Ideal S2048x1024 .f32) (b : Fin 32) (s : Fin 2048) (d : Fin 1024) :
    refOut X O g Wo (ix3 b s d) = X (ix3 b s d) + ∑ f : Fin 2048, O (ix3 b s f) * g (ix3 b s f) * Wo (ix2 f d) := by
  pointwise [refOut]

end Cert.Ret

end
-- ==== Proof.Ret.Reference.lean ====
/- The reference's result at an entry. -/
module

public import proofs.«01_k».proof.Proof.Ret.RefProj
public import proofs.«01_k».proof.Proof.Ret.RefRot
public import proofs.«01_k».proof.Proof.Ret.RefMix
public import proofs.«01_k».proof.Proof.Ret.RefOut
public import proofs.«01_k».proof.Proof.Ret.Lanes
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetReferenceIdeal Cert.RetReferenceIdeal.Gen
open Cert.Common

/-- The projections of all the tokens. -/
abbrev refColumns (X : FVec Ideal S32x2048x1024 .f32) (G : FVec Ideal S1024 .f32) (W : FVec Ideal S1024x6144 .f32) : FVec Ideal S32x2048x6144 .f32 :=
  refProj (refNormed X G) W

/-- What every token retains, head by head. -/
abbrev refKept (P : FVec Ideal S32x2048x6144 .f32) : FVec Ideal S32x2048x4x512 .f32 :=
  refMixed (refV P) (refMasked (refRotated (refQ P) (refCos refAngles) (refSin refAngles)) (refKeys (refRotated (refK P) (refCos refAngles) (refSin refAngles))) refMask)

/-- The reference's own term over its arguments, by its sections. -/
def retRef (X : FVec Ideal S32x2048x1024 .f32) (G : FVec Ideal S1024 .f32) (W : FVec Ideal S1024x6144 .f32) (Wo : FVec Ideal S2048x1024 .f32) :
    FVec Ideal S32x2048x1024 .f32 :=
  refOut X (refGroup (refKept (refColumns X G W))) (refGate (refColumns X G W)) Wo

/-- A token's column of the projections. -/
theorem refColumns_at (X : FVec Ideal S32x2048x1024 .f32) (G : FVec Ideal S1024 .f32) (W : FVec Ideal S1024x6144 .f32) (b : Fin 32) (s : Fin 2048) (l : Fin 6144) :
    refColumns X G W (ix3 b s l) = column (fun s k => X (ix3 b s k)) (fun k => G (ix1 k)) (fun k l => W (ix2 k l)) s l := by
  have e : (⟨(s : ℕ) % 2048, by omega⟩ : Fin 2048) = s := Fin.ext (Nat.mod_eq_of_lt s.isLt)
  unfold refColumns column Ffn.proj
  rw [refProj_at, e]
  simp only [refNormed_at]

/-- A rotated entry, where it stands. -/
theorem refRotated_at (Q : FVec Ideal S32x2048x4x256 .f32) (b : Fin 32) (s : Fin 2048) (h : Fin 4) (l : Fin 256) :
    refRotated Q (refCos refAngles) (refSin refAngles) (ix4 b s h (lanes l))
      = turned (fun d => Q (ix4 b s h d)) (fun i => Ideal.cos (angle s i)) (fun i => Ideal.sin (angle s i)) l := by
  unfold turned
  by_cases hl : (l : ℕ) < 128
  · rw [if_pos hl]
    have e : lanes l = ⟨2 * ((⟨l % 128, by omega⟩ : Fin 128) : ℕ), by dsimp only; omega⟩ := Fin.ext (show 2 * ((l : ℕ) % 128) + l / 128 = 2 * ((l : ℕ) % 128) by omega)
    rw [e, refRotated_even, refCos_at, refSin_at, refAngles_at]
  · rw [if_neg hl]
    have e : lanes l = ⟨2 * ((⟨l % 128, by omega⟩ : Fin 128) : ℕ) + 1, by dsimp only; omega⟩ :=
      Fin.ext (show 2 * ((l : ℕ) % 128) + l / 128 = 2 * ((l : ℕ) % 128) + 1 by omega)
    rw [e, refRotated_odd, refCos_at, refSin_at, refAngles_at]

section
variable (X : FVec Ideal S32x2048x1024 .f32) (G : FVec Ideal S1024 .f32) (W : FVec Ideal S1024x6144 .f32)

/-- A query's entry. -/
theorem refQuery_at (b : Fin 32) (s : Fin 2048) (h : Fin 4) (l : Fin 256) :
    refRotated (refQ (refColumns X G W)) (refCos refAngles) (refSin refAngles) (ix4 b s h (lanes l))
      = query (fun s k => X (ix3 b s k)) (fun k => G (ix1 k)) (fun k l => W (ix2 k l)) h s l := by
  rw [refRotated_at]
  unfold query
  congr 1
  funext d
  rw [refQ_at _ b s h d ⟨256 * h + d, by omega⟩ rfl, refColumns_at]

/-- A key's entry. -/
theorem refKey_at (b : Fin 32) (s : Fin 2048) (h : Fin 4) (l : Fin 256) :
    refKeys (refRotated (refK (refColumns X G W)) (refCos refAngles) (refSin refAngles)) (ix4 b s h (lanes l))
      = key (fun s k => X (ix3 b s k)) (fun k => G (ix1 k)) (fun k l => W (ix2 k l)) h s l := by
  rw [refKeys_at, refRotated_at]
  unfold key
  congr 2
  funext d
  rw [refK_at _ b s h d ⟨1024 + 256 * h + d, by omega⟩ rfl, refColumns_at]

/-- What a token retains. -/
theorem refKept_at (hG : ∀ i, IsReal (G i)) (hW : ∀ i, IsReal (W i)) (b : Fin 32) (s : Fin 2048) (h : Fin 4) (e : Fin 512) :
    refKept (refColumns X G W) (ix4 b s h e) = kept (fun s k => X (ix3 b s k)) (fun k => G (ix1 k)) (fun k l => W (ix2 k l)) h s e := by
  unfold refKept
  rw [refMixed_at, ← kept_all (fun _ => hG _) (fun _ _ => hW _) h s e]
  refine Finset.sum_congr rfl fun j _ => ?_
  rw [refV_at _ b j h e ⟨2048 + 512 * h + e, by omega⟩ rfl, refColumns_at, refMasked_at, refMask_at,
    maskEntry_val h s j h.isLt (s.isLt.trans (by decide)) (j.isLt.trans (by decide)), ← Equiv.sum_comp lanes]
  simp only [refQuery_at, refKey_at]
  rfl

/-- One entry of the reference's result. -/
theorem retRef_at (hG : ∀ i, IsReal (G i)) (hW : ∀ i, IsReal (W i)) (Wo : FVec Ideal S2048x1024 .f32) (b : Fin 32) (s : Fin 2048) (d : Fin 1024) :
    retRef X G W Wo (ix3 b s d)
      = token (fun s k => X (ix3 b s k)) (fun k => G (ix1 k)) (fun k l => W (ix2 k l)) (fun f => Wo (ix2 f d)) s (X (ix3 b s d)) := by
  unfold retRef token
  rw [refOut_at]
  congr 1
  refine Finset.sum_congr rfl fun f _ => ?_
  rw [refGroup_at _ b s f ⟨f / 512, by omega⟩ ⟨f % 512, by omega⟩ rfl rfl, refGate_at _ b s f ⟨4096 + f, by omega⟩ rfl, refColumns_at]
  simp only [refKept_at X G W hG hW]
  rfl

end

end Cert.Ret

end
-- ==== Proof.Ret.Value.lean ====
/- The kernel's result is the reference's term over the call's arguments. -/
module

public import proofs.«01_k».proof.Proof.Ret.State
public import proofs.«01_k».proof.Proof.Ret.Reference
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret
open Cert.RetKernelIdeal Cert.RetKernelIdeal.Gen
open Cert.Common

variable (m : (ℓ : Loc nD τ sig) → Buf (Elt Ideal) ℓ)

/-- The reference over the call's arguments. -/
abbrev REF (c : Dev nD) : FVec Ideal S32x2048x1024 .f32 :=
  retRef (m ((c : Thread nD τ).loc main_arg0)) (m ((c : Thread nD τ).loc main_arg1)) (m ((c : Thread nD τ).loc main_arg2)) (m ((c : Thread nD τ).loc main_arg3))

/-- A row of a block's gated retention, and a column of it. -/
theorem gatedBlock_row (c : Dev nD) (t : Fin cfg0.N) (b : Fin 32) (s : ℕ) (r : Fin 256) (f : Fin 2048) (hb : seqOf t = b) (hs : 256 * (t.val % 8) + (r : ℕ) = s) :
    gatedBlock m c t (ix2 r f) = groupNorm (fun e => kept (tokens m c b) (gains m c) (weights m c) ⟨f / 512, by omega⟩ s e) ⟨f % 512, by omega⟩
      * gate (tokens m c b) (gains m c) (weights m c) s f := by
  subst hb
  subst hs
  rfl

/-- What grid point `t` writes at a row and a column is the token's result. -/
theorem written_at (c : Dev nD) (t : Fin cfg0.N) (b : Fin 32) (s : Fin 2048) (r : Fin 256) (d : Fin 1024) (hb : (b : ℕ) = t / 8)
    (hs : (s : ℕ) = 256 * (t % 8) + r) :
    k0_pay2 (gatedBlock m c t) (iblk m c 10 t) (iblk m c 0 t) (ix3 0 r d)
      = token (tokens m c b) (gains m c) (weights m c) (fun f => m ((c : Thread nD τ).loc main_arg3) (ix2 f d)) s
        (m ((c : Thread nD τ).loc main_arg0) (ix3 b s d)) := by
  rw [payload_at]
  unfold token
  congr 1
  · exact x_at m c t r d b s hb hs
  · refine Finset.sum_congr rfl fun f _ => ?_
    rw [wo_at, gatedBlock_row m c t b s r f (Fin.ext hb.symm) hs.symm]

/-- What grid point `t` writes at a row and a column is the reference at the token's sequence and position. -/
theorem point (c : Dev nD) (N : Finite m c) (t : Fin cfg0.N) (y : S1x256x1024.Idx) :
    k0_pay2 (gatedBlock m c t) (iblk m c 10 t) (iblk m c 0 t) y = REF m c (((cfg0.win 11).blk t).view.emb y) := by
  have ht : t.val < 256 := lt_of_lt_of_eq t.isLt N_0
  obtain ⟨z, r, d, rfl⟩ : ∃ (z : Fin 1) (r : Fin 256) (d : Fin 1024), y = ix3 z r d := ⟨y 0, y 1, y 2, eq_ix3 y⟩
  obtain rfl : z = 0 := Subsingleton.elim _ _
  have e : ((cfg0.win 11).blk t).view.emb (ix3 0 r d) = (ix3 ⟨t / 8, by omega⟩ ⟨256 * (t % 8) + r, by omega⟩ d : S32x2048x1024.Idx) := by
    funext a
    apply Fin.ext
    match a with
    | 0 => blk_simp [idx t] <;> dsimp only <;> omega
    | 1 => blk_simp [idx t] <;> dsimp only <;> omega
    | 2 => blk_simp [idx t] <;> dsimp only <;> omega
  rw [e, written_at m c t ⟨t / 8, by omega⟩ ⟨256 * (t % 8) + r, by omega⟩ r d rfl rfl]
  exact (retRef_at _ _ _ N.g N.w _ _ _ _).symm

/-- The result array after the run is the reference's term over the arguments. -/
theorem final (c : Dev nD) (N : Finite m c) : (dats m 0 c).arrAt 11 (cfgs 0).N = REF m c := by
  refine (dats m 0 c).arrAt_eq_of_covers 11 _ (by decide +kernel) fun t _ y => ?_
  blk_simp
  rw [after0_11, stored m c N]
  exact point m c N t y

end Cert.Ret

end
-- ==== Proof.Ret.RefRun.lean ====
/- The reference program's arrays are the reference's sections. -/
module

public import proofs.«01_k».proof.Proof.Ret.Reference
public import proofs.«01_k».proof.Proof.Gen.RetReferenceIdeal.Run

@[expose] public section

set_option maxRecDepth 16384

noncomputable section

open Idealize.ShloMosaic Idealize.ShloMosaic.TcCoe Idealize.SL.Sem

namespace Cert.Ret
open Cert.RetReferenceIdeal Cert.RetReferenceIdeal.Value

variable (V : Valuation τ sig (Elt Ideal))

/-- The arguments' projections. -/
abbrev runColumns : FVec Ideal S32x2048x6144 .f32 := refColumns (V (Proc.devRef .tc main_arg0)) (V (Proc.devRef .tc main_arg1)) (V (Proc.devRef .tc main_arg2))

theorem columns_eq : res_main_v13 V = runColumns V := rfl

theorem angles_eq : res_main_v29 V = refAngles := rfl

theorem angles_eq' : res_main_v64 V = refAngles := rfl

theorem cos_eq : res_main_v31 V = refCos refAngles := by
  unfold res_main_v31
  rw [angles_eq]
  rfl

theorem sin_eq : res_main_v33 V = refSin refAngles := by
  unfold res_main_v33
  rw [angles_eq]
  rfl

theorem cos_eq' : res_main_v66 V = refCos refAngles := by
  unfold res_main_v66
  rw [angles_eq']
  rfl

theorem sin_eq' : res_main_v68 V = refSin refAngles := by
  unfold res_main_v68
  rw [angles_eq']
  rfl

theorem kept_eq : res_main_v122 V = refKept (runColumns V) := by
  unfold res_main_v122 res_main_v104 res_main_v99 res_main_v73 res_main_v71 res_main_v69 res_main_v38 res_main_v36 res_main_v34
  rw [columns_eq, cos_eq, sin_eq, cos_eq', sin_eq']
  generalize runColumns V = P
  unfold refKept refMixed refMasked refMask refKeys refRotated refV refQ refK
  generalize refCos refAngles = C
  generalize refSin refAngles = S
  rfl

end Cert.Ret

end
-- ==== Proof.Ret.Claims.lean ====
/- The claims about the retention call: its result is the reference's over the reals, and the reference's own frame. -/
module

public import proofs.«01_k».proof.Defs
public import proofs.«01_k».proof.Proof.Ret.Value
public import proofs.«01_k».proof.Proof.Ret.RefRun
public import proofs.«01_k».proof.Proof.Common.AllFinite
public import proofs.«01_k».proof.Proof.Gen.Pre_retention_finite
public import proofs.«01_k».proof.Proof.Gen.RetReferenceIdeal.Run
public import proofs.«01_k».proof.Proof.Gen.RetKernelIdeal.Value
public import Idealize.ShloMosaic.Lib.Claim

@[expose] public section

set_option maxRecDepth 16384

noncomputable section

open Idealize.ShloMosaic Idealize.ShloMosaic.TcCoe Idealize.SL.Sem

namespace Cert.Ret
open Cert.Common

/-- What the precondition says of its arrays, element by element. -/
theorem finite_of_pre (x0 : FVec Ideal Cert.Pre_retention_finite.S32x2048x1024 .f32) (x1 : FVec Ideal Cert.Pre_retention_finite.S1024 .f32)
    (x2 : FVec Ideal Cert.Pre_retention_finite.S1024x6144 .f32) (x3 : FVec Ideal Cert.Pre_retention_finite.S2048x1024 .f32)
    (h : Cert.Pre_retention_finite.fn (F := Ideal) x0 x1 x2 x3 = fun _ => 1#1) :
    (∀ i, IsReal (x1 i)) ∧ (∀ i, IsReal (x2 i)) := by
  have e := congrFun h (Shape.Idx.first Cert.Pre_retention_finite.Facts.h_S_)
  unfold Cert.Pre_retention_finite.fn at e
  obtain ⟨e1, e2⟩ := (and_one _ _).1 e
  exact ⟨all_real _ _ _ _ _ _ rfl _ e1, all_real _ _ _ _ _ _ rfl _ e2⟩

theorem finite (m : (ℓ : Loc Cert.RetKernelIdeal.nD Cert.RetKernelIdeal.τ Cert.RetKernelIdeal.sig) → Buf (Elt Ideal) ℓ)
    (h : Cert.Pre_RetKernelIdeal_retention_finite m) (c : Dev Cert.RetKernelIdeal.nD) : Finite m c := by
  obtain ⟨h1, h2⟩ := finite_of_pre _ _ _ _ (h c)
  exact ⟨h1, h2⟩

/-- The kernel's result is the reference's, entry by entry, where the arguments are finite. -/
theorem algebraic : Cert.algebraic_RetKernelIdeal_RetReferenceIdeal_pre_retention_finite := by
  pair_intro
  · run_from Cert.RetKernelIdeal.Gen.run_main m g & Cert.RetKernelIdeal.Gen.unchanged m g
  · run_from Cert.RetReferenceIdeal.Value.run m' g'
    obtain ⟨h0, h1, h2, h3⟩ := hagree c
    have e : runColumns (StableHlo.launchContents m' c) = refColumns (m ((c.tc : Thread Cert.RetKernelIdeal.nD Cert.RetKernelIdeal.τ).loc Cert.RetKernelIdeal.main_arg0))
        (m ((c.tc : Thread Cert.RetKernelIdeal.nD Cert.RetKernelIdeal.τ).loc Cert.RetKernelIdeal.main_arg1))
        (m ((c.tc : Thread Cert.RetKernelIdeal.nD Cert.RetKernelIdeal.τ).loc Cert.RetKernelIdeal.main_arg2)) := by
      rw [← h0, ← h1, ← h2]
    unfold Cert.RetReferenceIdeal.Value.res_main_v17
    rw [kept_eq, columns_eq, e]
    refine Eq.trans ?_ (final m c (finite m hpre c)).symm
    unfold REF retRef refOut refGroup refGate
    rfl

/-- The reference runs, leaves its arguments as they were and every counter at zero. -/
theorem reference_frame : Cert.quiescent_RetReferenceIdeal := by
  intro m g _
  exact (θ_run Cert.RetReferenceIdeal.defs _ _).mono (fun r h => ⟨fun c => (h c).2, sem_eq_zero_of_no_sems (by decide) r.2⟩)
    (Cert.RetReferenceIdeal.Value.run m g)

end Cert.Ret

end
-- ==== Proof.Common.Preserves.lean ====
/- The named constants of the retention and the attention calls: at each site the idealization prints the constant's exact value. -/
module

public import proofs.«01_k».proof.Defs

@[expose] public section

set_option maxRecDepth 16384

noncomputable section

open Idealize.ShloMosaic

namespace Cert.Common

theorem retention_preserves : Cert.preserves_RetKernel_RetKernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem attention_preserves : Cert.preserves_AttKernel_AttKernelIdeal := IdealRules.named_const.statement _ _ _ _ _ rfl

end Cert.Common

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.RetKernelIdeal.Value
public import proofs.«01_k».proof.Proof.Gen.AttKernelIdeal.Value
public import proofs.«01_k».proof.Proof.Gen.KvKernelIdeal.Value
public import proofs.«01_k».proof.Proof.Gen.KvReferenceIdeal
public import proofs.«01_k».proof.Proof.Gen.KvKernelIdeal.Frame
public import proofs.«01_k».proof.Proof.Gen.KvKernel.Frame
public import proofs.«01_k».proof.Proof.Gen.KvReferenceIdeal.Run
public import proofs.«01_k».proof.Proof.Gen.AttReferenceIdeal.Run
public import proofs.«01_k».proof.Proof.Gen.ReferenceIdeal.Run
public import proofs.«01_k».proof.Proof.Ffn.Claims
public import proofs.«01_k».proof.Proof.Att.Claims
public import proofs.«01_k».proof.Proof.Kv.Claims
public import proofs.«01_k».proof.Proof.Ret.Claims
public import proofs.«01_k».proof.Proof.Common.Preserves
public import proofs.«01_k».proof.Proof.Gen.Pre_attention_finite
public import proofs.«01_k».proof.Proof.Gen.Pre_retention_finite
public import proofs.«01_k».proof.Proof.Gen.RetReferenceIdeal
public import proofs.«01_k».proof.Proof.Gen.RetReferenceIdeal.Run
public import proofs.«01_k».proof.Proof.Gen.ReferenceIdeal
public import proofs.«01_k».proof.Proof.Gen.RetKernel
public import proofs.«01_k».proof.Proof.Gen.RetKernel.Skeleton
public import proofs.«01_k».proof.Proof.Gen.RetKernel.Launch
public import proofs.«01_k».proof.Proof.Gen.RetKernel.Points
public import proofs.«01_k».proof.Proof.Gen.RetKernel.Frame
public import proofs.«01_k».proof.Proof.Gen.RetKernelIdeal
public import proofs.«01_k».proof.Proof.Gen.RetKernelIdeal.Skeleton
public import proofs.«01_k».proof.Proof.Gen.RetKernelIdeal.Launch
public import proofs.«01_k».proof.Proof.Gen.RetKernelIdeal.Points
public import proofs.«01_k».proof.Proof.Gen.RetKernelIdeal.Frame
public import proofs.«01_k».proof.Proof.Gen.AttKernel
public import proofs.«01_k».proof.Proof.Gen.AttKernel.Skeleton
public import proofs.«01_k».proof.Proof.Gen.AttKernel.Launch
public import proofs.«01_k».proof.Proof.Gen.AttKernel.Points
public import proofs.«01_k».proof.Proof.Gen.AttKernel.Frame
public import proofs.«01_k».proof.Proof.Gen.AttKernelIdeal
public import proofs.«01_k».proof.Proof.Gen.AttKernelIdeal.Skeleton
public import proofs.«01_k».proof.Proof.Gen.AttKernelIdeal.Launch
public import proofs.«01_k».proof.Proof.Gen.AttKernelIdeal.Points
public import proofs.«01_k».proof.Proof.Gen.AttKernelIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.RetKernel.Gen.facts, Cert.RetKernelIdeal.Gen.facts, Cert.RetReferenceIdeal.Gen.facts,
  Cert.AttKernel.Gen.facts, Cert.AttKernelIdeal.Gen.facts, Cert.AttReferenceIdeal.Gen.facts, Cert.KvKernel.Gen.facts, Cert.KvKernelIdeal.Gen.facts, Cert.KvReferenceIdeal.Gen.facts, Cert.Pre_retention_finite.Gen.facts, Cert.Pre_attention_finite.Gen.facts,
  fun m ρ _ => Cert.Kernel.Gen.frame m ρ, fun m ρ _ => Cert.KernelIdeal.Gen.frame m ρ, Cert.Ffn.reference_frame,
  fun m ρ _ => Cert.RetKernel.Gen.frame m ρ, fun m ρ _ => Cert.RetKernelIdeal.Gen.frame m ρ, fun m ρ _ => Cert.RetKernelIdeal.Gen.frame m ρ,
  Cert.Ret.reference_frame, fun m g _ => Cert.Ret.reference_frame m g trivial,
  fun m ρ _ => Cert.AttKernel.Gen.frame m ρ, fun m ρ _ => Cert.AttKernelIdeal.Gen.frame m ρ, fun m ρ _ => Cert.AttKernelIdeal.Gen.frame m ρ,
  Cert.Att.reference_frame, fun m g _ => Cert.Att.reference_frame m g trivial,
  fun m ρ _ => Cert.KvKernel.Gen.frame m ρ, fun m ρ _ => Cert.KvKernelIdeal.Gen.frame m ρ, Cert.Kv.reference_frame,
  trivial, Cert.Ffn.algebraic, Cert.Common.retention_preserves, Cert.Ret.algebraic, Cert.Common.attention_preserves, Cert.Att.algebraic,
  trivial, Cert.Kv.algebraic⟩

end Cert.Proof

end
